-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2, 512]⟩ ⟨2, ![64, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2x512 : Shape := ⟨2, ![2, 512]⟩
abbrev S32x2x512 : Shape := ⟨3, ![32, 2, 512]⟩
abbrev S31 : Shape := ⟨1, ![31]⟩
abbrev S32 : Shape := ⟨1, ![32]⟩
abbrev S_ : Shape := ⟨0, ![]⟩
abbrev S64x1024 : Shape := ⟨2, ![64, 1024]⟩
abbrev S1 : Shape := ⟨1, ![1]⟩
abbrev S1x2x512 : Shape := ⟨3, ![1, 2, 512]⟩
abbrev S8x2x512 : Shape := ⟨3, ![8, 2, 512]⟩
abbrev S16x512 : Shape := ⟨2, ![16, 512]⟩
abbrev S16x1024 : Shape := ⟨2, ![16, 1024]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S2x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S2x512, .f32⟩
  | .local _ .vmem, ⟨8, _⟩ => ⟨S32x2x512, .bf16⟩
  | .local _ .vmem, ⟨9, _⟩ => ⟨S32x2x512, .bf16⟩
  | .local _ .vmem, ⟨10, _⟩ => ⟨S2x512, .bf16⟩
  | .local _ .vmem, ⟨11, _⟩ => ⟨S32x2x512, .bf16⟩
  | _, _ => ⟨S64x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_290 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.addi v2 c1_i32_290
  let c32_i32_291 : BitVec 32 := 32#32
  let c0_i32_292 : BitVec 32 := 0#32
  let v424 : BitVec 1 := Scalar.cmpi .eq c32_i32_291 c0_i32_292
  let c1_i32_293 : BitVec 32 := 1#32
  let v425 : BitVec 32 := Scalar.select v424 c1_i32_293 c32_i32_291
  let v426 : BitVec 32 := Scalar.remsi v423 v425
  let c0_i32_295 : BitVec 32 := 0#32
  let v428 : BitVec 1 := Scalar.cmpi .slt v426 c0_i32_295
  let c0_i32_296 : BitVec 32 := 0#32
  let v429 : BitVec 1 := Scalar.cmpi .slt v425 c0_i32_296
  let v430 : BitVec 1 := Scalar.xori v428 v429
  let c0_i32_294 : BitVec 32 := 0#32
  let v427 : BitVec 1 := Scalar.cmpi .ne v426 c0_i32_294
  let v431 : BitVec 1 := Scalar.andi v430 v427
  let v432 : BitVec 32 := Scalar.addi v426 v425
  let v433 : BitVec 32 := Scalar.select v431 v432 v426
  let c0_i32_304 : BitVec 32 := 0#32
  let c0_i32_305 : BitVec 32 := 0#32
  ![v433.toNat, 0, 0]
def k0_dev32 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_290 : BitVec 32 := 1#32
  let v423 : BitVec 32 := Scalar.addi v2 c1_i32_290
  let c32_i32_291 : BitVec 32 := 32#32
  let c0_i32_292 : BitVec 32 := 0#32
  let v424 : BitVec 1 := Scalar.cmpi .eq c32_i32_291 c0_i32_292
  let c1_i32_293 : BitVec 32 := 1#32
  let v425 : BitVec 32 := Scalar.select v424 c1_i32_293 c32_i32_291
  let v426 : BitVec 32 := Scalar.remsi v423 v425
  let c0_i32_295 : BitVec 32 := 0#32
  let v428 : BitVec 1 := Scalar.cmpi .slt v426 c0_i32_295
  let c0_i32_296 : BitVec 32 := 0#32
  let v429 : BitVec 1 := Scalar.cmpi .slt v425 c0_i32_296
  let v430 : BitVec 1 := Scalar.xori v428 v429
  let c0_i32_294 : BitVec 32 := 0#32
  let v427 : BitVec 1 := Scalar.cmpi .ne v426 c0_i32_294
  let v431 : BitVec 1 := Scalar.andi v430 v427
  let v432 : BitVec 32 := Scalar.addi v426 v425
  let v433 : BitVec 32 := Scalar.select v431 v432 v426
  let c1_i32_300 : BitVec 32 := 1#32
  let v434 : BitVec 32 := Scalar.muli v433 c1_i32_300
  let v435 : BitVec 32 := Scalar.addi c0_i32_301 v434
  v435.toNat
def k0_dev33 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_306 : BitVec 32 := 2#32
  let v444 : BitVec 32 := Scalar.addi v2 c2_i32_306
  let c32_i32_307 : BitVec 32 := 32#32
  let c0_i32_308 : BitVec 32 := 0#32
  let v445 : BitVec 1 := Scalar.cmpi .eq c32_i32_307 c0_i32_308
  let c1_i32_309 : BitVec 32 := 1#32
  let v446 : BitVec 32 := Scalar.select v445 c1_i32_309 c32_i32_307
  let v447 : BitVec 32 := Scalar.remsi v444 v446
  let c0_i32_311 : BitVec 32 := 0#32
  let v449 : BitVec 1 := Scalar.cmpi .slt v447 c0_i32_311
  let c0_i32_312 : BitVec 32 := 0#32
  let v450 : BitVec 1 := Scalar.cmpi .slt v446 c0_i32_312
  let v451 : BitVec 1 := Scalar.xori v449 v450
  let c0_i32_310 : BitVec 32 := 0#32
  let v448 : BitVec 1 := Scalar.cmpi .ne v447 c0_i32_310
  let v452 : BitVec 1 := Scalar.andi v451 v448
  let v453 : BitVec 32 := Scalar.addi v447 v446
  let v454 : BitVec 32 := Scalar.select v452 v453 v447
  let c1_i32_316 : BitVec 32 := 1#32
  let v455 : BitVec 32 := Scalar.muli v454 c1_i32_316
  let v456 : BitVec 32 := Scalar.addi c0_i32_317 v455
  v456.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_322 : BitVec 32 := 3#32
  let v465 : BitVec 32 := Scalar.addi v2 c3_i32_322
  let c32_i32_323 : BitVec 32 := 32#32
  let c0_i32_324 : BitVec 32 := 0#32
  let v466 : BitVec 1 := Scalar.cmpi .eq c32_i32_323 c0_i32_324
  let c1_i32_325 : BitVec 32 := 1#32
  let v467 : BitVec 32 := Scalar.select v466 c1_i32_325 c32_i32_323
  let v468 : BitVec 32 := Scalar.remsi v465 v467
  let c0_i32_327 : BitVec 32 := 0#32
  let v470 : BitVec 1 := Scalar.cmpi .slt v468 c0_i32_327
  let c0_i32_328 : BitVec 32 := 0#32
  let v471 : BitVec 1 := Scalar.cmpi .slt v467 c0_i32_328
  let v472 : BitVec 1 := Scalar.xori v470 v471
  let c0_i32_326 : BitVec 32 := 0#32
  let v469 : BitVec 1 := Scalar.cmpi .ne v468 c0_i32_326
  let v473 : BitVec 1 := Scalar.andi v472 v469
  let v474 : BitVec 32 := Scalar.addi v468 v467
  let v475 : BitVec 32 := Scalar.select v473 v474 v468
  let c1_i32_332 : BitVec 32 := 1#32
  let v476 : BitVec 32 := Scalar.muli v475 c1_i32_332
  let v477 : BitVec 32 := Scalar.addi c0_i32_333 v476
  v477.toNat
def k0_dev35 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_338 : BitVec 32 := 4#32
  let v486 : BitVec 32 := Scalar.addi v2 c4_i32_338
  let c32_i32_339 : BitVec 32 := 32#32
  let c0_i32_340 : BitVec 32 := 0#32
  let v487 : BitVec 1 := Scalar.cmpi .eq c32_i32_339 c0_i32_340
  let c1_i32_341 : BitVec 32 := 1#32
  let v488 : BitVec 32 := Scalar.select v487 c1_i32_341 c32_i32_339
  let v489 : BitVec 32 := Scalar.remsi v486 v488
  let c0_i32_343 : BitVec 32 := 0#32
  let v491 : BitVec 1 := Scalar.cmpi .slt v489 c0_i32_343
  let c0_i32_344 : BitVec 32 := 0#32
  let v492 : BitVec 1 := Scalar.cmpi .slt v488 c0_i32_344
  let v493 : BitVec 1 := Scalar.xori v491 v492
  let c0_i32_342 : BitVec 32 := 0#32
  let v490 : BitVec 1 := Scalar.cmpi .ne v489 c0_i32_342
  let v494 : BitVec 1 := Scalar.andi v493 v490
  let v495 : BitVec 32 := Scalar.addi v489 v488
  let v496 : BitVec 32 := Scalar.select v494 v495 v489
  let c1_i32_348 : BitVec 32 := 1#32
  let v497 : BitVec 32 := Scalar.muli v496 c1_i32_348
  let v498 : BitVec 32 := Scalar.addi c0_i32_349 v497
  v498.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_354 : BitVec 32 := 5#32
  let v507 : BitVec 32 := Scalar.addi v2 c5_i32_354
  let c32_i32_355 : BitVec 32 := 32#32
  let c0_i32_356 : BitVec 32 := 0#32
  let v508 : BitVec 1 := Scalar.cmpi .eq c32_i32_355 c0_i32_356
  let c1_i32_357 : BitVec 32 := 1#32
  let v509 : BitVec 32 := Scalar.select v508 c1_i32_357 c32_i32_355
  let v510 : BitVec 32 := Scalar.remsi v507 v509
  let c0_i32_359 : BitVec 32 := 0#32
  let v512 : BitVec 1 := Scalar.cmpi .slt v510 c0_i32_359
  let c0_i32_360 : BitVec 32 := 0#32
  let v513 : BitVec 1 := Scalar.cmpi .slt v509 c0_i32_360
  let v514 : BitVec 1 := Scalar.xori v512 v513
  let c0_i32_358 : BitVec 32 := 0#32
  let v511 : BitVec 1 := Scalar.cmpi .ne v510 c0_i32_358
  let v515 : BitVec 1 := Scalar.andi v514 v511
  let v516 : BitVec 32 := Scalar.addi v510 v509
  let v517 : BitVec 32 := Scalar.select v515 v516 v510
  let c1_i32_364 : BitVec 32 := 1#32
  let v518 : BitVec 32 := Scalar.muli v517 c1_i32_364
  let v519 : BitVec 32 := Scalar.addi c0_i32_365 v518
  v519.toNat
def k0_dev37 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_370 : BitVec 32 := 6#32
  let v528 : BitVec 32 := Scalar.addi v2 c6_i32_370
  let c32_i32_371 : BitVec 32 := 32#32
  let c0_i32_372 : BitVec 32 := 0#32
  let v529 : BitVec 1 := Scalar.cmpi .eq c32_i32_371 c0_i32_372
  let c1_i32_373 : BitVec 32 := 1#32
  let v530 : BitVec 32 := Scalar.select v529 c1_i32_373 c32_i32_371
  let v531 : BitVec 32 := Scalar.remsi v528 v530
  let c0_i32_375 : BitVec 32 := 0#32
  let v533 : BitVec 1 := Scalar.cmpi .slt v531 c0_i32_375
  let c0_i32_376 : BitVec 32 := 0#32
  let v534 : BitVec 1 := Scalar.cmpi .slt v530 c0_i32_376
  let v535 : BitVec 1 := Scalar.xori v533 v534
  let c0_i32_374 : BitVec 32 := 0#32
  let v532 : BitVec 1 := Scalar.cmpi .ne v531 c0_i32_374
  let v536 : BitVec 1 := Scalar.andi v535 v532
  let v537 : BitVec 32 := Scalar.addi v531 v530
  let v538 : BitVec 32 := Scalar.select v536 v537 v531
  let c1_i32_380 : BitVec 32 := 1#32
  let v539 : BitVec 32 := Scalar.muli v538 c1_i32_380
  let v540 : BitVec 32 := Scalar.addi c0_i32_381 v539
  v540.toNat
def k0_dev38 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_386 : BitVec 32 := 7#32
  let v549 : BitVec 32 := Scalar.addi v2 c7_i32_386
  let c32_i32_387 : BitVec 32 := 32#32
  let c0_i32_388 : BitVec 32 := 0#32
  let v550 : BitVec 1 := Scalar.cmpi .eq c32_i32_387 c0_i32_388
  let c1_i32_389 : BitVec 32 := 1#32
  let v551 : BitVec 32 := Scalar.select v550 c1_i32_389 c32_i32_387
  let v552 : BitVec 32 := Scalar.remsi v549 v551
  let c0_i32_391 : BitVec 32 := 0#32
  let v554 : BitVec 1 := Scalar.cmpi .slt v552 c0_i32_391
  let c0_i32_392 : BitVec 32 := 0#32
  let v555 : BitVec 1 := Scalar.cmpi .slt v551 c0_i32_392
  let v556 : BitVec 1 := Scalar.xori v554 v555
  let c0_i32_390 : BitVec 32 := 0#32
  let v553 : BitVec 1 := Scalar.cmpi .ne v552 c0_i32_390
  let v557 : BitVec 1 := Scalar.andi v556 v553
  let v558 : BitVec 32 := Scalar.addi v552 v551
  let v559 : BitVec 32 := Scalar.select v557 v558 v552
  let c1_i32_396 : BitVec 32 := 1#32
  let v560 : BitVec 32 := Scalar.muli v559 c1_i32_396
  let v561 : BitVec 32 := Scalar.addi c0_i32_397 v560
  v561.toNat
def k0_dev39 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_402 : BitVec 32 := 8#32
  let v570 : BitVec 32 := Scalar.addi v2 c8_i32_402
  let c32_i32_403 : BitVec 32 := 32#32
  let c0_i32_404 : BitVec 32 := 0#32
  let v571 : BitVec 1 := Scalar.cmpi .eq c32_i32_403 c0_i32_404
  let c1_i32_405 : BitVec 32 := 1#32
  let v572 : BitVec 32 := Scalar.select v571 c1_i32_405 c32_i32_403
  let v573 : BitVec 32 := Scalar.remsi v570 v572
  let c0_i32_407 : BitVec 32 := 0#32
  let v575 : BitVec 1 := Scalar.cmpi .slt v573 c0_i32_407
  let c0_i32_408 : BitVec 32 := 0#32
  let v576 : BitVec 1 := Scalar.cmpi .slt v572 c0_i32_408
  let v577 : BitVec 1 := Scalar.xori v575 v576
  let c0_i32_406 : BitVec 32 := 0#32
  let v574 : BitVec 1 := Scalar.cmpi .ne v573 c0_i32_406
  let v578 : BitVec 1 := Scalar.andi v577 v574
  let v579 : BitVec 32 := Scalar.addi v573 v572
  let v580 : BitVec 32 := Scalar.select v578 v579 v573
  let c1_i32_412 : BitVec 32 := 1#32
  let v581 : BitVec 32 := Scalar.muli v580 c1_i32_412
  let v582 : BitVec 32 := Scalar.addi c0_i32_413 v581
  v582.toNat
def k0_dev40 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_418 : BitVec 32 := 9#32
  let v591 : BitVec 32 := Scalar.addi v2 c9_i32_418
  let c32_i32_419 : BitVec 32 := 32#32
  let c0_i32_420 : BitVec 32 := 0#32
  let v592 : BitVec 1 := Scalar.cmpi .eq c32_i32_419 c0_i32_420
  let c1_i32_421 : BitVec 32 := 1#32
  let v593 : BitVec 32 := Scalar.select v592 c1_i32_421 c32_i32_419
  let v594 : BitVec 32 := Scalar.remsi v591 v593
  let c0_i32_423 : BitVec 32 := 0#32
  let v596 : BitVec 1 := Scalar.cmpi .slt v594 c0_i32_423
  let c0_i32_424 : BitVec 32 := 0#32
  let v597 : BitVec 1 := Scalar.cmpi .slt v593 c0_i32_424
  let v598 : BitVec 1 := Scalar.xori v596 v597
  let c0_i32_422 : BitVec 32 := 0#32
  let v595 : BitVec 1 := Scalar.cmpi .ne v594 c0_i32_422
  let v599 : BitVec 1 := Scalar.andi v598 v595
  let v600 : BitVec 32 := Scalar.addi v594 v593
  let v601 : BitVec 32 := Scalar.select v599 v600 v594
  let c1_i32_428 : BitVec 32 := 1#32
  let v602 : BitVec 32 := Scalar.muli v601 c1_i32_428
  let v603 : BitVec 32 := Scalar.addi c0_i32_429 v602
  v603.toNat
def k0_dev41 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_434 : BitVec 32 := 10#32
  let v612 : BitVec 32 := Scalar.addi v2 c10_i32_434
  let c32_i32_435 : BitVec 32 := 32#32
  let c0_i32_436 : BitVec 32 := 0#32
  let v613 : BitVec 1 := Scalar.cmpi .eq c32_i32_435 c0_i32_436
  let c1_i32_437 : BitVec 32 := 1#32
  let v614 : BitVec 32 := Scalar.select v613 c1_i32_437 c32_i32_435
  let v615 : BitVec 32 := Scalar.remsi v612 v614
  let c0_i32_439 : BitVec 32 := 0#32
  let v617 : BitVec 1 := Scalar.cmpi .slt v615 c0_i32_439
  let c0_i32_440 : BitVec 32 := 0#32
  let v618 : BitVec 1 := Scalar.cmpi .slt v614 c0_i32_440
  let v619 : BitVec 1 := Scalar.xori v617 v618
  let c0_i32_438 : BitVec 32 := 0#32
  let v616 : BitVec 1 := Scalar.cmpi .ne v615 c0_i32_438
  let v620 : BitVec 1 := Scalar.andi v619 v616
  let v621 : BitVec 32 := Scalar.addi v615 v614
  let v622 : BitVec 32 := Scalar.select v620 v621 v615
  let c1_i32_444 : BitVec 32 := 1#32
  let v623 : BitVec 32 := Scalar.muli v622 c1_i32_444
  let v624 : BitVec 32 := Scalar.addi c0_i32_445 v623
  v624.toNat
def k0_dev42 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_450 : BitVec 32 := 11#32
  let v633 : BitVec 32 := Scalar.addi v2 c11_i32_450
  let c32_i32_451 : BitVec 32 := 32#32
  let c0_i32_452 : BitVec 32 := 0#32
  let v634 : BitVec 1 := Scalar.cmpi .eq c32_i32_451 c0_i32_452
  let c1_i32_453 : BitVec 32 := 1#32
  let v635 : BitVec 32 := Scalar.select v634 c1_i32_453 c32_i32_451
  let v636 : BitVec 32 := Scalar.remsi v633 v635
  let c0_i32_455 : BitVec 32 := 0#32
  let v638 : BitVec 1 := Scalar.cmpi .slt v636 c0_i32_455
  let c0_i32_456 : BitVec 32 := 0#32
  let v639 : BitVec 1 := Scalar.cmpi .slt v635 c0_i32_456
  let v640 : BitVec 1 := Scalar.xori v638 v639
  let c0_i32_454 : BitVec 32 := 0#32
  let v637 : BitVec 1 := Scalar.cmpi .ne v636 c0_i32_454
  let v641 : BitVec 1 := Scalar.andi v640 v637
  let v642 : BitVec 32 := Scalar.addi v636 v635
  let v643 : BitVec 32 := Scalar.select v641 v642 v636
  let c1_i32_460 : BitVec 32 := 1#32
  let v644 : BitVec 32 := Scalar.muli v643 c1_i32_460
  let v645 : BitVec 32 := Scalar.addi c0_i32_461 v644
  v645.toNat
def k0_dev43 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_466 : BitVec 32 := 12#32
  let v654 : BitVec 32 := Scalar.addi v2 c12_i32_466
  let c32_i32_467 : BitVec 32 := 32#32
  let c0_i32_468 : BitVec 32 := 0#32
  let v655 : BitVec 1 := Scalar.cmpi .eq c32_i32_467 c0_i32_468
  let c1_i32_469 : BitVec 32 := 1#32
  let v656 : BitVec 32 := Scalar.select v655 c1_i32_469 c32_i32_467
  let v657 : BitVec 32 := Scalar.remsi v654 v656
  let c0_i32_471 : BitVec 32 := 0#32
  let v659 : BitVec 1 := Scalar.cmpi .slt v657 c0_i32_471
  let c0_i32_472 : BitVec 32 := 0#32
  let v660 : BitVec 1 := Scalar.cmpi .slt v656 c0_i32_472
  let v661 : BitVec 1 := Scalar.xori v659 v660
  let c0_i32_470 : BitVec 32 := 0#32
  let v658 : BitVec 1 := Scalar.cmpi .ne v657 c0_i32_470
  let v662 : BitVec 1 := Scalar.andi v661 v658
  let v663 : BitVec 32 := Scalar.addi v657 v656
  let v664 : BitVec 32 := Scalar.select v662 v663 v657
  let c1_i32_476 : BitVec 32 := 1#32
  let v665 : BitVec 32 := Scalar.muli v664 c1_i32_476
  let v666 : BitVec 32 := Scalar.addi c0_i32_477 v665
  v666.toNat
def k0_dev44 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_482 : BitVec 32 := 13#32
  let v675 : BitVec 32 := Scalar.addi v2 c13_i32_482
  let c32_i32_483 : BitVec 32 := 32#32
  let c0_i32_484 : BitVec 32 := 0#32
  let v676 : BitVec 1 := Scalar.cmpi .eq c32_i32_483 c0_i32_484
  let c1_i32_485 : BitVec 32 := 1#32
  let v677 : BitVec 32 := Scalar.select v676 c1_i32_485 c32_i32_483
  let v678 : BitVec 32 := Scalar.remsi v675 v677
  let c0_i32_487 : BitVec 32 := 0#32
  let v680 : BitVec 1 := Scalar.cmpi .slt v678 c0_i32_487
  let c0_i32_488 : BitVec 32 := 0#32
  let v681 : BitVec 1 := Scalar.cmpi .slt v677 c0_i32_488
  let v682 : BitVec 1 := Scalar.xori v680 v681
  let c0_i32_486 : BitVec 32 := 0#32
  let v679 : BitVec 1 := Scalar.cmpi .ne v678 c0_i32_486
  let v683 : BitVec 1 := Scalar.andi v682 v679
  let v684 : BitVec 32 := Scalar.addi v678 v677
  let v685 : BitVec 32 := Scalar.select v683 v684 v678
  let c1_i32_492 : BitVec 32 := 1#32
  let v686 : BitVec 32 := Scalar.muli v685 c1_i32_492
  let v687 : BitVec 32 := Scalar.addi c0_i32_493 v686
  v687.toNat
def k0_dev45 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_498 : BitVec 32 := 14#32
  let v696 : BitVec 32 := Scalar.addi v2 c14_i32_498
  let c32_i32_499 : BitVec 32 := 32#32
  let c0_i32_500 : BitVec 32 := 0#32
  let v697 : BitVec 1 := Scalar.cmpi .eq c32_i32_499 c0_i32_500
  let c1_i32_501 : BitVec 32 := 1#32
  let v698 : BitVec 32 := Scalar.select v697 c1_i32_501 c32_i32_499
  let v699 : BitVec 32 := Scalar.remsi v696 v698
  let c0_i32_503 : BitVec 32 := 0#32
  let v701 : BitVec 1 := Scalar.cmpi .slt v699 c0_i32_503
  let c0_i32_504 : BitVec 32 := 0#32
  let v702 : BitVec 1 := Scalar.cmpi .slt v698 c0_i32_504
  let v703 : BitVec 1 := Scalar.xori v701 v702
  let c0_i32_502 : BitVec 32 := 0#32
  let v700 : BitVec 1 := Scalar.cmpi .ne v699 c0_i32_502
  let v704 : BitVec 1 := Scalar.andi v703 v700
  let v705 : BitVec 32 := Scalar.addi v699 v698
  let v706 : BitVec 32 := Scalar.select v704 v705 v699
  let c1_i32_508 : BitVec 32 := 1#32
  let v707 : BitVec 32 := Scalar.muli v706 c1_i32_508
  let v708 : BitVec 32 := Scalar.addi c0_i32_509 v707
  v708.toNat
def k0_dev46 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_514 : BitVec 32 := 15#32
  let v717 : BitVec 32 := Scalar.addi v2 c15_i32_514
  let c32_i32_515 : BitVec 32 := 32#32
  let c0_i32_516 : BitVec 32 := 0#32
  let v718 : BitVec 1 := Scalar.cmpi .eq c32_i32_515 c0_i32_516
  let c1_i32_517 : BitVec 32 := 1#32
  let v719 : BitVec 32 := Scalar.select v718 c1_i32_517 c32_i32_515
  let v720 : BitVec 32 := Scalar.remsi v717 v719
  let c0_i32_519 : BitVec 32 := 0#32
  let v722 : BitVec 1 := Scalar.cmpi .slt v720 c0_i32_519
  let c0_i32_520 : BitVec 32 := 0#32
  let v723 : BitVec 1 := Scalar.cmpi .slt v719 c0_i32_520
  let v724 : BitVec 1 := Scalar.xori v722 v723
  let c0_i32_518 : BitVec 32 := 0#32
  let v721 : BitVec 1 := Scalar.cmpi .ne v720 c0_i32_518
  let v725 : BitVec 1 := Scalar.andi v724 v721
  let v726 : BitVec 32 := Scalar.addi v720 v719
  let v727 : BitVec 32 := Scalar.select v725 v726 v720
  let c1_i32_524 : BitVec 32 := 1#32
  let v728 : BitVec 32 := Scalar.muli v727 c1_i32_524
  let v729 : BitVec 32 := Scalar.addi c0_i32_525 v728
  v729.toNat
def k0_dev47 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_530 : BitVec 32 := 16#32
  let v738 : BitVec 32 := Scalar.addi v2 c16_i32_530
  let c32_i32_531 : BitVec 32 := 32#32
  let c0_i32_532 : BitVec 32 := 0#32
  let v739 : BitVec 1 := Scalar.cmpi .eq c32_i32_531 c0_i32_532
  let c1_i32_533 : BitVec 32 := 1#32
  let v740 : BitVec 32 := Scalar.select v739 c1_i32_533 c32_i32_531
  let v741 : BitVec 32 := Scalar.remsi v738 v740
  let c0_i32_535 : BitVec 32 := 0#32
  let v743 : BitVec 1 := Scalar.cmpi .slt v741 c0_i32_535
  let c0_i32_536 : BitVec 32 := 0#32
  let v744 : BitVec 1 := Scalar.cmpi .slt v740 c0_i32_536
  let v745 : BitVec 1 := Scalar.xori v743 v744
  let c0_i32_534 : BitVec 32 := 0#32
  let v742 : BitVec 1 := Scalar.cmpi .ne v741 c0_i32_534
  let v746 : BitVec 1 := Scalar.andi v745 v742
  let v747 : BitVec 32 := Scalar.addi v741 v740
  let v748 : BitVec 32 := Scalar.select v746 v747 v741
  let c1_i32_540 : BitVec 32 := 1#32
  let v749 : BitVec 32 := Scalar.muli v748 c1_i32_540
  let v750 : BitVec 32 := Scalar.addi c0_i32_541 v749
  v750.toNat
def k0_dev48 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_546 : BitVec 32 := 17#32
  let v759 : BitVec 32 := Scalar.addi v2 c17_i32_546
  let c32_i32_547 : BitVec 32 := 32#32
  let c0_i32_548 : BitVec 32 := 0#32
  let v760 : BitVec 1 := Scalar.cmpi .eq c32_i32_547 c0_i32_548
  let c1_i32_549 : BitVec 32 := 1#32
  let v761 : BitVec 32 := Scalar.select v760 c1_i32_549 c32_i32_547
  let v762 : BitVec 32 := Scalar.remsi v759 v761
  let c0_i32_551 : BitVec 32 := 0#32
  let v764 : BitVec 1 := Scalar.cmpi .slt v762 c0_i32_551
  let c0_i32_552 : BitVec 32 := 0#32
  let v765 : BitVec 1 := Scalar.cmpi .slt v761 c0_i32_552
  let v766 : BitVec 1 := Scalar.xori v764 v765
  let c0_i32_550 : BitVec 32 := 0#32
  let v763 : BitVec 1 := Scalar.cmpi .ne v762 c0_i32_550
  let v767 : BitVec 1 := Scalar.andi v766 v763
  let v768 : BitVec 32 := Scalar.addi v762 v761
  let v769 : BitVec 32 := Scalar.select v767 v768 v762
  let c1_i32_556 : BitVec 32 := 1#32
  let v770 : BitVec 32 := Scalar.muli v769 c1_i32_556
  let v771 : BitVec 32 := Scalar.addi c0_i32_557 v770
  v771.toNat
def k0_dev49 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_562 : BitVec 32 := 18#32
  let v780 : BitVec 32 := Scalar.addi v2 c18_i32_562
  let c32_i32_563 : BitVec 32 := 32#32
  let c0_i32_564 : BitVec 32 := 0#32
  let v781 : BitVec 1 := Scalar.cmpi .eq c32_i32_563 c0_i32_564
  let c1_i32_565 : BitVec 32 := 1#32
  let v782 : BitVec 32 := Scalar.select v781 c1_i32_565 c32_i32_563
  let v783 : BitVec 32 := Scalar.remsi v780 v782
  let c0_i32_567 : BitVec 32 := 0#32
  let v785 : BitVec 1 := Scalar.cmpi .slt v783 c0_i32_567
  let c0_i32_568 : BitVec 32 := 0#32
  let v786 : BitVec 1 := Scalar.cmpi .slt v782 c0_i32_568
  let v787 : BitVec 1 := Scalar.xori v785 v786
  let c0_i32_566 : BitVec 32 := 0#32
  let v784 : BitVec 1 := Scalar.cmpi .ne v783 c0_i32_566
  let v788 : BitVec 1 := Scalar.andi v787 v784
  let v789 : BitVec 32 := Scalar.addi v783 v782
  let v790 : BitVec 32 := Scalar.select v788 v789 v783
  let c1_i32_572 : BitVec 32 := 1#32
  let v791 : BitVec 32 := Scalar.muli v790 c1_i32_572
  let v792 : BitVec 32 := Scalar.addi c0_i32_573 v791
  v792.toNat
def k0_dev50 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_578 : BitVec 32 := 19#32
  let v801 : BitVec 32 := Scalar.addi v2 c19_i32_578
  let c32_i32_579 : BitVec 32 := 32#32
  let c0_i32_580 : BitVec 32 := 0#32
  let v802 : BitVec 1 := Scalar.cmpi .eq c32_i32_579 c0_i32_580
  let c1_i32_581 : BitVec 32 := 1#32
  let v803 : BitVec 32 := Scalar.select v802 c1_i32_581 c32_i32_579
  let v804 : BitVec 32 := Scalar.remsi v801 v803
  let c0_i32_583 : BitVec 32 := 0#32
  let v806 : BitVec 1 := Scalar.cmpi .slt v804 c0_i32_583
  let c0_i32_584 : BitVec 32 := 0#32
  let v807 : BitVec 1 := Scalar.cmpi .slt v803 c0_i32_584
  let v808 : BitVec 1 := Scalar.xori v806 v807
  let c0_i32_582 : BitVec 32 := 0#32
  let v805 : BitVec 1 := Scalar.cmpi .ne v804 c0_i32_582
  let v809 : BitVec 1 := Scalar.andi v808 v805
  let v810 : BitVec 32 := Scalar.addi v804 v803
  let v811 : BitVec 32 := Scalar.select v809 v810 v804
  let c1_i32_588 : BitVec 32 := 1#32
  let v812 : BitVec 32 := Scalar.muli v811 c1_i32_588
  let v813 : BitVec 32 := Scalar.addi c0_i32_589 v812
  v813.toNat
def k0_dev51 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_594 : BitVec 32 := 20#32
  let v822 : BitVec 32 := Scalar.addi v2 c20_i32_594
  let c32_i32_595 : BitVec 32 := 32#32
  let c0_i32_596 : BitVec 32 := 0#32
  let v823 : BitVec 1 := Scalar.cmpi .eq c32_i32_595 c0_i32_596
  let c1_i32_597 : BitVec 32 := 1#32
  let v824 : BitVec 32 := Scalar.select v823 c1_i32_597 c32_i32_595
  let v825 : BitVec 32 := Scalar.remsi v822 v824
  let c0_i32_599 : BitVec 32 := 0#32
  let v827 : BitVec 1 := Scalar.cmpi .slt v825 c0_i32_599
  let c0_i32_600 : BitVec 32 := 0#32
  let v828 : BitVec 1 := Scalar.cmpi .slt v824 c0_i32_600
  let v829 : BitVec 1 := Scalar.xori v827 v828
  let c0_i32_598 : BitVec 32 := 0#32
  let v826 : BitVec 1 := Scalar.cmpi .ne v825 c0_i32_598
  let v830 : BitVec 1 := Scalar.andi v829 v826
  let v831 : BitVec 32 := Scalar.addi v825 v824
  let v832 : BitVec 32 := Scalar.select v830 v831 v825
  let c1_i32_604 : BitVec 32 := 1#32
  let v833 : BitVec 32 := Scalar.muli v832 c1_i32_604
  let v834 : BitVec 32 := Scalar.addi c0_i32_605 v833
  v834.toNat
def k0_dev52 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_610 : BitVec 32 := 21#32
  let v843 : BitVec 32 := Scalar.addi v2 c21_i32_610
  let c32_i32_611 : BitVec 32 := 32#32
  let c0_i32_612 : BitVec 32 := 0#32
  let v844 : BitVec 1 := Scalar.cmpi .eq c32_i32_611 c0_i32_612
  let c1_i32_613 : BitVec 32 := 1#32
  let v845 : BitVec 32 := Scalar.select v844 c1_i32_613 c32_i32_611
  let v846 : BitVec 32 := Scalar.remsi v843 v845
  let c0_i32_615 : BitVec 32 := 0#32
  let v848 : BitVec 1 := Scalar.cmpi .slt v846 c0_i32_615
  let c0_i32_616 : BitVec 32 := 0#32
  let v849 : BitVec 1 := Scalar.cmpi .slt v845 c0_i32_616
  let v850 : BitVec 1 := Scalar.xori v848 v849
  let c0_i32_614 : BitVec 32 := 0#32
  let v847 : BitVec 1 := Scalar.cmpi .ne v846 c0_i32_614
  let v851 : BitVec 1 := Scalar.andi v850 v847
  let v852 : BitVec 32 := Scalar.addi v846 v845
  let v853 : BitVec 32 := Scalar.select v851 v852 v846
  let c1_i32_620 : BitVec 32 := 1#32
  let v854 : BitVec 32 := Scalar.muli v853 c1_i32_620
  let v855 : BitVec 32 := Scalar.addi c0_i32_621 v854
  v855.toNat
def k0_dev53 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_626 : BitVec 32 := 22#32
  let v864 : BitVec 32 := Scalar.addi v2 c22_i32_626
  let c32_i32_627 : BitVec 32 := 32#32
  let c0_i32_628 : BitVec 32 := 0#32
  let v865 : BitVec 1 := Scalar.cmpi .eq c32_i32_627 c0_i32_628
  let c1_i32_629 : BitVec 32 := 1#32
  let v866 : BitVec 32 := Scalar.select v865 c1_i32_629 c32_i32_627
  let v867 : BitVec 32 := Scalar.remsi v864 v866
  let c0_i32_631 : BitVec 32 := 0#32
  let v869 : BitVec 1 := Scalar.cmpi .slt v867 c0_i32_631
  let c0_i32_632 : BitVec 32 := 0#32
  let v870 : BitVec 1 := Scalar.cmpi .slt v866 c0_i32_632
  let v871 : BitVec 1 := Scalar.xori v869 v870
  let c0_i32_630 : BitVec 32 := 0#32
  let v868 : BitVec 1 := Scalar.cmpi .ne v867 c0_i32_630
  let v872 : BitVec 1 := Scalar.andi v871 v868
  let v873 : BitVec 32 := Scalar.addi v867 v866
  let v874 : BitVec 32 := Scalar.select v872 v873 v867
  let c1_i32_636 : BitVec 32 := 1#32
  let v875 : BitVec 32 := Scalar.muli v874 c1_i32_636
  let v876 : BitVec 32 := Scalar.addi c0_i32_637 v875
  v876.toNat
def k0_dev54 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_642 : BitVec 32 := 23#32
  let v885 : BitVec 32 := Scalar.addi v2 c23_i32_642
  let c32_i32_643 : BitVec 32 := 32#32
  let c0_i32_644 : BitVec 32 := 0#32
  let v886 : BitVec 1 := Scalar.cmpi .eq c32_i32_643 c0_i32_644
  let c1_i32_645 : BitVec 32 := 1#32
  let v887 : BitVec 32 := Scalar.select v886 c1_i32_645 c32_i32_643
  let v888 : BitVec 32 := Scalar.remsi v885 v887
  let c0_i32_647 : BitVec 32 := 0#32
  let v890 : BitVec 1 := Scalar.cmpi .slt v888 c0_i32_647
  let c0_i32_648 : BitVec 32 := 0#32
  let v891 : BitVec 1 := Scalar.cmpi .slt v887 c0_i32_648
  let v892 : BitVec 1 := Scalar.xori v890 v891
  let c0_i32_646 : BitVec 32 := 0#32
  let v889 : BitVec 1 := Scalar.cmpi .ne v888 c0_i32_646
  let v893 : BitVec 1 := Scalar.andi v892 v889
  let v894 : BitVec 32 := Scalar.addi v888 v887
  let v895 : BitVec 32 := Scalar.select v893 v894 v888
  let c1_i32_652 : BitVec 32 := 1#32
  let v896 : BitVec 32 := Scalar.muli v895 c1_i32_652
  let v897 : BitVec 32 := Scalar.addi c0_i32_653 v896
  v897.toNat
def k0_dev55 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_658 : BitVec 32 := 24#32
  let v906 : BitVec 32 := Scalar.addi v2 c24_i32_658
  let c32_i32_659 : BitVec 32 := 32#32
  let c0_i32_660 : BitVec 32 := 0#32
  let v907 : BitVec 1 := Scalar.cmpi .eq c32_i32_659 c0_i32_660
  let c1_i32_661 : BitVec 32 := 1#32
  let v908 : BitVec 32 := Scalar.select v907 c1_i32_661 c32_i32_659
  let v909 : BitVec 32 := Scalar.remsi v906 v908
  let c0_i32_663 : BitVec 32 := 0#32
  let v911 : BitVec 1 := Scalar.cmpi .slt v909 c0_i32_663
  let c0_i32_664 : BitVec 32 := 0#32
  let v912 : BitVec 1 := Scalar.cmpi .slt v908 c0_i32_664
  let v913 : BitVec 1 := Scalar.xori v911 v912
  let c0_i32_662 : BitVec 32 := 0#32
  let v910 : BitVec 1 := Scalar.cmpi .ne v909 c0_i32_662
  let v914 : BitVec 1 := Scalar.andi v913 v910
  let v915 : BitVec 32 := Scalar.addi v909 v908
  let v916 : BitVec 32 := Scalar.select v914 v915 v909
  let c1_i32_668 : BitVec 32 := 1#32
  let v917 : BitVec 32 := Scalar.muli v916 c1_i32_668
  let v918 : BitVec 32 := Scalar.addi c0_i32_669 v917
  v918.toNat
def k0_dev56 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_674 : BitVec 32 := 25#32
  let v927 : BitVec 32 := Scalar.addi v2 c25_i32_674
  let c32_i32_675 : BitVec 32 := 32#32
  let c0_i32_676 : BitVec 32 := 0#32
  let v928 : BitVec 1 := Scalar.cmpi .eq c32_i32_675 c0_i32_676
  let c1_i32_677 : BitVec 32 := 1#32
  let v929 : BitVec 32 := Scalar.select v928 c1_i32_677 c32_i32_675
  let v930 : BitVec 32 := Scalar.remsi v927 v929
  let c0_i32_679 : BitVec 32 := 0#32
  let v932 : BitVec 1 := Scalar.cmpi .slt v930 c0_i32_679
  let c0_i32_680 : BitVec 32 := 0#32
  let v933 : BitVec 1 := Scalar.cmpi .slt v929 c0_i32_680
  let v934 : BitVec 1 := Scalar.xori v932 v933
  let c0_i32_678 : BitVec 32 := 0#32
  let v931 : BitVec 1 := Scalar.cmpi .ne v930 c0_i32_678
  let v935 : BitVec 1 := Scalar.andi v934 v931
  let v936 : BitVec 32 := Scalar.addi v930 v929
  let v937 : BitVec 32 := Scalar.select v935 v936 v930
  let c1_i32_684 : BitVec 32 := 1#32
  let v938 : BitVec 32 := Scalar.muli v937 c1_i32_684
  let v939 : BitVec 32 := Scalar.addi c0_i32_685 v938
  v939.toNat
def k0_dev57 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_690 : BitVec 32 := 26#32
  let v948 : BitVec 32 := Scalar.addi v2 c26_i32_690
  let c32_i32_691 : BitVec 32 := 32#32
  let c0_i32_692 : BitVec 32 := 0#32
  let v949 : BitVec 1 := Scalar.cmpi .eq c32_i32_691 c0_i32_692
  let c1_i32_693 : BitVec 32 := 1#32
  let v950 : BitVec 32 := Scalar.select v949 c1_i32_693 c32_i32_691
  let v951 : BitVec 32 := Scalar.remsi v948 v950
  let c0_i32_695 : BitVec 32 := 0#32
  let v953 : BitVec 1 := Scalar.cmpi .slt v951 c0_i32_695
  let c0_i32_696 : BitVec 32 := 0#32
  let v954 : BitVec 1 := Scalar.cmpi .slt v950 c0_i32_696
  let v955 : BitVec 1 := Scalar.xori v953 v954
  let c0_i32_694 : BitVec 32 := 0#32
  let v952 : BitVec 1 := Scalar.cmpi .ne v951 c0_i32_694
  let v956 : BitVec 1 := Scalar.andi v955 v952
  let v957 : BitVec 32 := Scalar.addi v951 v950
  let v958 : BitVec 32 := Scalar.select v956 v957 v951
  let c1_i32_700 : BitVec 32 := 1#32
  let v959 : BitVec 32 := Scalar.muli v958 c1_i32_700
  let v960 : BitVec 32 := Scalar.addi c0_i32_701 v959
  v960.toNat
def k0_dev58 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_706 : BitVec 32 := 27#32
  let v969 : BitVec 32 := Scalar.addi v2 c27_i32_706
  let c32_i32_707 : BitVec 32 := 32#32
  let c0_i32_708 : BitVec 32 := 0#32
  let v970 : BitVec 1 := Scalar.cmpi .eq c32_i32_707 c0_i32_708
  let c1_i32_709 : BitVec 32 := 1#32
  let v971 : BitVec 32 := Scalar.select v970 c1_i32_709 c32_i32_707
  let v972 : BitVec 32 := Scalar.remsi v969 v971
  let c0_i32_711 : BitVec 32 := 0#32
  let v974 : BitVec 1 := Scalar.cmpi .slt v972 c0_i32_711
  let c0_i32_712 : BitVec 32 := 0#32
  let v975 : BitVec 1 := Scalar.cmpi .slt v971 c0_i32_712
  let v976 : BitVec 1 := Scalar.xori v974 v975
  let c0_i32_710 : BitVec 32 := 0#32
  let v973 : BitVec 1 := Scalar.cmpi .ne v972 c0_i32_710
  let v977 : BitVec 1 := Scalar.andi v976 v973
  let v978 : BitVec 32 := Scalar.addi v972 v971
  let v979 : BitVec 32 := Scalar.select v977 v978 v972
  let c1_i32_716 : BitVec 32 := 1#32
  let v980 : BitVec 32 := Scalar.muli v979 c1_i32_716
  let v981 : BitVec 32 := Scalar.addi c0_i32_717 v980
  v981.toNat
def k0_dev59 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_722 : BitVec 32 := 28#32
  let v990 : BitVec 32 := Scalar.addi v2 c28_i32_722
  let c32_i32_723 : BitVec 32 := 32#32
  let c0_i32_724 : BitVec 32 := 0#32
  let v991 : BitVec 1 := Scalar.cmpi .eq c32_i32_723 c0_i32_724
  let c1_i32_725 : BitVec 32 := 1#32
  let v992 : BitVec 32 := Scalar.select v991 c1_i32_725 c32_i32_723
  let v993 : BitVec 32 := Scalar.remsi v990 v992
  let c0_i32_727 : BitVec 32 := 0#32
  let v995 : BitVec 1 := Scalar.cmpi .slt v993 c0_i32_727
  let c0_i32_728 : BitVec 32 := 0#32
  let v996 : BitVec 1 := Scalar.cmpi .slt v992 c0_i32_728
  let v997 : BitVec 1 := Scalar.xori v995 v996
  let c0_i32_726 : BitVec 32 := 0#32
  let v994 : BitVec 1 := Scalar.cmpi .ne v993 c0_i32_726
  let v998 : BitVec 1 := Scalar.andi v997 v994
  let v999 : BitVec 32 := Scalar.addi v993 v992
  let v1000 : BitVec 32 := Scalar.select v998 v999 v993
  let c1_i32_732 : BitVec 32 := 1#32
  let v1001 : BitVec 32 := Scalar.muli v1000 c1_i32_732
  let v1002 : BitVec 32 := Scalar.addi c0_i32_733 v1001
  v1002.toNat
def k0_dev60 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_738 : BitVec 32 := 29#32
  let v1011 : BitVec 32 := Scalar.addi v2 c29_i32_738
  let c32_i32_739 : BitVec 32 := 32#32
  let c0_i32_740 : BitVec 32 := 0#32
  let v1012 : BitVec 1 := Scalar.cmpi .eq c32_i32_739 c0_i32_740
  let c1_i32_741 : BitVec 32 := 1#32
  let v1013 : BitVec 32 := Scalar.select v1012 c1_i32_741 c32_i32_739
  let v1014 : BitVec 32 := Scalar.remsi v1011 v1013
  let c0_i32_743 : BitVec 32 := 0#32
  let v1016 : BitVec 1 := Scalar.cmpi .slt v1014 c0_i32_743
  let c0_i32_744 : BitVec 32 := 0#32
  let v1017 : BitVec 1 := Scalar.cmpi .slt v1013 c0_i32_744
  let v1018 : BitVec 1 := Scalar.xori v1016 v1017
  let c0_i32_742 : BitVec 32 := 0#32
  let v1015 : BitVec 1 := Scalar.cmpi .ne v1014 c0_i32_742
  let v1019 : BitVec 1 := Scalar.andi v1018 v1015
  let v1020 : BitVec 32 := Scalar.addi v1014 v1013
  let v1021 : BitVec 32 := Scalar.select v1019 v1020 v1014
  let c1_i32_748 : BitVec 32 := 1#32
  let v1022 : BitVec 32 := Scalar.muli v1021 c1_i32_748
  let v1023 : BitVec 32 := Scalar.addi c0_i32_749 v1022
  v1023.toNat
def k0_dev61 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_754 : BitVec 32 := 30#32
  let v1032 : BitVec 32 := Scalar.addi v2 c30_i32_754
  let c32_i32_755 : BitVec 32 := 32#32
  let c0_i32_756 : BitVec 32 := 0#32
  let v1033 : BitVec 1 := Scalar.cmpi .eq c32_i32_755 c0_i32_756
  let c1_i32_757 : BitVec 32 := 1#32
  let v1034 : BitVec 32 := Scalar.select v1033 c1_i32_757 c32_i32_755
  let v1035 : BitVec 32 := Scalar.remsi v1032 v1034
  let c0_i32_759 : BitVec 32 := 0#32
  let v1037 : BitVec 1 := Scalar.cmpi .slt v1035 c0_i32_759
  let c0_i32_760 : BitVec 32 := 0#32
  let v1038 : BitVec 1 := Scalar.cmpi .slt v1034 c0_i32_760
  let v1039 : BitVec 1 := Scalar.xori v1037 v1038
  let c0_i32_758 : BitVec 32 := 0#32
  let v1036 : BitVec 1 := Scalar.cmpi .ne v1035 c0_i32_758
  let v1040 : BitVec 1 := Scalar.andi v1039 v1036
  let v1041 : BitVec 32 := Scalar.addi v1035 v1034
  let v1042 : BitVec 32 := Scalar.select v1040 v1041 v1035
  let c1_i32_764 : BitVec 32 := 1#32
  let v1043 : BitVec 32 := Scalar.muli v1042 c1_i32_764
  let v1044 : BitVec 32 := Scalar.addi c0_i32_765 v1043
  v1044.toNat
def k0_dev62 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_770 : BitVec 32 := 31#32
  let v1053 : BitVec 32 := Scalar.addi v2 c31_i32_770
  let c32_i32_771 : BitVec 32 := 32#32
  let c0_i32_772 : BitVec 32 := 0#32
  let v1054 : BitVec 1 := Scalar.cmpi .eq c32_i32_771 c0_i32_772
  let c1_i32_773 : BitVec 32 := 1#32
  let v1055 : BitVec 32 := Scalar.select v1054 c1_i32_773 c32_i32_771
  let v1056 : BitVec 32 := Scalar.remsi v1053 v1055
  let c0_i32_775 : BitVec 32 := 0#32
  let v1058 : BitVec 1 := Scalar.cmpi .slt v1056 c0_i32_775
  let c0_i32_776 : BitVec 32 := 0#32
  let v1059 : BitVec 1 := Scalar.cmpi .slt v1055 c0_i32_776
  let v1060 : BitVec 1 := Scalar.xori v1058 v1059
  let c0_i32_774 : BitVec 32 := 0#32
  let v1057 : BitVec 1 := Scalar.cmpi .ne v1056 c0_i32_774
  let v1061 : BitVec 1 := Scalar.andi v1060 v1057
  let v1062 : BitVec 32 := Scalar.addi v1056 v1055
  let v1063 : BitVec 32 := Scalar.select v1061 v1062 v1056
  let c1_i32_780 : BitVec 32 := 1#32
  let v1064 : BitVec 32 := Scalar.muli v1063 c1_i32_780
  let v1065 : BitVec 32 := Scalar.addi c0_i32_781 v1064
  v1065.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_789 : BitVec 32 := 0#32
  let c0_i32_790 : BitVec 32 := 0#32
  ![v2.toNat, 0, 0]
def k0_dev63 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1334 : BitVec 32 := 1#32
  let v1527 : BitVec 32 := Scalar.addi v2 c1_i32_1334
  let c32_i32_1335 : BitVec 32 := 32#32
  let c0_i32_1336 : BitVec 32 := 0#32
  let v1528 : BitVec 1 := Scalar.cmpi .eq c32_i32_1335 c0_i32_1336
  let c1_i32_1337 : BitVec 32 := 1#32
  let v1529 : BitVec 32 := Scalar.select v1528 c1_i32_1337 c32_i32_1335
  let v1530 : BitVec 32 := Scalar.remsi v1527 v1529
  let c0_i32_1339 : BitVec 32 := 0#32
  let v1532 : BitVec 1 := Scalar.cmpi .slt v1530 c0_i32_1339
  let c0_i32_1340 : BitVec 32 := 0#32
  let v1533 : BitVec 1 := Scalar.cmpi .slt v1529 c0_i32_1340
  let v1534 : BitVec 1 := Scalar.xori v1532 v1533
  let c0_i32_1338 : BitVec 32 := 0#32
  let v1531 : BitVec 1 := Scalar.cmpi .ne v1530 c0_i32_1338
  let v1535 : BitVec 1 := Scalar.andi v1534 v1531
  let v1536 : BitVec 32 := Scalar.addi v1530 v1529
  let v1537 : BitVec 32 := Scalar.select v1535 v1536 v1530
  let c1_i32_1344 : BitVec 32 := 1#32
  let v1538 : BitVec 32 := Scalar.muli v1537 c1_i32_1344
  let v1539 : BitVec 32 := Scalar.addi c0_i32_1345 v1538
  v1539.toNat
def k0_dev64 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1348 : BitVec 32 := 2#32
  let v1546 : BitVec 32 := Scalar.addi v2 c2_i32_1348
  let c32_i32_1349 : BitVec 32 := 32#32
  let c0_i32_1350 : BitVec 32 := 0#32
  let v1547 : BitVec 1 := Scalar.cmpi .eq c32_i32_1349 c0_i32_1350
  let c1_i32_1351 : BitVec 32 := 1#32
  let v1548 : BitVec 32 := Scalar.select v1547 c1_i32_1351 c32_i32_1349
  let v1549 : BitVec 32 := Scalar.remsi v1546 v1548
  let c0_i32_1353 : BitVec 32 := 0#32
  let v1551 : BitVec 1 := Scalar.cmpi .slt v1549 c0_i32_1353
  let c0_i32_1354 : BitVec 32 := 0#32
  let v1552 : BitVec 1 := Scalar.cmpi .slt v1548 c0_i32_1354
  let v1553 : BitVec 1 := Scalar.xori v1551 v1552
  let c0_i32_1352 : BitVec 32 := 0#32
  let v1550 : BitVec 1 := Scalar.cmpi .ne v1549 c0_i32_1352
  let v1554 : BitVec 1 := Scalar.andi v1553 v1550
  let v1555 : BitVec 32 := Scalar.addi v1549 v1548
  let v1556 : BitVec 32 := Scalar.select v1554 v1555 v1549
  let c1_i32_1358 : BitVec 32 := 1#32
  let v1557 : BitVec 32 := Scalar.muli v1556 c1_i32_1358
  let v1558 : BitVec 32 := Scalar.addi c0_i32_1359 v1557
  v1558.toNat
def k0_dev65 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1362 : BitVec 32 := 3#32
  let v1565 : BitVec 32 := Scalar.addi v2 c3_i32_1362
  let c32_i32_1363 : BitVec 32 := 32#32
  let c0_i32_1364 : BitVec 32 := 0#32
  let v1566 : BitVec 1 := Scalar.cmpi .eq c32_i32_1363 c0_i32_1364
  let c1_i32_1365 : BitVec 32 := 1#32
  let v1567 : BitVec 32 := Scalar.select v1566 c1_i32_1365 c32_i32_1363
  let v1568 : BitVec 32 := Scalar.remsi v1565 v1567
  let c0_i32_1367 : BitVec 32 := 0#32
  let v1570 : BitVec 1 := Scalar.cmpi .slt v1568 c0_i32_1367
  let c0_i32_1368 : BitVec 32 := 0#32
  let v1571 : BitVec 1 := Scalar.cmpi .slt v1567 c0_i32_1368
  let v1572 : BitVec 1 := Scalar.xori v1570 v1571
  let c0_i32_1366 : BitVec 32 := 0#32
  let v1569 : BitVec 1 := Scalar.cmpi .ne v1568 c0_i32_1366
  let v1573 : BitVec 1 := Scalar.andi v1572 v1569
  let v1574 : BitVec 32 := Scalar.addi v1568 v1567
  let v1575 : BitVec 32 := Scalar.select v1573 v1574 v1568
  let c1_i32_1372 : BitVec 32 := 1#32
  let v1576 : BitVec 32 := Scalar.muli v1575 c1_i32_1372
  let v1577 : BitVec 32 := Scalar.addi c0_i32_1373 v1576
  v1577.toNat
def k0_dev66 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1376 : BitVec 32 := 4#32
  let v1584 : BitVec 32 := Scalar.addi v2 c4_i32_1376
  let c32_i32_1377 : BitVec 32 := 32#32
  let c0_i32_1378 : BitVec 32 := 0#32
  let v1585 : BitVec 1 := Scalar.cmpi .eq c32_i32_1377 c0_i32_1378
  let c1_i32_1379 : BitVec 32 := 1#32
  let v1586 : BitVec 32 := Scalar.select v1585 c1_i32_1379 c32_i32_1377
  let v1587 : BitVec 32 := Scalar.remsi v1584 v1586
  let c0_i32_1381 : BitVec 32 := 0#32
  let v1589 : BitVec 1 := Scalar.cmpi .slt v1587 c0_i32_1381
  let c0_i32_1382 : BitVec 32 := 0#32
  let v1590 : BitVec 1 := Scalar.cmpi .slt v1586 c0_i32_1382
  let v1591 : BitVec 1 := Scalar.xori v1589 v1590
  let c0_i32_1380 : BitVec 32 := 0#32
  let v1588 : BitVec 1 := Scalar.cmpi .ne v1587 c0_i32_1380
  let v1592 : BitVec 1 := Scalar.andi v1591 v1588
  let v1593 : BitVec 32 := Scalar.addi v1587 v1586
  let v1594 : BitVec 32 := Scalar.select v1592 v1593 v1587
  let c1_i32_1386 : BitVec 32 := 1#32
  let v1595 : BitVec 32 := Scalar.muli v1594 c1_i32_1386
  let v1596 : BitVec 32 := Scalar.addi c0_i32_1387 v1595
  v1596.toNat
def k0_dev67 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1390 : BitVec 32 := 5#32
  let v1603 : BitVec 32 := Scalar.addi v2 c5_i32_1390
  let c32_i32_1391 : BitVec 32 := 32#32
  let c0_i32_1392 : BitVec 32 := 0#32
  let v1604 : BitVec 1 := Scalar.cmpi .eq c32_i32_1391 c0_i32_1392
  let c1_i32_1393 : BitVec 32 := 1#32
  let v1605 : BitVec 32 := Scalar.select v1604 c1_i32_1393 c32_i32_1391
  let v1606 : BitVec 32 := Scalar.remsi v1603 v1605
  let c0_i32_1395 : BitVec 32 := 0#32
  let v1608 : BitVec 1 := Scalar.cmpi .slt v1606 c0_i32_1395
  let c0_i32_1396 : BitVec 32 := 0#32
  let v1609 : BitVec 1 := Scalar.cmpi .slt v1605 c0_i32_1396
  let v1610 : BitVec 1 := Scalar.xori v1608 v1609
  let c0_i32_1394 : BitVec 32 := 0#32
  let v1607 : BitVec 1 := Scalar.cmpi .ne v1606 c0_i32_1394
  let v1611 : BitVec 1 := Scalar.andi v1610 v1607
  let v1612 : BitVec 32 := Scalar.addi v1606 v1605
  let v1613 : BitVec 32 := Scalar.select v1611 v1612 v1606
  let c1_i32_1400 : BitVec 32 := 1#32
  let v1614 : BitVec 32 := Scalar.muli v1613 c1_i32_1400
  let v1615 : BitVec 32 := Scalar.addi c0_i32_1401 v1614
  v1615.toNat
def k0_dev68 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1404 : BitVec 32 := 6#32
  let v1622 : BitVec 32 := Scalar.addi v2 c6_i32_1404
  let c32_i32_1405 : BitVec 32 := 32#32
  let c0_i32_1406 : BitVec 32 := 0#32
  let v1623 : BitVec 1 := Scalar.cmpi .eq c32_i32_1405 c0_i32_1406
  let c1_i32_1407 : BitVec 32 := 1#32
  let v1624 : BitVec 32 := Scalar.select v1623 c1_i32_1407 c32_i32_1405
  let v1625 : BitVec 32 := Scalar.remsi v1622 v1624
  let c0_i32_1409 : BitVec 32 := 0#32
  let v1627 : BitVec 1 := Scalar.cmpi .slt v1625 c0_i32_1409
  let c0_i32_1410 : BitVec 32 := 0#32
  let v1628 : BitVec 1 := Scalar.cmpi .slt v1624 c0_i32_1410
  let v1629 : BitVec 1 := Scalar.xori v1627 v1628
  let c0_i32_1408 : BitVec 32 := 0#32
  let v1626 : BitVec 1 := Scalar.cmpi .ne v1625 c0_i32_1408
  let v1630 : BitVec 1 := Scalar.andi v1629 v1626
  let v1631 : BitVec 32 := Scalar.addi v1625 v1624
  let v1632 : BitVec 32 := Scalar.select v1630 v1631 v1625
  let c1_i32_1414 : BitVec 32 := 1#32
  let v1633 : BitVec 32 := Scalar.muli v1632 c1_i32_1414
  let v1634 : BitVec 32 := Scalar.addi c0_i32_1415 v1633
  v1634.toNat
def k0_dev69 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1418 : BitVec 32 := 7#32
  let v1641 : BitVec 32 := Scalar.addi v2 c7_i32_1418
  let c32_i32_1419 : BitVec 32 := 32#32
  let c0_i32_1420 : BitVec 32 := 0#32
  let v1642 : BitVec 1 := Scalar.cmpi .eq c32_i32_1419 c0_i32_1420
  let c1_i32_1421 : BitVec 32 := 1#32
  let v1643 : BitVec 32 := Scalar.select v1642 c1_i32_1421 c32_i32_1419
  let v1644 : BitVec 32 := Scalar.remsi v1641 v1643
  let c0_i32_1423 : BitVec 32 := 0#32
  let v1646 : BitVec 1 := Scalar.cmpi .slt v1644 c0_i32_1423
  let c0_i32_1424 : BitVec 32 := 0#32
  let v1647 : BitVec 1 := Scalar.cmpi .slt v1643 c0_i32_1424
  let v1648 : BitVec 1 := Scalar.xori v1646 v1647
  let c0_i32_1422 : BitVec 32 := 0#32
  let v1645 : BitVec 1 := Scalar.cmpi .ne v1644 c0_i32_1422
  let v1649 : BitVec 1 := Scalar.andi v1648 v1645
  let v1650 : BitVec 32 := Scalar.addi v1644 v1643
  let v1651 : BitVec 32 := Scalar.select v1649 v1650 v1644
  let c1_i32_1428 : BitVec 32 := 1#32
  let v1652 : BitVec 32 := Scalar.muli v1651 c1_i32_1428
  let v1653 : BitVec 32 := Scalar.addi c0_i32_1429 v1652
  v1653.toNat
def k0_dev70 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1432 : BitVec 32 := 8#32
  let v1660 : BitVec 32 := Scalar.addi v2 c8_i32_1432
  let c32_i32_1433 : BitVec 32 := 32#32
  let c0_i32_1434 : BitVec 32 := 0#32
  let v1661 : BitVec 1 := Scalar.cmpi .eq c32_i32_1433 c0_i32_1434
  let c1_i32_1435 : BitVec 32 := 1#32
  let v1662 : BitVec 32 := Scalar.select v1661 c1_i32_1435 c32_i32_1433
  let v1663 : BitVec 32 := Scalar.remsi v1660 v1662
  let c0_i32_1437 : BitVec 32 := 0#32
  let v1665 : BitVec 1 := Scalar.cmpi .slt v1663 c0_i32_1437
  let c0_i32_1438 : BitVec 32 := 0#32
  let v1666 : BitVec 1 := Scalar.cmpi .slt v1662 c0_i32_1438
  let v1667 : BitVec 1 := Scalar.xori v1665 v1666
  let c0_i32_1436 : BitVec 32 := 0#32
  let v1664 : BitVec 1 := Scalar.cmpi .ne v1663 c0_i32_1436
  let v1668 : BitVec 1 := Scalar.andi v1667 v1664
  let v1669 : BitVec 32 := Scalar.addi v1663 v1662
  let v1670 : BitVec 32 := Scalar.select v1668 v1669 v1663
  let c1_i32_1442 : BitVec 32 := 1#32
  let v1671 : BitVec 32 := Scalar.muli v1670 c1_i32_1442
  let v1672 : BitVec 32 := Scalar.addi c0_i32_1443 v1671
  v1672.toNat
def k0_dev71 (d0 : Dev nD) : Nat :=
  let c0_i32_1457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1446 : BitVec 32 := 9#32
  let v1679 : BitVec 32 := Scalar.addi v2 c9_i32_1446
  let c32_i32_1447 : BitVec 32 := 32#32
  let c0_i32_1448 : BitVec 32 := 0#32
  let v1680 : BitVec 1 := Scalar.cmpi .eq c32_i32_1447 c0_i32_1448
  let c1_i32_1449 : BitVec 32 := 1#32
  let v1681 : BitVec 32 := Scalar.select v1680 c1_i32_1449 c32_i32_1447
  let v1682 : BitVec 32 := Scalar.remsi v1679 v1681
  let c0_i32_1451 : BitVec 32 := 0#32
  let v1684 : BitVec 1 := Scalar.cmpi .slt v1682 c0_i32_1451
  let c0_i32_1452 : BitVec 32 := 0#32
  let v1685 : BitVec 1 := Scalar.cmpi .slt v1681 c0_i32_1452
  let v1686 : BitVec 1 := Scalar.xori v1684 v1685
  let c0_i32_1450 : BitVec 32 := 0#32
  let v1683 : BitVec 1 := Scalar.cmpi .ne v1682 c0_i32_1450
  let v1687 : BitVec 1 := Scalar.andi v1686 v1683
  let v1688 : BitVec 32 := Scalar.addi v1682 v1681
  let v1689 : BitVec 32 := Scalar.select v1687 v1688 v1682
  let c1_i32_1456 : BitVec 32 := 1#32
  let v1690 : BitVec 32 := Scalar.muli v1689 c1_i32_1456
  let v1691 : BitVec 32 := Scalar.addi c0_i32_1457 v1690
  v1691.toNat
def k0_dev72 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1460 : BitVec 32 := 10#32
  let v1698 : BitVec 32 := Scalar.addi v2 c10_i32_1460
  let c32_i32_1461 : BitVec 32 := 32#32
  let c0_i32_1462 : BitVec 32 := 0#32
  let v1699 : BitVec 1 := Scalar.cmpi .eq c32_i32_1461 c0_i32_1462
  let c1_i32_1463 : BitVec 32 := 1#32
  let v1700 : BitVec 32 := Scalar.select v1699 c1_i32_1463 c32_i32_1461
  let v1701 : BitVec 32 := Scalar.remsi v1698 v1700
  let c0_i32_1465 : BitVec 32 := 0#32
  let v1703 : BitVec 1 := Scalar.cmpi .slt v1701 c0_i32_1465
  let c0_i32_1466 : BitVec 32 := 0#32
  let v1704 : BitVec 1 := Scalar.cmpi .slt v1700 c0_i32_1466
  let v1705 : BitVec 1 := Scalar.xori v1703 v1704
  let c0_i32_1464 : BitVec 32 := 0#32
  let v1702 : BitVec 1 := Scalar.cmpi .ne v1701 c0_i32_1464
  let v1706 : BitVec 1 := Scalar.andi v1705 v1702
  let v1707 : BitVec 32 := Scalar.addi v1701 v1700
  let v1708 : BitVec 32 := Scalar.select v1706 v1707 v1701
  let c1_i32_1470 : BitVec 32 := 1#32
  let v1709 : BitVec 32 := Scalar.muli v1708 c1_i32_1470
  let v1710 : BitVec 32 := Scalar.addi c0_i32_1471 v1709
  v1710.toNat
def k0_dev73 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1474 : BitVec 32 := 11#32
  let v1717 : BitVec 32 := Scalar.addi v2 c11_i32_1474
  let c32_i32_1475 : BitVec 32 := 32#32
  let c0_i32_1476 : BitVec 32 := 0#32
  let v1718 : BitVec 1 := Scalar.cmpi .eq c32_i32_1475 c0_i32_1476
  let c1_i32_1477 : BitVec 32 := 1#32
  let v1719 : BitVec 32 := Scalar.select v1718 c1_i32_1477 c32_i32_1475
  let v1720 : BitVec 32 := Scalar.remsi v1717 v1719
  let c0_i32_1479 : BitVec 32 := 0#32
  let v1722 : BitVec 1 := Scalar.cmpi .slt v1720 c0_i32_1479
  let c0_i32_1480 : BitVec 32 := 0#32
  let v1723 : BitVec 1 := Scalar.cmpi .slt v1719 c0_i32_1480
  let v1724 : BitVec 1 := Scalar.xori v1722 v1723
  let c0_i32_1478 : BitVec 32 := 0#32
  let v1721 : BitVec 1 := Scalar.cmpi .ne v1720 c0_i32_1478
  let v1725 : BitVec 1 := Scalar.andi v1724 v1721
  let v1726 : BitVec 32 := Scalar.addi v1720 v1719
  let v1727 : BitVec 32 := Scalar.select v1725 v1726 v1720
  let c1_i32_1484 : BitVec 32 := 1#32
  let v1728 : BitVec 32 := Scalar.muli v1727 c1_i32_1484
  let v1729 : BitVec 32 := Scalar.addi c0_i32_1485 v1728
  v1729.toNat
def k0_dev74 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1488 : BitVec 32 := 12#32
  let v1736 : BitVec 32 := Scalar.addi v2 c12_i32_1488
  let c32_i32_1489 : BitVec 32 := 32#32
  let c0_i32_1490 : BitVec 32 := 0#32
  let v1737 : BitVec 1 := Scalar.cmpi .eq c32_i32_1489 c0_i32_1490
  let c1_i32_1491 : BitVec 32 := 1#32
  let v1738 : BitVec 32 := Scalar.select v1737 c1_i32_1491 c32_i32_1489
  let v1739 : BitVec 32 := Scalar.remsi v1736 v1738
  let c0_i32_1493 : BitVec 32 := 0#32
  let v1741 : BitVec 1 := Scalar.cmpi .slt v1739 c0_i32_1493
  let c0_i32_1494 : BitVec 32 := 0#32
  let v1742 : BitVec 1 := Scalar.cmpi .slt v1738 c0_i32_1494
  let v1743 : BitVec 1 := Scalar.xori v1741 v1742
  let c0_i32_1492 : BitVec 32 := 0#32
  let v1740 : BitVec 1 := Scalar.cmpi .ne v1739 c0_i32_1492
  let v1744 : BitVec 1 := Scalar.andi v1743 v1740
  let v1745 : BitVec 32 := Scalar.addi v1739 v1738
  let v1746 : BitVec 32 := Scalar.select v1744 v1745 v1739
  let c1_i32_1498 : BitVec 32 := 1#32
  let v1747 : BitVec 32 := Scalar.muli v1746 c1_i32_1498
  let v1748 : BitVec 32 := Scalar.addi c0_i32_1499 v1747
  v1748.toNat
def k0_dev75 (d0 : Dev nD) : Nat :=
  let c0_i32_1513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1502 : BitVec 32 := 13#32
  let v1755 : BitVec 32 := Scalar.addi v2 c13_i32_1502
  let c32_i32_1503 : BitVec 32 := 32#32
  let c0_i32_1504 : BitVec 32 := 0#32
  let v1756 : BitVec 1 := Scalar.cmpi .eq c32_i32_1503 c0_i32_1504
  let c1_i32_1505 : BitVec 32 := 1#32
  let v1757 : BitVec 32 := Scalar.select v1756 c1_i32_1505 c32_i32_1503
  let v1758 : BitVec 32 := Scalar.remsi v1755 v1757
  let c0_i32_1507 : BitVec 32 := 0#32
  let v1760 : BitVec 1 := Scalar.cmpi .slt v1758 c0_i32_1507
  let c0_i32_1508 : BitVec 32 := 0#32
  let v1761 : BitVec 1 := Scalar.cmpi .slt v1757 c0_i32_1508
  let v1762 : BitVec 1 := Scalar.xori v1760 v1761
  let c0_i32_1506 : BitVec 32 := 0#32
  let v1759 : BitVec 1 := Scalar.cmpi .ne v1758 c0_i32_1506
  let v1763 : BitVec 1 := Scalar.andi v1762 v1759
  let v1764 : BitVec 32 := Scalar.addi v1758 v1757
  let v1765 : BitVec 32 := Scalar.select v1763 v1764 v1758
  let c1_i32_1512 : BitVec 32 := 1#32
  let v1766 : BitVec 32 := Scalar.muli v1765 c1_i32_1512
  let v1767 : BitVec 32 := Scalar.addi c0_i32_1513 v1766
  v1767.toNat
def k0_dev76 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1516 : BitVec 32 := 14#32
  let v1774 : BitVec 32 := Scalar.addi v2 c14_i32_1516
  let c32_i32_1517 : BitVec 32 := 32#32
  let c0_i32_1518 : BitVec 32 := 0#32
  let v1775 : BitVec 1 := Scalar.cmpi .eq c32_i32_1517 c0_i32_1518
  let c1_i32_1519 : BitVec 32 := 1#32
  let v1776 : BitVec 32 := Scalar.select v1775 c1_i32_1519 c32_i32_1517
  let v1777 : BitVec 32 := Scalar.remsi v1774 v1776
  let c0_i32_1521 : BitVec 32 := 0#32
  let v1779 : BitVec 1 := Scalar.cmpi .slt v1777 c0_i32_1521
  let c0_i32_1522 : BitVec 32 := 0#32
  let v1780 : BitVec 1 := Scalar.cmpi .slt v1776 c0_i32_1522
  let v1781 : BitVec 1 := Scalar.xori v1779 v1780
  let c0_i32_1520 : BitVec 32 := 0#32
  let v1778 : BitVec 1 := Scalar.cmpi .ne v1777 c0_i32_1520
  let v1782 : BitVec 1 := Scalar.andi v1781 v1778
  let v1783 : BitVec 32 := Scalar.addi v1777 v1776
  let v1784 : BitVec 32 := Scalar.select v1782 v1783 v1777
  let c1_i32_1526 : BitVec 32 := 1#32
  let v1785 : BitVec 32 := Scalar.muli v1784 c1_i32_1526
  let v1786 : BitVec 32 := Scalar.addi c0_i32_1527 v1785
  v1786.toNat
def k0_dev77 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1530 : BitVec 32 := 15#32
  let v1793 : BitVec 32 := Scalar.addi v2 c15_i32_1530
  let c32_i32_1531 : BitVec 32 := 32#32
  let c0_i32_1532 : BitVec 32 := 0#32
  let v1794 : BitVec 1 := Scalar.cmpi .eq c32_i32_1531 c0_i32_1532
  let c1_i32_1533 : BitVec 32 := 1#32
  let v1795 : BitVec 32 := Scalar.select v1794 c1_i32_1533 c32_i32_1531
  let v1796 : BitVec 32 := Scalar.remsi v1793 v1795
  let c0_i32_1535 : BitVec 32 := 0#32
  let v1798 : BitVec 1 := Scalar.cmpi .slt v1796 c0_i32_1535
  let c0_i32_1536 : BitVec 32 := 0#32
  let v1799 : BitVec 1 := Scalar.cmpi .slt v1795 c0_i32_1536
  let v1800 : BitVec 1 := Scalar.xori v1798 v1799
  let c0_i32_1534 : BitVec 32 := 0#32
  let v1797 : BitVec 1 := Scalar.cmpi .ne v1796 c0_i32_1534
  let v1801 : BitVec 1 := Scalar.andi v1800 v1797
  let v1802 : BitVec 32 := Scalar.addi v1796 v1795
  let v1803 : BitVec 32 := Scalar.select v1801 v1802 v1796
  let c1_i32_1540 : BitVec 32 := 1#32
  let v1804 : BitVec 32 := Scalar.muli v1803 c1_i32_1540
  let v1805 : BitVec 32 := Scalar.addi c0_i32_1541 v1804
  v1805.toNat
def k0_dev78 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1544 : BitVec 32 := 16#32
  let v1812 : BitVec 32 := Scalar.addi v2 c16_i32_1544
  let c32_i32_1545 : BitVec 32 := 32#32
  let c0_i32_1546 : BitVec 32 := 0#32
  let v1813 : BitVec 1 := Scalar.cmpi .eq c32_i32_1545 c0_i32_1546
  let c1_i32_1547 : BitVec 32 := 1#32
  let v1814 : BitVec 32 := Scalar.select v1813 c1_i32_1547 c32_i32_1545
  let v1815 : BitVec 32 := Scalar.remsi v1812 v1814
  let c0_i32_1549 : BitVec 32 := 0#32
  let v1817 : BitVec 1 := Scalar.cmpi .slt v1815 c0_i32_1549
  let c0_i32_1550 : BitVec 32 := 0#32
  let v1818 : BitVec 1 := Scalar.cmpi .slt v1814 c0_i32_1550
  let v1819 : BitVec 1 := Scalar.xori v1817 v1818
  let c0_i32_1548 : BitVec 32 := 0#32
  let v1816 : BitVec 1 := Scalar.cmpi .ne v1815 c0_i32_1548
  let v1820 : BitVec 1 := Scalar.andi v1819 v1816
  let v1821 : BitVec 32 := Scalar.addi v1815 v1814
  let v1822 : BitVec 32 := Scalar.select v1820 v1821 v1815
  let c1_i32_1554 : BitVec 32 := 1#32
  let v1823 : BitVec 32 := Scalar.muli v1822 c1_i32_1554
  let v1824 : BitVec 32 := Scalar.addi c0_i32_1555 v1823
  v1824.toNat
def k0_dev79 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1558 : BitVec 32 := 17#32
  let v1831 : BitVec 32 := Scalar.addi v2 c17_i32_1558
  let c32_i32_1559 : BitVec 32 := 32#32
  let c0_i32_1560 : BitVec 32 := 0#32
  let v1832 : BitVec 1 := Scalar.cmpi .eq c32_i32_1559 c0_i32_1560
  let c1_i32_1561 : BitVec 32 := 1#32
  let v1833 : BitVec 32 := Scalar.select v1832 c1_i32_1561 c32_i32_1559
  let v1834 : BitVec 32 := Scalar.remsi v1831 v1833
  let c0_i32_1563 : BitVec 32 := 0#32
  let v1836 : BitVec 1 := Scalar.cmpi .slt v1834 c0_i32_1563
  let c0_i32_1564 : BitVec 32 := 0#32
  let v1837 : BitVec 1 := Scalar.cmpi .slt v1833 c0_i32_1564
  let v1838 : BitVec 1 := Scalar.xori v1836 v1837
  let c0_i32_1562 : BitVec 32 := 0#32
  let v1835 : BitVec 1 := Scalar.cmpi .ne v1834 c0_i32_1562
  let v1839 : BitVec 1 := Scalar.andi v1838 v1835
  let v1840 : BitVec 32 := Scalar.addi v1834 v1833
  let v1841 : BitVec 32 := Scalar.select v1839 v1840 v1834
  let c1_i32_1568 : BitVec 32 := 1#32
  let v1842 : BitVec 32 := Scalar.muli v1841 c1_i32_1568
  let v1843 : BitVec 32 := Scalar.addi c0_i32_1569 v1842
  v1843.toNat
def k0_dev80 (d0 : Dev nD) : Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1572 : BitVec 32 := 18#32
  let v1850 : BitVec 32 := Scalar.addi v2 c18_i32_1572
  let c32_i32_1573 : BitVec 32 := 32#32
  let c0_i32_1574 : BitVec 32 := 0#32
  let v1851 : BitVec 1 := Scalar.cmpi .eq c32_i32_1573 c0_i32_1574
  let c1_i32_1575 : BitVec 32 := 1#32
  let v1852 : BitVec 32 := Scalar.select v1851 c1_i32_1575 c32_i32_1573
  let v1853 : BitVec 32 := Scalar.remsi v1850 v1852
  let c0_i32_1577 : BitVec 32 := 0#32
  let v1855 : BitVec 1 := Scalar.cmpi .slt v1853 c0_i32_1577
  let c0_i32_1578 : BitVec 32 := 0#32
  let v1856 : BitVec 1 := Scalar.cmpi .slt v1852 c0_i32_1578
  let v1857 : BitVec 1 := Scalar.xori v1855 v1856
  let c0_i32_1576 : BitVec 32 := 0#32
  let v1854 : BitVec 1 := Scalar.cmpi .ne v1853 c0_i32_1576
  let v1858 : BitVec 1 := Scalar.andi v1857 v1854
  let v1859 : BitVec 32 := Scalar.addi v1853 v1852
  let v1860 : BitVec 32 := Scalar.select v1858 v1859 v1853
  let c1_i32_1582 : BitVec 32 := 1#32
  let v1861 : BitVec 32 := Scalar.muli v1860 c1_i32_1582
  let v1862 : BitVec 32 := Scalar.addi c0_i32_1583 v1861
  v1862.toNat
def k0_dev81 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1586 : BitVec 32 := 19#32
  let v1869 : BitVec 32 := Scalar.addi v2 c19_i32_1586
  let c32_i32_1587 : BitVec 32 := 32#32
  let c0_i32_1588 : BitVec 32 := 0#32
  let v1870 : BitVec 1 := Scalar.cmpi .eq c32_i32_1587 c0_i32_1588
  let c1_i32_1589 : BitVec 32 := 1#32
  let v1871 : BitVec 32 := Scalar.select v1870 c1_i32_1589 c32_i32_1587
  let v1872 : BitVec 32 := Scalar.remsi v1869 v1871
  let c0_i32_1591 : BitVec 32 := 0#32
  let v1874 : BitVec 1 := Scalar.cmpi .slt v1872 c0_i32_1591
  let c0_i32_1592 : BitVec 32 := 0#32
  let v1875 : BitVec 1 := Scalar.cmpi .slt v1871 c0_i32_1592
  let v1876 : BitVec 1 := Scalar.xori v1874 v1875
  let c0_i32_1590 : BitVec 32 := 0#32
  let v1873 : BitVec 1 := Scalar.cmpi .ne v1872 c0_i32_1590
  let v1877 : BitVec 1 := Scalar.andi v1876 v1873
  let v1878 : BitVec 32 := Scalar.addi v1872 v1871
  let v1879 : BitVec 32 := Scalar.select v1877 v1878 v1872
  let c1_i32_1596 : BitVec 32 := 1#32
  let v1880 : BitVec 32 := Scalar.muli v1879 c1_i32_1596
  let v1881 : BitVec 32 := Scalar.addi c0_i32_1597 v1880
  v1881.toNat
def k0_dev82 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1600 : BitVec 32 := 20#32
  let v1888 : BitVec 32 := Scalar.addi v2 c20_i32_1600
  let c32_i32_1601 : BitVec 32 := 32#32
  let c0_i32_1602 : BitVec 32 := 0#32
  let v1889 : BitVec 1 := Scalar.cmpi .eq c32_i32_1601 c0_i32_1602
  let c1_i32_1603 : BitVec 32 := 1#32
  let v1890 : BitVec 32 := Scalar.select v1889 c1_i32_1603 c32_i32_1601
  let v1891 : BitVec 32 := Scalar.remsi v1888 v1890
  let c0_i32_1605 : BitVec 32 := 0#32
  let v1893 : BitVec 1 := Scalar.cmpi .slt v1891 c0_i32_1605
  let c0_i32_1606 : BitVec 32 := 0#32
  let v1894 : BitVec 1 := Scalar.cmpi .slt v1890 c0_i32_1606
  let v1895 : BitVec 1 := Scalar.xori v1893 v1894
  let c0_i32_1604 : BitVec 32 := 0#32
  let v1892 : BitVec 1 := Scalar.cmpi .ne v1891 c0_i32_1604
  let v1896 : BitVec 1 := Scalar.andi v1895 v1892
  let v1897 : BitVec 32 := Scalar.addi v1891 v1890
  let v1898 : BitVec 32 := Scalar.select v1896 v1897 v1891
  let c1_i32_1610 : BitVec 32 := 1#32
  let v1899 : BitVec 32 := Scalar.muli v1898 c1_i32_1610
  let v1900 : BitVec 32 := Scalar.addi c0_i32_1611 v1899
  v1900.toNat
def k0_dev83 (d0 : Dev nD) : Nat :=
  let c0_i32_1625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1614 : BitVec 32 := 21#32
  let v1907 : BitVec 32 := Scalar.addi v2 c21_i32_1614
  let c32_i32_1615 : BitVec 32 := 32#32
  let c0_i32_1616 : BitVec 32 := 0#32
  let v1908 : BitVec 1 := Scalar.cmpi .eq c32_i32_1615 c0_i32_1616
  let c1_i32_1617 : BitVec 32 := 1#32
  let v1909 : BitVec 32 := Scalar.select v1908 c1_i32_1617 c32_i32_1615
  let v1910 : BitVec 32 := Scalar.remsi v1907 v1909
  let c0_i32_1619 : BitVec 32 := 0#32
  let v1912 : BitVec 1 := Scalar.cmpi .slt v1910 c0_i32_1619
  let c0_i32_1620 : BitVec 32 := 0#32
  let v1913 : BitVec 1 := Scalar.cmpi .slt v1909 c0_i32_1620
  let v1914 : BitVec 1 := Scalar.xori v1912 v1913
  let c0_i32_1618 : BitVec 32 := 0#32
  let v1911 : BitVec 1 := Scalar.cmpi .ne v1910 c0_i32_1618
  let v1915 : BitVec 1 := Scalar.andi v1914 v1911
  let v1916 : BitVec 32 := Scalar.addi v1910 v1909
  let v1917 : BitVec 32 := Scalar.select v1915 v1916 v1910
  let c1_i32_1624 : BitVec 32 := 1#32
  let v1918 : BitVec 32 := Scalar.muli v1917 c1_i32_1624
  let v1919 : BitVec 32 := Scalar.addi c0_i32_1625 v1918
  v1919.toNat
def k0_dev84 (d0 : Dev nD) : Nat :=
  let c0_i32_1639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1628 : BitVec 32 := 22#32
  let v1926 : BitVec 32 := Scalar.addi v2 c22_i32_1628
  let c32_i32_1629 : BitVec 32 := 32#32
  let c0_i32_1630 : BitVec 32 := 0#32
  let v1927 : BitVec 1 := Scalar.cmpi .eq c32_i32_1629 c0_i32_1630
  let c1_i32_1631 : BitVec 32 := 1#32
  let v1928 : BitVec 32 := Scalar.select v1927 c1_i32_1631 c32_i32_1629
  let v1929 : BitVec 32 := Scalar.remsi v1926 v1928
  let c0_i32_1633 : BitVec 32 := 0#32
  let v1931 : BitVec 1 := Scalar.cmpi .slt v1929 c0_i32_1633
  let c0_i32_1634 : BitVec 32 := 0#32
  let v1932 : BitVec 1 := Scalar.cmpi .slt v1928 c0_i32_1634
  let v1933 : BitVec 1 := Scalar.xori v1931 v1932
  let c0_i32_1632 : BitVec 32 := 0#32
  let v1930 : BitVec 1 := Scalar.cmpi .ne v1929 c0_i32_1632
  let v1934 : BitVec 1 := Scalar.andi v1933 v1930
  let v1935 : BitVec 32 := Scalar.addi v1929 v1928
  let v1936 : BitVec 32 := Scalar.select v1934 v1935 v1929
  let c1_i32_1638 : BitVec 32 := 1#32
  let v1937 : BitVec 32 := Scalar.muli v1936 c1_i32_1638
  let v1938 : BitVec 32 := Scalar.addi c0_i32_1639 v1937
  v1938.toNat
def k0_dev85 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1642 : BitVec 32 := 23#32
  let v1945 : BitVec 32 := Scalar.addi v2 c23_i32_1642
  let c32_i32_1643 : BitVec 32 := 32#32
  let c0_i32_1644 : BitVec 32 := 0#32
  let v1946 : BitVec 1 := Scalar.cmpi .eq c32_i32_1643 c0_i32_1644
  let c1_i32_1645 : BitVec 32 := 1#32
  let v1947 : BitVec 32 := Scalar.select v1946 c1_i32_1645 c32_i32_1643
  let v1948 : BitVec 32 := Scalar.remsi v1945 v1947
  let c0_i32_1647 : BitVec 32 := 0#32
  let v1950 : BitVec 1 := Scalar.cmpi .slt v1948 c0_i32_1647
  let c0_i32_1648 : BitVec 32 := 0#32
  let v1951 : BitVec 1 := Scalar.cmpi .slt v1947 c0_i32_1648
  let v1952 : BitVec 1 := Scalar.xori v1950 v1951
  let c0_i32_1646 : BitVec 32 := 0#32
  let v1949 : BitVec 1 := Scalar.cmpi .ne v1948 c0_i32_1646
  let v1953 : BitVec 1 := Scalar.andi v1952 v1949
  let v1954 : BitVec 32 := Scalar.addi v1948 v1947
  let v1955 : BitVec 32 := Scalar.select v1953 v1954 v1948
  let c1_i32_1652 : BitVec 32 := 1#32
  let v1956 : BitVec 32 := Scalar.muli v1955 c1_i32_1652
  let v1957 : BitVec 32 := Scalar.addi c0_i32_1653 v1956
  v1957.toNat
def k0_dev86 (d0 : Dev nD) : Nat :=
  let c0_i32_1667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1656 : BitVec 32 := 24#32
  let v1964 : BitVec 32 := Scalar.addi v2 c24_i32_1656
  let c32_i32_1657 : BitVec 32 := 32#32
  let c0_i32_1658 : BitVec 32 := 0#32
  let v1965 : BitVec 1 := Scalar.cmpi .eq c32_i32_1657 c0_i32_1658
  let c1_i32_1659 : BitVec 32 := 1#32
  let v1966 : BitVec 32 := Scalar.select v1965 c1_i32_1659 c32_i32_1657
  let v1967 : BitVec 32 := Scalar.remsi v1964 v1966
  let c0_i32_1661 : BitVec 32 := 0#32
  let v1969 : BitVec 1 := Scalar.cmpi .slt v1967 c0_i32_1661
  let c0_i32_1662 : BitVec 32 := 0#32
  let v1970 : BitVec 1 := Scalar.cmpi .slt v1966 c0_i32_1662
  let v1971 : BitVec 1 := Scalar.xori v1969 v1970
  let c0_i32_1660 : BitVec 32 := 0#32
  let v1968 : BitVec 1 := Scalar.cmpi .ne v1967 c0_i32_1660
  let v1972 : BitVec 1 := Scalar.andi v1971 v1968
  let v1973 : BitVec 32 := Scalar.addi v1967 v1966
  let v1974 : BitVec 32 := Scalar.select v1972 v1973 v1967
  let c1_i32_1666 : BitVec 32 := 1#32
  let v1975 : BitVec 32 := Scalar.muli v1974 c1_i32_1666
  let v1976 : BitVec 32 := Scalar.addi c0_i32_1667 v1975
  v1976.toNat
def k0_dev87 (d0 : Dev nD) : Nat :=
  let c0_i32_1681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1670 : BitVec 32 := 25#32
  let v1983 : BitVec 32 := Scalar.addi v2 c25_i32_1670
  let c32_i32_1671 : BitVec 32 := 32#32
  let c0_i32_1672 : BitVec 32 := 0#32
  let v1984 : BitVec 1 := Scalar.cmpi .eq c32_i32_1671 c0_i32_1672
  let c1_i32_1673 : BitVec 32 := 1#32
  let v1985 : BitVec 32 := Scalar.select v1984 c1_i32_1673 c32_i32_1671
  let v1986 : BitVec 32 := Scalar.remsi v1983 v1985
  let c0_i32_1675 : BitVec 32 := 0#32
  let v1988 : BitVec 1 := Scalar.cmpi .slt v1986 c0_i32_1675
  let c0_i32_1676 : BitVec 32 := 0#32
  let v1989 : BitVec 1 := Scalar.cmpi .slt v1985 c0_i32_1676
  let v1990 : BitVec 1 := Scalar.xori v1988 v1989
  let c0_i32_1674 : BitVec 32 := 0#32
  let v1987 : BitVec 1 := Scalar.cmpi .ne v1986 c0_i32_1674
  let v1991 : BitVec 1 := Scalar.andi v1990 v1987
  let v1992 : BitVec 32 := Scalar.addi v1986 v1985
  let v1993 : BitVec 32 := Scalar.select v1991 v1992 v1986
  let c1_i32_1680 : BitVec 32 := 1#32
  let v1994 : BitVec 32 := Scalar.muli v1993 c1_i32_1680
  let v1995 : BitVec 32 := Scalar.addi c0_i32_1681 v1994
  v1995.toNat
def k0_dev88 (d0 : Dev nD) : Nat :=
  let c0_i32_1695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1684 : BitVec 32 := 26#32
  let v2002 : BitVec 32 := Scalar.addi v2 c26_i32_1684
  let c32_i32_1685 : BitVec 32 := 32#32
  let c0_i32_1686 : BitVec 32 := 0#32
  let v2003 : BitVec 1 := Scalar.cmpi .eq c32_i32_1685 c0_i32_1686
  let c1_i32_1687 : BitVec 32 := 1#32
  let v2004 : BitVec 32 := Scalar.select v2003 c1_i32_1687 c32_i32_1685
  let v2005 : BitVec 32 := Scalar.remsi v2002 v2004
  let c0_i32_1689 : BitVec 32 := 0#32
  let v2007 : BitVec 1 := Scalar.cmpi .slt v2005 c0_i32_1689
  let c0_i32_1690 : BitVec 32 := 0#32
  let v2008 : BitVec 1 := Scalar.cmpi .slt v2004 c0_i32_1690
  let v2009 : BitVec 1 := Scalar.xori v2007 v2008
  let c0_i32_1688 : BitVec 32 := 0#32
  let v2006 : BitVec 1 := Scalar.cmpi .ne v2005 c0_i32_1688
  let v2010 : BitVec 1 := Scalar.andi v2009 v2006
  let v2011 : BitVec 32 := Scalar.addi v2005 v2004
  let v2012 : BitVec 32 := Scalar.select v2010 v2011 v2005
  let c1_i32_1694 : BitVec 32 := 1#32
  let v2013 : BitVec 32 := Scalar.muli v2012 c1_i32_1694
  let v2014 : BitVec 32 := Scalar.addi c0_i32_1695 v2013
  v2014.toNat
def k0_dev89 (d0 : Dev nD) : Nat :=
  let c0_i32_1709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1698 : BitVec 32 := 27#32
  let v2021 : BitVec 32 := Scalar.addi v2 c27_i32_1698
  let c32_i32_1699 : BitVec 32 := 32#32
  let c0_i32_1700 : BitVec 32 := 0#32
  let v2022 : BitVec 1 := Scalar.cmpi .eq c32_i32_1699 c0_i32_1700
  let c1_i32_1701 : BitVec 32 := 1#32
  let v2023 : BitVec 32 := Scalar.select v2022 c1_i32_1701 c32_i32_1699
  let v2024 : BitVec 32 := Scalar.remsi v2021 v2023
  let c0_i32_1703 : BitVec 32 := 0#32
  let v2026 : BitVec 1 := Scalar.cmpi .slt v2024 c0_i32_1703
  let c0_i32_1704 : BitVec 32 := 0#32
  let v2027 : BitVec 1 := Scalar.cmpi .slt v2023 c0_i32_1704
  let v2028 : BitVec 1 := Scalar.xori v2026 v2027
  let c0_i32_1702 : BitVec 32 := 0#32
  let v2025 : BitVec 1 := Scalar.cmpi .ne v2024 c0_i32_1702
  let v2029 : BitVec 1 := Scalar.andi v2028 v2025
  let v2030 : BitVec 32 := Scalar.addi v2024 v2023
  let v2031 : BitVec 32 := Scalar.select v2029 v2030 v2024
  let c1_i32_1708 : BitVec 32 := 1#32
  let v2032 : BitVec 32 := Scalar.muli v2031 c1_i32_1708
  let v2033 : BitVec 32 := Scalar.addi c0_i32_1709 v2032
  v2033.toNat
def k0_dev90 (d0 : Dev nD) : Nat :=
  let c0_i32_1723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1712 : BitVec 32 := 28#32
  let v2040 : BitVec 32 := Scalar.addi v2 c28_i32_1712
  let c32_i32_1713 : BitVec 32 := 32#32
  let c0_i32_1714 : BitVec 32 := 0#32
  let v2041 : BitVec 1 := Scalar.cmpi .eq c32_i32_1713 c0_i32_1714
  let c1_i32_1715 : BitVec 32 := 1#32
  let v2042 : BitVec 32 := Scalar.select v2041 c1_i32_1715 c32_i32_1713
  let v2043 : BitVec 32 := Scalar.remsi v2040 v2042
  let c0_i32_1717 : BitVec 32 := 0#32
  let v2045 : BitVec 1 := Scalar.cmpi .slt v2043 c0_i32_1717
  let c0_i32_1718 : BitVec 32 := 0#32
  let v2046 : BitVec 1 := Scalar.cmpi .slt v2042 c0_i32_1718
  let v2047 : BitVec 1 := Scalar.xori v2045 v2046
  let c0_i32_1716 : BitVec 32 := 0#32
  let v2044 : BitVec 1 := Scalar.cmpi .ne v2043 c0_i32_1716
  let v2048 : BitVec 1 := Scalar.andi v2047 v2044
  let v2049 : BitVec 32 := Scalar.addi v2043 v2042
  let v2050 : BitVec 32 := Scalar.select v2048 v2049 v2043
  let c1_i32_1722 : BitVec 32 := 1#32
  let v2051 : BitVec 32 := Scalar.muli v2050 c1_i32_1722
  let v2052 : BitVec 32 := Scalar.addi c0_i32_1723 v2051
  v2052.toNat
def k0_dev91 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1726 : BitVec 32 := 29#32
  let v2059 : BitVec 32 := Scalar.addi v2 c29_i32_1726
  let c32_i32_1727 : BitVec 32 := 32#32
  let c0_i32_1728 : BitVec 32 := 0#32
  let v2060 : BitVec 1 := Scalar.cmpi .eq c32_i32_1727 c0_i32_1728
  let c1_i32_1729 : BitVec 32 := 1#32
  let v2061 : BitVec 32 := Scalar.select v2060 c1_i32_1729 c32_i32_1727
  let v2062 : BitVec 32 := Scalar.remsi v2059 v2061
  let c0_i32_1731 : BitVec 32 := 0#32
  let v2064 : BitVec 1 := Scalar.cmpi .slt v2062 c0_i32_1731
  let c0_i32_1732 : BitVec 32 := 0#32
  let v2065 : BitVec 1 := Scalar.cmpi .slt v2061 c0_i32_1732
  let v2066 : BitVec 1 := Scalar.xori v2064 v2065
  let c0_i32_1730 : BitVec 32 := 0#32
  let v2063 : BitVec 1 := Scalar.cmpi .ne v2062 c0_i32_1730
  let v2067 : BitVec 1 := Scalar.andi v2066 v2063
  let v2068 : BitVec 32 := Scalar.addi v2062 v2061
  let v2069 : BitVec 32 := Scalar.select v2067 v2068 v2062
  let c1_i32_1736 : BitVec 32 := 1#32
  let v2070 : BitVec 32 := Scalar.muli v2069 c1_i32_1736
  let v2071 : BitVec 32 := Scalar.addi c0_i32_1737 v2070
  v2071.toNat
def k0_dev92 (d0 : Dev nD) : Nat :=
  let c0_i32_1751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1740 : BitVec 32 := 30#32
  let v2078 : BitVec 32 := Scalar.addi v2 c30_i32_1740
  let c32_i32_1741 : BitVec 32 := 32#32
  let c0_i32_1742 : BitVec 32 := 0#32
  let v2079 : BitVec 1 := Scalar.cmpi .eq c32_i32_1741 c0_i32_1742
  let c1_i32_1743 : BitVec 32 := 1#32
  let v2080 : BitVec 32 := Scalar.select v2079 c1_i32_1743 c32_i32_1741
  let v2081 : BitVec 32 := Scalar.remsi v2078 v2080
  let c0_i32_1745 : BitVec 32 := 0#32
  let v2083 : BitVec 1 := Scalar.cmpi .slt v2081 c0_i32_1745
  let c0_i32_1746 : BitVec 32 := 0#32
  let v2084 : BitVec 1 := Scalar.cmpi .slt v2080 c0_i32_1746
  let v2085 : BitVec 1 := Scalar.xori v2083 v2084
  let c0_i32_1744 : BitVec 32 := 0#32
  let v2082 : BitVec 1 := Scalar.cmpi .ne v2081 c0_i32_1744
  let v2086 : BitVec 1 := Scalar.andi v2085 v2082
  let v2087 : BitVec 32 := Scalar.addi v2081 v2080
  let v2088 : BitVec 32 := Scalar.select v2086 v2087 v2081
  let c1_i32_1750 : BitVec 32 := 1#32
  let v2089 : BitVec 32 := Scalar.muli v2088 c1_i32_1750
  let v2090 : BitVec 32 := Scalar.addi c0_i32_1751 v2089
  v2090.toNat
def k0_dev93 (d0 : Dev nD) : Nat :=
  let c0_i32_1765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1754 : BitVec 32 := 31#32
  let v2097 : BitVec 32 := Scalar.addi v2 c31_i32_1754
  let c32_i32_1755 : BitVec 32 := 32#32
  let c0_i32_1756 : BitVec 32 := 0#32
  let v2098 : BitVec 1 := Scalar.cmpi .eq c32_i32_1755 c0_i32_1756
  let c1_i32_1757 : BitVec 32 := 1#32
  let v2099 : BitVec 32 := Scalar.select v2098 c1_i32_1757 c32_i32_1755
  let v2100 : BitVec 32 := Scalar.remsi v2097 v2099
  let c0_i32_1759 : BitVec 32 := 0#32
  let v2102 : BitVec 1 := Scalar.cmpi .slt v2100 c0_i32_1759
  let c0_i32_1760 : BitVec 32 := 0#32
  let v2103 : BitVec 1 := Scalar.cmpi .slt v2099 c0_i32_1760
  let v2104 : BitVec 1 := Scalar.xori v2102 v2103
  let c0_i32_1758 : BitVec 32 := 0#32
  let v2101 : BitVec 1 := Scalar.cmpi .ne v2100 c0_i32_1758
  let v2105 : BitVec 1 := Scalar.andi v2104 v2101
  let v2106 : BitVec 32 := Scalar.addi v2100 v2099
  let v2107 : BitVec 32 := Scalar.select v2105 v2106 v2100
  let c1_i32_1764 : BitVec 32 := 1#32
  let v2108 : BitVec 32 := Scalar.muli v2107 c1_i32_1764
  let v2109 : BitVec 32 := Scalar.addi c0_i32_1765 v2108
  v2109.toNat
def k0_dev94 (d0 : Dev nD) : Nat :=
  let c0_i32_1842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1830 : BitVec 32 := 1#32
  let v2174 : BitVec 32 := Scalar.addi v2 c1_i32_1830
  let c32_i32_1831 : BitVec 32 := 32#32
  let c0_i32_1832 : BitVec 32 := 0#32
  let v2175 : BitVec 1 := Scalar.cmpi .eq c32_i32_1831 c0_i32_1832
  let c1_i32_1833 : BitVec 32 := 1#32
  let v2176 : BitVec 32 := Scalar.select v2175 c1_i32_1833 c32_i32_1831
  let v2177 : BitVec 32 := Scalar.remsi v2174 v2176
  let c0_i32_1835 : BitVec 32 := 0#32
  let v2179 : BitVec 1 := Scalar.cmpi .slt v2177 c0_i32_1835
  let c0_i32_1836 : BitVec 32 := 0#32
  let v2180 : BitVec 1 := Scalar.cmpi .slt v2176 c0_i32_1836
  let v2181 : BitVec 1 := Scalar.xori v2179 v2180
  let c0_i32_1834 : BitVec 32 := 0#32
  let v2178 : BitVec 1 := Scalar.cmpi .ne v2177 c0_i32_1834
  let v2182 : BitVec 1 := Scalar.andi v2181 v2178
  let v2183 : BitVec 32 := Scalar.addi v2177 v2176
  let v2184 : BitVec 32 := Scalar.select v2182 v2183 v2177
  let c1_i32_1841 : BitVec 32 := 1#32
  let v2185 : BitVec 32 := Scalar.muli v2184 c1_i32_1841
  let v2186 : BitVec 32 := Scalar.addi c0_i32_1842 v2185
  v2186.toNat
def k0_dev95 (d0 : Dev nD) : Nat :=
  let c0_i32_1859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1847 : BitVec 32 := 2#32
  let v2195 : BitVec 32 := Scalar.addi v2 c2_i32_1847
  let c32_i32_1848 : BitVec 32 := 32#32
  let c0_i32_1849 : BitVec 32 := 0#32
  let v2196 : BitVec 1 := Scalar.cmpi .eq c32_i32_1848 c0_i32_1849
  let c1_i32_1850 : BitVec 32 := 1#32
  let v2197 : BitVec 32 := Scalar.select v2196 c1_i32_1850 c32_i32_1848
  let v2198 : BitVec 32 := Scalar.remsi v2195 v2197
  let c0_i32_1852 : BitVec 32 := 0#32
  let v2200 : BitVec 1 := Scalar.cmpi .slt v2198 c0_i32_1852
  let c0_i32_1853 : BitVec 32 := 0#32
  let v2201 : BitVec 1 := Scalar.cmpi .slt v2197 c0_i32_1853
  let v2202 : BitVec 1 := Scalar.xori v2200 v2201
  let c0_i32_1851 : BitVec 32 := 0#32
  let v2199 : BitVec 1 := Scalar.cmpi .ne v2198 c0_i32_1851
  let v2203 : BitVec 1 := Scalar.andi v2202 v2199
  let v2204 : BitVec 32 := Scalar.addi v2198 v2197
  let v2205 : BitVec 32 := Scalar.select v2203 v2204 v2198
  let c1_i32_1858 : BitVec 32 := 1#32
  let v2206 : BitVec 32 := Scalar.muli v2205 c1_i32_1858
  let v2207 : BitVec 32 := Scalar.addi c0_i32_1859 v2206
  v2207.toNat
def k0_dev96 (d0 : Dev nD) : Nat :=
  let c0_i32_1876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1864 : BitVec 32 := 3#32
  let v2216 : BitVec 32 := Scalar.addi v2 c3_i32_1864
  let c32_i32_1865 : BitVec 32 := 32#32
  let c0_i32_1866 : BitVec 32 := 0#32
  let v2217 : BitVec 1 := Scalar.cmpi .eq c32_i32_1865 c0_i32_1866
  let c1_i32_1867 : BitVec 32 := 1#32
  let v2218 : BitVec 32 := Scalar.select v2217 c1_i32_1867 c32_i32_1865
  let v2219 : BitVec 32 := Scalar.remsi v2216 v2218
  let c0_i32_1869 : BitVec 32 := 0#32
  let v2221 : BitVec 1 := Scalar.cmpi .slt v2219 c0_i32_1869
  let c0_i32_1870 : BitVec 32 := 0#32
  let v2222 : BitVec 1 := Scalar.cmpi .slt v2218 c0_i32_1870
  let v2223 : BitVec 1 := Scalar.xori v2221 v2222
  let c0_i32_1868 : BitVec 32 := 0#32
  let v2220 : BitVec 1 := Scalar.cmpi .ne v2219 c0_i32_1868
  let v2224 : BitVec 1 := Scalar.andi v2223 v2220
  let v2225 : BitVec 32 := Scalar.addi v2219 v2218
  let v2226 : BitVec 32 := Scalar.select v2224 v2225 v2219
  let c1_i32_1875 : BitVec 32 := 1#32
  let v2227 : BitVec 32 := Scalar.muli v2226 c1_i32_1875
  let v2228 : BitVec 32 := Scalar.addi c0_i32_1876 v2227
  v2228.toNat
def k0_dev97 (d0 : Dev nD) : Nat :=
  let c0_i32_1893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1881 : BitVec 32 := 4#32
  let v2237 : BitVec 32 := Scalar.addi v2 c4_i32_1881
  let c32_i32_1882 : BitVec 32 := 32#32
  let c0_i32_1883 : BitVec 32 := 0#32
  let v2238 : BitVec 1 := Scalar.cmpi .eq c32_i32_1882 c0_i32_1883
  let c1_i32_1884 : BitVec 32 := 1#32
  let v2239 : BitVec 32 := Scalar.select v2238 c1_i32_1884 c32_i32_1882
  let v2240 : BitVec 32 := Scalar.remsi v2237 v2239
  let c0_i32_1886 : BitVec 32 := 0#32
  let v2242 : BitVec 1 := Scalar.cmpi .slt v2240 c0_i32_1886
  let c0_i32_1887 : BitVec 32 := 0#32
  let v2243 : BitVec 1 := Scalar.cmpi .slt v2239 c0_i32_1887
  let v2244 : BitVec 1 := Scalar.xori v2242 v2243
  let c0_i32_1885 : BitVec 32 := 0#32
  let v2241 : BitVec 1 := Scalar.cmpi .ne v2240 c0_i32_1885
  let v2245 : BitVec 1 := Scalar.andi v2244 v2241
  let v2246 : BitVec 32 := Scalar.addi v2240 v2239
  let v2247 : BitVec 32 := Scalar.select v2245 v2246 v2240
  let c1_i32_1892 : BitVec 32 := 1#32
  let v2248 : BitVec 32 := Scalar.muli v2247 c1_i32_1892
  let v2249 : BitVec 32 := Scalar.addi c0_i32_1893 v2248
  v2249.toNat
def k0_dev98 (d0 : Dev nD) : Nat :=
  let c0_i32_1910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1898 : BitVec 32 := 5#32
  let v2258 : BitVec 32 := Scalar.addi v2 c5_i32_1898
  let c32_i32_1899 : BitVec 32 := 32#32
  let c0_i32_1900 : BitVec 32 := 0#32
  let v2259 : BitVec 1 := Scalar.cmpi .eq c32_i32_1899 c0_i32_1900
  let c1_i32_1901 : BitVec 32 := 1#32
  let v2260 : BitVec 32 := Scalar.select v2259 c1_i32_1901 c32_i32_1899
  let v2261 : BitVec 32 := Scalar.remsi v2258 v2260
  let c0_i32_1903 : BitVec 32 := 0#32
  let v2263 : BitVec 1 := Scalar.cmpi .slt v2261 c0_i32_1903
  let c0_i32_1904 : BitVec 32 := 0#32
  let v2264 : BitVec 1 := Scalar.cmpi .slt v2260 c0_i32_1904
  let v2265 : BitVec 1 := Scalar.xori v2263 v2264
  let c0_i32_1902 : BitVec 32 := 0#32
  let v2262 : BitVec 1 := Scalar.cmpi .ne v2261 c0_i32_1902
  let v2266 : BitVec 1 := Scalar.andi v2265 v2262
  let v2267 : BitVec 32 := Scalar.addi v2261 v2260
  let v2268 : BitVec 32 := Scalar.select v2266 v2267 v2261
  let c1_i32_1909 : BitVec 32 := 1#32
  let v2269 : BitVec 32 := Scalar.muli v2268 c1_i32_1909
  let v2270 : BitVec 32 := Scalar.addi c0_i32_1910 v2269
  v2270.toNat
def k0_dev99 (d0 : Dev nD) : Nat :=
  let c0_i32_1927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1915 : BitVec 32 := 6#32
  let v2279 : BitVec 32 := Scalar.addi v2 c6_i32_1915
  let c32_i32_1916 : BitVec 32 := 32#32
  let c0_i32_1917 : BitVec 32 := 0#32
  let v2280 : BitVec 1 := Scalar.cmpi .eq c32_i32_1916 c0_i32_1917
  let c1_i32_1918 : BitVec 32 := 1#32
  let v2281 : BitVec 32 := Scalar.select v2280 c1_i32_1918 c32_i32_1916
  let v2282 : BitVec 32 := Scalar.remsi v2279 v2281
  let c0_i32_1920 : BitVec 32 := 0#32
  let v2284 : BitVec 1 := Scalar.cmpi .slt v2282 c0_i32_1920
  let c0_i32_1921 : BitVec 32 := 0#32
  let v2285 : BitVec 1 := Scalar.cmpi .slt v2281 c0_i32_1921
  let v2286 : BitVec 1 := Scalar.xori v2284 v2285
  let c0_i32_1919 : BitVec 32 := 0#32
  let v2283 : BitVec 1 := Scalar.cmpi .ne v2282 c0_i32_1919
  let v2287 : BitVec 1 := Scalar.andi v2286 v2283
  let v2288 : BitVec 32 := Scalar.addi v2282 v2281
  let v2289 : BitVec 32 := Scalar.select v2287 v2288 v2282
  let c1_i32_1926 : BitVec 32 := 1#32
  let v2290 : BitVec 32 := Scalar.muli v2289 c1_i32_1926
  let v2291 : BitVec 32 := Scalar.addi c0_i32_1927 v2290
  v2291.toNat
def k0_dev100 (d0 : Dev nD) : Nat :=
  let c0_i32_1944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1932 : BitVec 32 := 7#32
  let v2300 : BitVec 32 := Scalar.addi v2 c7_i32_1932
  let c32_i32_1933 : BitVec 32 := 32#32
  let c0_i32_1934 : BitVec 32 := 0#32
  let v2301 : BitVec 1 := Scalar.cmpi .eq c32_i32_1933 c0_i32_1934
  let c1_i32_1935 : BitVec 32 := 1#32
  let v2302 : BitVec 32 := Scalar.select v2301 c1_i32_1935 c32_i32_1933
  let v2303 : BitVec 32 := Scalar.remsi v2300 v2302
  let c0_i32_1937 : BitVec 32 := 0#32
  let v2305 : BitVec 1 := Scalar.cmpi .slt v2303 c0_i32_1937
  let c0_i32_1938 : BitVec 32 := 0#32
  let v2306 : BitVec 1 := Scalar.cmpi .slt v2302 c0_i32_1938
  let v2307 : BitVec 1 := Scalar.xori v2305 v2306
  let c0_i32_1936 : BitVec 32 := 0#32
  let v2304 : BitVec 1 := Scalar.cmpi .ne v2303 c0_i32_1936
  let v2308 : BitVec 1 := Scalar.andi v2307 v2304
  let v2309 : BitVec 32 := Scalar.addi v2303 v2302
  let v2310 : BitVec 32 := Scalar.select v2308 v2309 v2303
  let c1_i32_1943 : BitVec 32 := 1#32
  let v2311 : BitVec 32 := Scalar.muli v2310 c1_i32_1943
  let v2312 : BitVec 32 := Scalar.addi c0_i32_1944 v2311
  v2312.toNat
def k0_dev101 (d0 : Dev nD) : Nat :=
  let c0_i32_2029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2017 : BitVec 32 := 8#32
  let v2385 : BitVec 32 := Scalar.addi v2 c8_i32_2017
  let c32_i32_2018 : BitVec 32 := 32#32
  let c0_i32_2019 : BitVec 32 := 0#32
  let v2386 : BitVec 1 := Scalar.cmpi .eq c32_i32_2018 c0_i32_2019
  let c1_i32_2020 : BitVec 32 := 1#32
  let v2387 : BitVec 32 := Scalar.select v2386 c1_i32_2020 c32_i32_2018
  let v2388 : BitVec 32 := Scalar.remsi v2385 v2387
  let c0_i32_2022 : BitVec 32 := 0#32
  let v2390 : BitVec 1 := Scalar.cmpi .slt v2388 c0_i32_2022
  let c0_i32_2023 : BitVec 32 := 0#32
  let v2391 : BitVec 1 := Scalar.cmpi .slt v2387 c0_i32_2023
  let v2392 : BitVec 1 := Scalar.xori v2390 v2391
  let c0_i32_2021 : BitVec 32 := 0#32
  let v2389 : BitVec 1 := Scalar.cmpi .ne v2388 c0_i32_2021
  let v2393 : BitVec 1 := Scalar.andi v2392 v2389
  let v2394 : BitVec 32 := Scalar.addi v2388 v2387
  let v2395 : BitVec 32 := Scalar.select v2393 v2394 v2388
  let c1_i32_2028 : BitVec 32 := 1#32
  let v2396 : BitVec 32 := Scalar.muli v2395 c1_i32_2028
  let v2397 : BitVec 32 := Scalar.addi c0_i32_2029 v2396
  v2397.toNat
def k0_dev102 (d0 : Dev nD) : Nat :=
  let c0_i32_2046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2034 : BitVec 32 := 9#32
  let v2406 : BitVec 32 := Scalar.addi v2 c9_i32_2034
  let c32_i32_2035 : BitVec 32 := 32#32
  let c0_i32_2036 : BitVec 32 := 0#32
  let v2407 : BitVec 1 := Scalar.cmpi .eq c32_i32_2035 c0_i32_2036
  let c1_i32_2037 : BitVec 32 := 1#32
  let v2408 : BitVec 32 := Scalar.select v2407 c1_i32_2037 c32_i32_2035
  let v2409 : BitVec 32 := Scalar.remsi v2406 v2408
  let c0_i32_2039 : BitVec 32 := 0#32
  let v2411 : BitVec 1 := Scalar.cmpi .slt v2409 c0_i32_2039
  let c0_i32_2040 : BitVec 32 := 0#32
  let v2412 : BitVec 1 := Scalar.cmpi .slt v2408 c0_i32_2040
  let v2413 : BitVec 1 := Scalar.xori v2411 v2412
  let c0_i32_2038 : BitVec 32 := 0#32
  let v2410 : BitVec 1 := Scalar.cmpi .ne v2409 c0_i32_2038
  let v2414 : BitVec 1 := Scalar.andi v2413 v2410
  let v2415 : BitVec 32 := Scalar.addi v2409 v2408
  let v2416 : BitVec 32 := Scalar.select v2414 v2415 v2409
  let c1_i32_2045 : BitVec 32 := 1#32
  let v2417 : BitVec 32 := Scalar.muli v2416 c1_i32_2045
  let v2418 : BitVec 32 := Scalar.addi c0_i32_2046 v2417
  v2418.toNat
def k0_dev103 (d0 : Dev nD) : Nat :=
  let c0_i32_2063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2051 : BitVec 32 := 10#32
  let v2427 : BitVec 32 := Scalar.addi v2 c10_i32_2051
  let c32_i32_2052 : BitVec 32 := 32#32
  let c0_i32_2053 : BitVec 32 := 0#32
  let v2428 : BitVec 1 := Scalar.cmpi .eq c32_i32_2052 c0_i32_2053
  let c1_i32_2054 : BitVec 32 := 1#32
  let v2429 : BitVec 32 := Scalar.select v2428 c1_i32_2054 c32_i32_2052
  let v2430 : BitVec 32 := Scalar.remsi v2427 v2429
  let c0_i32_2056 : BitVec 32 := 0#32
  let v2432 : BitVec 1 := Scalar.cmpi .slt v2430 c0_i32_2056
  let c0_i32_2057 : BitVec 32 := 0#32
  let v2433 : BitVec 1 := Scalar.cmpi .slt v2429 c0_i32_2057
  let v2434 : BitVec 1 := Scalar.xori v2432 v2433
  let c0_i32_2055 : BitVec 32 := 0#32
  let v2431 : BitVec 1 := Scalar.cmpi .ne v2430 c0_i32_2055
  let v2435 : BitVec 1 := Scalar.andi v2434 v2431
  let v2436 : BitVec 32 := Scalar.addi v2430 v2429
  let v2437 : BitVec 32 := Scalar.select v2435 v2436 v2430
  let c1_i32_2062 : BitVec 32 := 1#32
  let v2438 : BitVec 32 := Scalar.muli v2437 c1_i32_2062
  let v2439 : BitVec 32 := Scalar.addi c0_i32_2063 v2438
  v2439.toNat
def k0_dev104 (d0 : Dev nD) : Nat :=
  let c0_i32_2080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2068 : BitVec 32 := 11#32
  let v2448 : BitVec 32 := Scalar.addi v2 c11_i32_2068
  let c32_i32_2069 : BitVec 32 := 32#32
  let c0_i32_2070 : BitVec 32 := 0#32
  let v2449 : BitVec 1 := Scalar.cmpi .eq c32_i32_2069 c0_i32_2070
  let c1_i32_2071 : BitVec 32 := 1#32
  let v2450 : BitVec 32 := Scalar.select v2449 c1_i32_2071 c32_i32_2069
  let v2451 : BitVec 32 := Scalar.remsi v2448 v2450
  let c0_i32_2073 : BitVec 32 := 0#32
  let v2453 : BitVec 1 := Scalar.cmpi .slt v2451 c0_i32_2073
  let c0_i32_2074 : BitVec 32 := 0#32
  let v2454 : BitVec 1 := Scalar.cmpi .slt v2450 c0_i32_2074
  let v2455 : BitVec 1 := Scalar.xori v2453 v2454
  let c0_i32_2072 : BitVec 32 := 0#32
  let v2452 : BitVec 1 := Scalar.cmpi .ne v2451 c0_i32_2072
  let v2456 : BitVec 1 := Scalar.andi v2455 v2452
  let v2457 : BitVec 32 := Scalar.addi v2451 v2450
  let v2458 : BitVec 32 := Scalar.select v2456 v2457 v2451
  let c1_i32_2079 : BitVec 32 := 1#32
  let v2459 : BitVec 32 := Scalar.muli v2458 c1_i32_2079
  let v2460 : BitVec 32 := Scalar.addi c0_i32_2080 v2459
  v2460.toNat
def k0_dev105 (d0 : Dev nD) : Nat :=
  let c0_i32_2097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2085 : BitVec 32 := 12#32
  let v2469 : BitVec 32 := Scalar.addi v2 c12_i32_2085
  let c32_i32_2086 : BitVec 32 := 32#32
  let c0_i32_2087 : BitVec 32 := 0#32
  let v2470 : BitVec 1 := Scalar.cmpi .eq c32_i32_2086 c0_i32_2087
  let c1_i32_2088 : BitVec 32 := 1#32
  let v2471 : BitVec 32 := Scalar.select v2470 c1_i32_2088 c32_i32_2086
  let v2472 : BitVec 32 := Scalar.remsi v2469 v2471
  let c0_i32_2090 : BitVec 32 := 0#32
  let v2474 : BitVec 1 := Scalar.cmpi .slt v2472 c0_i32_2090
  let c0_i32_2091 : BitVec 32 := 0#32
  let v2475 : BitVec 1 := Scalar.cmpi .slt v2471 c0_i32_2091
  let v2476 : BitVec 1 := Scalar.xori v2474 v2475
  let c0_i32_2089 : BitVec 32 := 0#32
  let v2473 : BitVec 1 := Scalar.cmpi .ne v2472 c0_i32_2089
  let v2477 : BitVec 1 := Scalar.andi v2476 v2473
  let v2478 : BitVec 32 := Scalar.addi v2472 v2471
  let v2479 : BitVec 32 := Scalar.select v2477 v2478 v2472
  let c1_i32_2096 : BitVec 32 := 1#32
  let v2480 : BitVec 32 := Scalar.muli v2479 c1_i32_2096
  let v2481 : BitVec 32 := Scalar.addi c0_i32_2097 v2480
  v2481.toNat
def k0_dev106 (d0 : Dev nD) : Nat :=
  let c0_i32_2114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2102 : BitVec 32 := 13#32
  let v2490 : BitVec 32 := Scalar.addi v2 c13_i32_2102
  let c32_i32_2103 : BitVec 32 := 32#32
  let c0_i32_2104 : BitVec 32 := 0#32
  let v2491 : BitVec 1 := Scalar.cmpi .eq c32_i32_2103 c0_i32_2104
  let c1_i32_2105 : BitVec 32 := 1#32
  let v2492 : BitVec 32 := Scalar.select v2491 c1_i32_2105 c32_i32_2103
  let v2493 : BitVec 32 := Scalar.remsi v2490 v2492
  let c0_i32_2107 : BitVec 32 := 0#32
  let v2495 : BitVec 1 := Scalar.cmpi .slt v2493 c0_i32_2107
  let c0_i32_2108 : BitVec 32 := 0#32
  let v2496 : BitVec 1 := Scalar.cmpi .slt v2492 c0_i32_2108
  let v2497 : BitVec 1 := Scalar.xori v2495 v2496
  let c0_i32_2106 : BitVec 32 := 0#32
  let v2494 : BitVec 1 := Scalar.cmpi .ne v2493 c0_i32_2106
  let v2498 : BitVec 1 := Scalar.andi v2497 v2494
  let v2499 : BitVec 32 := Scalar.addi v2493 v2492
  let v2500 : BitVec 32 := Scalar.select v2498 v2499 v2493
  let c1_i32_2113 : BitVec 32 := 1#32
  let v2501 : BitVec 32 := Scalar.muli v2500 c1_i32_2113
  let v2502 : BitVec 32 := Scalar.addi c0_i32_2114 v2501
  v2502.toNat
def k0_dev107 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2119 : BitVec 32 := 14#32
  let v2511 : BitVec 32 := Scalar.addi v2 c14_i32_2119
  let c32_i32_2120 : BitVec 32 := 32#32
  let c0_i32_2121 : BitVec 32 := 0#32
  let v2512 : BitVec 1 := Scalar.cmpi .eq c32_i32_2120 c0_i32_2121
  let c1_i32_2122 : BitVec 32 := 1#32
  let v2513 : BitVec 32 := Scalar.select v2512 c1_i32_2122 c32_i32_2120
  let v2514 : BitVec 32 := Scalar.remsi v2511 v2513
  let c0_i32_2124 : BitVec 32 := 0#32
  let v2516 : BitVec 1 := Scalar.cmpi .slt v2514 c0_i32_2124
  let c0_i32_2125 : BitVec 32 := 0#32
  let v2517 : BitVec 1 := Scalar.cmpi .slt v2513 c0_i32_2125
  let v2518 : BitVec 1 := Scalar.xori v2516 v2517
  let c0_i32_2123 : BitVec 32 := 0#32
  let v2515 : BitVec 1 := Scalar.cmpi .ne v2514 c0_i32_2123
  let v2519 : BitVec 1 := Scalar.andi v2518 v2515
  let v2520 : BitVec 32 := Scalar.addi v2514 v2513
  let v2521 : BitVec 32 := Scalar.select v2519 v2520 v2514
  let c1_i32_2130 : BitVec 32 := 1#32
  let v2522 : BitVec 32 := Scalar.muli v2521 c1_i32_2130
  let v2523 : BitVec 32 := Scalar.addi c0_i32_2131 v2522
  v2523.toNat
def k0_dev108 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2136 : BitVec 32 := 15#32
  let v2532 : BitVec 32 := Scalar.addi v2 c15_i32_2136
  let c32_i32_2137 : BitVec 32 := 32#32
  let c0_i32_2138 : BitVec 32 := 0#32
  let v2533 : BitVec 1 := Scalar.cmpi .eq c32_i32_2137 c0_i32_2138
  let c1_i32_2139 : BitVec 32 := 1#32
  let v2534 : BitVec 32 := Scalar.select v2533 c1_i32_2139 c32_i32_2137
  let v2535 : BitVec 32 := Scalar.remsi v2532 v2534
  let c0_i32_2141 : BitVec 32 := 0#32
  let v2537 : BitVec 1 := Scalar.cmpi .slt v2535 c0_i32_2141
  let c0_i32_2142 : BitVec 32 := 0#32
  let v2538 : BitVec 1 := Scalar.cmpi .slt v2534 c0_i32_2142
  let v2539 : BitVec 1 := Scalar.xori v2537 v2538
  let c0_i32_2140 : BitVec 32 := 0#32
  let v2536 : BitVec 1 := Scalar.cmpi .ne v2535 c0_i32_2140
  let v2540 : BitVec 1 := Scalar.andi v2539 v2536
  let v2541 : BitVec 32 := Scalar.addi v2535 v2534
  let v2542 : BitVec 32 := Scalar.select v2540 v2541 v2535
  let c1_i32_2147 : BitVec 32 := 1#32
  let v2543 : BitVec 32 := Scalar.muli v2542 c1_i32_2147
  let v2544 : BitVec 32 := Scalar.addi c0_i32_2148 v2543
  v2544.toNat
def k0_dev109 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2221 : BitVec 32 := 16#32
  let v2617 : BitVec 32 := Scalar.addi v2 c16_i32_2221
  let c32_i32_2222 : BitVec 32 := 32#32
  let c0_i32_2223 : BitVec 32 := 0#32
  let v2618 : BitVec 1 := Scalar.cmpi .eq c32_i32_2222 c0_i32_2223
  let c1_i32_2224 : BitVec 32 := 1#32
  let v2619 : BitVec 32 := Scalar.select v2618 c1_i32_2224 c32_i32_2222
  let v2620 : BitVec 32 := Scalar.remsi v2617 v2619
  let c0_i32_2226 : BitVec 32 := 0#32
  let v2622 : BitVec 1 := Scalar.cmpi .slt v2620 c0_i32_2226
  let c0_i32_2227 : BitVec 32 := 0#32
  let v2623 : BitVec 1 := Scalar.cmpi .slt v2619 c0_i32_2227
  let v2624 : BitVec 1 := Scalar.xori v2622 v2623
  let c0_i32_2225 : BitVec 32 := 0#32
  let v2621 : BitVec 1 := Scalar.cmpi .ne v2620 c0_i32_2225
  let v2625 : BitVec 1 := Scalar.andi v2624 v2621
  let v2626 : BitVec 32 := Scalar.addi v2620 v2619
  let v2627 : BitVec 32 := Scalar.select v2625 v2626 v2620
  let c1_i32_2232 : BitVec 32 := 1#32
  let v2628 : BitVec 32 := Scalar.muli v2627 c1_i32_2232
  let v2629 : BitVec 32 := Scalar.addi c0_i32_2233 v2628
  v2629.toNat
def k0_dev110 (d0 : Dev nD) : Nat :=
  let c0_i32_2250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2238 : BitVec 32 := 17#32
  let v2638 : BitVec 32 := Scalar.addi v2 c17_i32_2238
  let c32_i32_2239 : BitVec 32 := 32#32
  let c0_i32_2240 : BitVec 32 := 0#32
  let v2639 : BitVec 1 := Scalar.cmpi .eq c32_i32_2239 c0_i32_2240
  let c1_i32_2241 : BitVec 32 := 1#32
  let v2640 : BitVec 32 := Scalar.select v2639 c1_i32_2241 c32_i32_2239
  let v2641 : BitVec 32 := Scalar.remsi v2638 v2640
  let c0_i32_2243 : BitVec 32 := 0#32
  let v2643 : BitVec 1 := Scalar.cmpi .slt v2641 c0_i32_2243
  let c0_i32_2244 : BitVec 32 := 0#32
  let v2644 : BitVec 1 := Scalar.cmpi .slt v2640 c0_i32_2244
  let v2645 : BitVec 1 := Scalar.xori v2643 v2644
  let c0_i32_2242 : BitVec 32 := 0#32
  let v2642 : BitVec 1 := Scalar.cmpi .ne v2641 c0_i32_2242
  let v2646 : BitVec 1 := Scalar.andi v2645 v2642
  let v2647 : BitVec 32 := Scalar.addi v2641 v2640
  let v2648 : BitVec 32 := Scalar.select v2646 v2647 v2641
  let c1_i32_2249 : BitVec 32 := 1#32
  let v2649 : BitVec 32 := Scalar.muli v2648 c1_i32_2249
  let v2650 : BitVec 32 := Scalar.addi c0_i32_2250 v2649
  v2650.toNat
def k0_dev111 (d0 : Dev nD) : Nat :=
  let c0_i32_2267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2255 : BitVec 32 := 18#32
  let v2659 : BitVec 32 := Scalar.addi v2 c18_i32_2255
  let c32_i32_2256 : BitVec 32 := 32#32
  let c0_i32_2257 : BitVec 32 := 0#32
  let v2660 : BitVec 1 := Scalar.cmpi .eq c32_i32_2256 c0_i32_2257
  let c1_i32_2258 : BitVec 32 := 1#32
  let v2661 : BitVec 32 := Scalar.select v2660 c1_i32_2258 c32_i32_2256
  let v2662 : BitVec 32 := Scalar.remsi v2659 v2661
  let c0_i32_2260 : BitVec 32 := 0#32
  let v2664 : BitVec 1 := Scalar.cmpi .slt v2662 c0_i32_2260
  let c0_i32_2261 : BitVec 32 := 0#32
  let v2665 : BitVec 1 := Scalar.cmpi .slt v2661 c0_i32_2261
  let v2666 : BitVec 1 := Scalar.xori v2664 v2665
  let c0_i32_2259 : BitVec 32 := 0#32
  let v2663 : BitVec 1 := Scalar.cmpi .ne v2662 c0_i32_2259
  let v2667 : BitVec 1 := Scalar.andi v2666 v2663
  let v2668 : BitVec 32 := Scalar.addi v2662 v2661
  let v2669 : BitVec 32 := Scalar.select v2667 v2668 v2662
  let c1_i32_2266 : BitVec 32 := 1#32
  let v2670 : BitVec 32 := Scalar.muli v2669 c1_i32_2266
  let v2671 : BitVec 32 := Scalar.addi c0_i32_2267 v2670
  v2671.toNat
def k0_dev112 (d0 : Dev nD) : Nat :=
  let c0_i32_2284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2272 : BitVec 32 := 19#32
  let v2680 : BitVec 32 := Scalar.addi v2 c19_i32_2272
  let c32_i32_2273 : BitVec 32 := 32#32
  let c0_i32_2274 : BitVec 32 := 0#32
  let v2681 : BitVec 1 := Scalar.cmpi .eq c32_i32_2273 c0_i32_2274
  let c1_i32_2275 : BitVec 32 := 1#32
  let v2682 : BitVec 32 := Scalar.select v2681 c1_i32_2275 c32_i32_2273
  let v2683 : BitVec 32 := Scalar.remsi v2680 v2682
  let c0_i32_2277 : BitVec 32 := 0#32
  let v2685 : BitVec 1 := Scalar.cmpi .slt v2683 c0_i32_2277
  let c0_i32_2278 : BitVec 32 := 0#32
  let v2686 : BitVec 1 := Scalar.cmpi .slt v2682 c0_i32_2278
  let v2687 : BitVec 1 := Scalar.xori v2685 v2686
  let c0_i32_2276 : BitVec 32 := 0#32
  let v2684 : BitVec 1 := Scalar.cmpi .ne v2683 c0_i32_2276
  let v2688 : BitVec 1 := Scalar.andi v2687 v2684
  let v2689 : BitVec 32 := Scalar.addi v2683 v2682
  let v2690 : BitVec 32 := Scalar.select v2688 v2689 v2683
  let c1_i32_2283 : BitVec 32 := 1#32
  let v2691 : BitVec 32 := Scalar.muli v2690 c1_i32_2283
  let v2692 : BitVec 32 := Scalar.addi c0_i32_2284 v2691
  v2692.toNat
def k0_dev113 (d0 : Dev nD) : Nat :=
  let c0_i32_2301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2289 : BitVec 32 := 20#32
  let v2701 : BitVec 32 := Scalar.addi v2 c20_i32_2289
  let c32_i32_2290 : BitVec 32 := 32#32
  let c0_i32_2291 : BitVec 32 := 0#32
  let v2702 : BitVec 1 := Scalar.cmpi .eq c32_i32_2290 c0_i32_2291
  let c1_i32_2292 : BitVec 32 := 1#32
  let v2703 : BitVec 32 := Scalar.select v2702 c1_i32_2292 c32_i32_2290
  let v2704 : BitVec 32 := Scalar.remsi v2701 v2703
  let c0_i32_2294 : BitVec 32 := 0#32
  let v2706 : BitVec 1 := Scalar.cmpi .slt v2704 c0_i32_2294
  let c0_i32_2295 : BitVec 32 := 0#32
  let v2707 : BitVec 1 := Scalar.cmpi .slt v2703 c0_i32_2295
  let v2708 : BitVec 1 := Scalar.xori v2706 v2707
  let c0_i32_2293 : BitVec 32 := 0#32
  let v2705 : BitVec 1 := Scalar.cmpi .ne v2704 c0_i32_2293
  let v2709 : BitVec 1 := Scalar.andi v2708 v2705
  let v2710 : BitVec 32 := Scalar.addi v2704 v2703
  let v2711 : BitVec 32 := Scalar.select v2709 v2710 v2704
  let c1_i32_2300 : BitVec 32 := 1#32
  let v2712 : BitVec 32 := Scalar.muli v2711 c1_i32_2300
  let v2713 : BitVec 32 := Scalar.addi c0_i32_2301 v2712
  v2713.toNat
def k0_dev114 (d0 : Dev nD) : Nat :=
  let c0_i32_2318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2306 : BitVec 32 := 21#32
  let v2722 : BitVec 32 := Scalar.addi v2 c21_i32_2306
  let c32_i32_2307 : BitVec 32 := 32#32
  let c0_i32_2308 : BitVec 32 := 0#32
  let v2723 : BitVec 1 := Scalar.cmpi .eq c32_i32_2307 c0_i32_2308
  let c1_i32_2309 : BitVec 32 := 1#32
  let v2724 : BitVec 32 := Scalar.select v2723 c1_i32_2309 c32_i32_2307
  let v2725 : BitVec 32 := Scalar.remsi v2722 v2724
  let c0_i32_2311 : BitVec 32 := 0#32
  let v2727 : BitVec 1 := Scalar.cmpi .slt v2725 c0_i32_2311
  let c0_i32_2312 : BitVec 32 := 0#32
  let v2728 : BitVec 1 := Scalar.cmpi .slt v2724 c0_i32_2312
  let v2729 : BitVec 1 := Scalar.xori v2727 v2728
  let c0_i32_2310 : BitVec 32 := 0#32
  let v2726 : BitVec 1 := Scalar.cmpi .ne v2725 c0_i32_2310
  let v2730 : BitVec 1 := Scalar.andi v2729 v2726
  let v2731 : BitVec 32 := Scalar.addi v2725 v2724
  let v2732 : BitVec 32 := Scalar.select v2730 v2731 v2725
  let c1_i32_2317 : BitVec 32 := 1#32
  let v2733 : BitVec 32 := Scalar.muli v2732 c1_i32_2317
  let v2734 : BitVec 32 := Scalar.addi c0_i32_2318 v2733
  v2734.toNat
def k0_dev115 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2323 : BitVec 32 := 22#32
  let v2743 : BitVec 32 := Scalar.addi v2 c22_i32_2323
  let c32_i32_2324 : BitVec 32 := 32#32
  let c0_i32_2325 : BitVec 32 := 0#32
  let v2744 : BitVec 1 := Scalar.cmpi .eq c32_i32_2324 c0_i32_2325
  let c1_i32_2326 : BitVec 32 := 1#32
  let v2745 : BitVec 32 := Scalar.select v2744 c1_i32_2326 c32_i32_2324
  let v2746 : BitVec 32 := Scalar.remsi v2743 v2745
  let c0_i32_2328 : BitVec 32 := 0#32
  let v2748 : BitVec 1 := Scalar.cmpi .slt v2746 c0_i32_2328
  let c0_i32_2329 : BitVec 32 := 0#32
  let v2749 : BitVec 1 := Scalar.cmpi .slt v2745 c0_i32_2329
  let v2750 : BitVec 1 := Scalar.xori v2748 v2749
  let c0_i32_2327 : BitVec 32 := 0#32
  let v2747 : BitVec 1 := Scalar.cmpi .ne v2746 c0_i32_2327
  let v2751 : BitVec 1 := Scalar.andi v2750 v2747
  let v2752 : BitVec 32 := Scalar.addi v2746 v2745
  let v2753 : BitVec 32 := Scalar.select v2751 v2752 v2746
  let c1_i32_2334 : BitVec 32 := 1#32
  let v2754 : BitVec 32 := Scalar.muli v2753 c1_i32_2334
  let v2755 : BitVec 32 := Scalar.addi c0_i32_2335 v2754
  v2755.toNat
def k0_dev116 (d0 : Dev nD) : Nat :=
  let c0_i32_2352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2340 : BitVec 32 := 23#32
  let v2764 : BitVec 32 := Scalar.addi v2 c23_i32_2340
  let c32_i32_2341 : BitVec 32 := 32#32
  let c0_i32_2342 : BitVec 32 := 0#32
  let v2765 : BitVec 1 := Scalar.cmpi .eq c32_i32_2341 c0_i32_2342
  let c1_i32_2343 : BitVec 32 := 1#32
  let v2766 : BitVec 32 := Scalar.select v2765 c1_i32_2343 c32_i32_2341
  let v2767 : BitVec 32 := Scalar.remsi v2764 v2766
  let c0_i32_2345 : BitVec 32 := 0#32
  let v2769 : BitVec 1 := Scalar.cmpi .slt v2767 c0_i32_2345
  let c0_i32_2346 : BitVec 32 := 0#32
  let v2770 : BitVec 1 := Scalar.cmpi .slt v2766 c0_i32_2346
  let v2771 : BitVec 1 := Scalar.xori v2769 v2770
  let c0_i32_2344 : BitVec 32 := 0#32
  let v2768 : BitVec 1 := Scalar.cmpi .ne v2767 c0_i32_2344
  let v2772 : BitVec 1 := Scalar.andi v2771 v2768
  let v2773 : BitVec 32 := Scalar.addi v2767 v2766
  let v2774 : BitVec 32 := Scalar.select v2772 v2773 v2767
  let c1_i32_2351 : BitVec 32 := 1#32
  let v2775 : BitVec 32 := Scalar.muli v2774 c1_i32_2351
  let v2776 : BitVec 32 := Scalar.addi c0_i32_2352 v2775
  v2776.toNat
def k0_dev117 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2425 : BitVec 32 := 24#32
  let v2849 : BitVec 32 := Scalar.addi v2 c24_i32_2425
  let c32_i32_2426 : BitVec 32 := 32#32
  let c0_i32_2427 : BitVec 32 := 0#32
  let v2850 : BitVec 1 := Scalar.cmpi .eq c32_i32_2426 c0_i32_2427
  let c1_i32_2428 : BitVec 32 := 1#32
  let v2851 : BitVec 32 := Scalar.select v2850 c1_i32_2428 c32_i32_2426
  let v2852 : BitVec 32 := Scalar.remsi v2849 v2851
  let c0_i32_2430 : BitVec 32 := 0#32
  let v2854 : BitVec 1 := Scalar.cmpi .slt v2852 c0_i32_2430
  let c0_i32_2431 : BitVec 32 := 0#32
  let v2855 : BitVec 1 := Scalar.cmpi .slt v2851 c0_i32_2431
  let v2856 : BitVec 1 := Scalar.xori v2854 v2855
  let c0_i32_2429 : BitVec 32 := 0#32
  let v2853 : BitVec 1 := Scalar.cmpi .ne v2852 c0_i32_2429
  let v2857 : BitVec 1 := Scalar.andi v2856 v2853
  let v2858 : BitVec 32 := Scalar.addi v2852 v2851
  let v2859 : BitVec 32 := Scalar.select v2857 v2858 v2852
  let c1_i32_2436 : BitVec 32 := 1#32
  let v2860 : BitVec 32 := Scalar.muli v2859 c1_i32_2436
  let v2861 : BitVec 32 := Scalar.addi c0_i32_2437 v2860
  v2861.toNat
def k0_dev118 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2442 : BitVec 32 := 25#32
  let v2870 : BitVec 32 := Scalar.addi v2 c25_i32_2442
  let c32_i32_2443 : BitVec 32 := 32#32
  let c0_i32_2444 : BitVec 32 := 0#32
  let v2871 : BitVec 1 := Scalar.cmpi .eq c32_i32_2443 c0_i32_2444
  let c1_i32_2445 : BitVec 32 := 1#32
  let v2872 : BitVec 32 := Scalar.select v2871 c1_i32_2445 c32_i32_2443
  let v2873 : BitVec 32 := Scalar.remsi v2870 v2872
  let c0_i32_2447 : BitVec 32 := 0#32
  let v2875 : BitVec 1 := Scalar.cmpi .slt v2873 c0_i32_2447
  let c0_i32_2448 : BitVec 32 := 0#32
  let v2876 : BitVec 1 := Scalar.cmpi .slt v2872 c0_i32_2448
  let v2877 : BitVec 1 := Scalar.xori v2875 v2876
  let c0_i32_2446 : BitVec 32 := 0#32
  let v2874 : BitVec 1 := Scalar.cmpi .ne v2873 c0_i32_2446
  let v2878 : BitVec 1 := Scalar.andi v2877 v2874
  let v2879 : BitVec 32 := Scalar.addi v2873 v2872
  let v2880 : BitVec 32 := Scalar.select v2878 v2879 v2873
  let c1_i32_2453 : BitVec 32 := 1#32
  let v2881 : BitVec 32 := Scalar.muli v2880 c1_i32_2453
  let v2882 : BitVec 32 := Scalar.addi c0_i32_2454 v2881
  v2882.toNat
def k0_dev119 (d0 : Dev nD) : Nat :=
  let c0_i32_2471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2459 : BitVec 32 := 26#32
  let v2891 : BitVec 32 := Scalar.addi v2 c26_i32_2459
  let c32_i32_2460 : BitVec 32 := 32#32
  let c0_i32_2461 : BitVec 32 := 0#32
  let v2892 : BitVec 1 := Scalar.cmpi .eq c32_i32_2460 c0_i32_2461
  let c1_i32_2462 : BitVec 32 := 1#32
  let v2893 : BitVec 32 := Scalar.select v2892 c1_i32_2462 c32_i32_2460
  let v2894 : BitVec 32 := Scalar.remsi v2891 v2893
  let c0_i32_2464 : BitVec 32 := 0#32
  let v2896 : BitVec 1 := Scalar.cmpi .slt v2894 c0_i32_2464
  let c0_i32_2465 : BitVec 32 := 0#32
  let v2897 : BitVec 1 := Scalar.cmpi .slt v2893 c0_i32_2465
  let v2898 : BitVec 1 := Scalar.xori v2896 v2897
  let c0_i32_2463 : BitVec 32 := 0#32
  let v2895 : BitVec 1 := Scalar.cmpi .ne v2894 c0_i32_2463
  let v2899 : BitVec 1 := Scalar.andi v2898 v2895
  let v2900 : BitVec 32 := Scalar.addi v2894 v2893
  let v2901 : BitVec 32 := Scalar.select v2899 v2900 v2894
  let c1_i32_2470 : BitVec 32 := 1#32
  let v2902 : BitVec 32 := Scalar.muli v2901 c1_i32_2470
  let v2903 : BitVec 32 := Scalar.addi c0_i32_2471 v2902
  v2903.toNat
def k0_dev120 (d0 : Dev nD) : Nat :=
  let c0_i32_2488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2476 : BitVec 32 := 27#32
  let v2912 : BitVec 32 := Scalar.addi v2 c27_i32_2476
  let c32_i32_2477 : BitVec 32 := 32#32
  let c0_i32_2478 : BitVec 32 := 0#32
  let v2913 : BitVec 1 := Scalar.cmpi .eq c32_i32_2477 c0_i32_2478
  let c1_i32_2479 : BitVec 32 := 1#32
  let v2914 : BitVec 32 := Scalar.select v2913 c1_i32_2479 c32_i32_2477
  let v2915 : BitVec 32 := Scalar.remsi v2912 v2914
  let c0_i32_2481 : BitVec 32 := 0#32
  let v2917 : BitVec 1 := Scalar.cmpi .slt v2915 c0_i32_2481
  let c0_i32_2482 : BitVec 32 := 0#32
  let v2918 : BitVec 1 := Scalar.cmpi .slt v2914 c0_i32_2482
  let v2919 : BitVec 1 := Scalar.xori v2917 v2918
  let c0_i32_2480 : BitVec 32 := 0#32
  let v2916 : BitVec 1 := Scalar.cmpi .ne v2915 c0_i32_2480
  let v2920 : BitVec 1 := Scalar.andi v2919 v2916
  let v2921 : BitVec 32 := Scalar.addi v2915 v2914
  let v2922 : BitVec 32 := Scalar.select v2920 v2921 v2915
  let c1_i32_2487 : BitVec 32 := 1#32
  let v2923 : BitVec 32 := Scalar.muli v2922 c1_i32_2487
  let v2924 : BitVec 32 := Scalar.addi c0_i32_2488 v2923
  v2924.toNat
def k0_dev121 (d0 : Dev nD) : Nat :=
  let c0_i32_2505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2493 : BitVec 32 := 28#32
  let v2933 : BitVec 32 := Scalar.addi v2 c28_i32_2493
  let c32_i32_2494 : BitVec 32 := 32#32
  let c0_i32_2495 : BitVec 32 := 0#32
  let v2934 : BitVec 1 := Scalar.cmpi .eq c32_i32_2494 c0_i32_2495
  let c1_i32_2496 : BitVec 32 := 1#32
  let v2935 : BitVec 32 := Scalar.select v2934 c1_i32_2496 c32_i32_2494
  let v2936 : BitVec 32 := Scalar.remsi v2933 v2935
  let c0_i32_2498 : BitVec 32 := 0#32
  let v2938 : BitVec 1 := Scalar.cmpi .slt v2936 c0_i32_2498
  let c0_i32_2499 : BitVec 32 := 0#32
  let v2939 : BitVec 1 := Scalar.cmpi .slt v2935 c0_i32_2499
  let v2940 : BitVec 1 := Scalar.xori v2938 v2939
  let c0_i32_2497 : BitVec 32 := 0#32
  let v2937 : BitVec 1 := Scalar.cmpi .ne v2936 c0_i32_2497
  let v2941 : BitVec 1 := Scalar.andi v2940 v2937
  let v2942 : BitVec 32 := Scalar.addi v2936 v2935
  let v2943 : BitVec 32 := Scalar.select v2941 v2942 v2936
  let c1_i32_2504 : BitVec 32 := 1#32
  let v2944 : BitVec 32 := Scalar.muli v2943 c1_i32_2504
  let v2945 : BitVec 32 := Scalar.addi c0_i32_2505 v2944
  v2945.toNat
def k0_dev122 (d0 : Dev nD) : Nat :=
  let c0_i32_2522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2510 : BitVec 32 := 29#32
  let v2954 : BitVec 32 := Scalar.addi v2 c29_i32_2510
  let c32_i32_2511 : BitVec 32 := 32#32
  let c0_i32_2512 : BitVec 32 := 0#32
  let v2955 : BitVec 1 := Scalar.cmpi .eq c32_i32_2511 c0_i32_2512
  let c1_i32_2513 : BitVec 32 := 1#32
  let v2956 : BitVec 32 := Scalar.select v2955 c1_i32_2513 c32_i32_2511
  let v2957 : BitVec 32 := Scalar.remsi v2954 v2956
  let c0_i32_2515 : BitVec 32 := 0#32
  let v2959 : BitVec 1 := Scalar.cmpi .slt v2957 c0_i32_2515
  let c0_i32_2516 : BitVec 32 := 0#32
  let v2960 : BitVec 1 := Scalar.cmpi .slt v2956 c0_i32_2516
  let v2961 : BitVec 1 := Scalar.xori v2959 v2960
  let c0_i32_2514 : BitVec 32 := 0#32
  let v2958 : BitVec 1 := Scalar.cmpi .ne v2957 c0_i32_2514
  let v2962 : BitVec 1 := Scalar.andi v2961 v2958
  let v2963 : BitVec 32 := Scalar.addi v2957 v2956
  let v2964 : BitVec 32 := Scalar.select v2962 v2963 v2957
  let c1_i32_2521 : BitVec 32 := 1#32
  let v2965 : BitVec 32 := Scalar.muli v2964 c1_i32_2521
  let v2966 : BitVec 32 := Scalar.addi c0_i32_2522 v2965
  v2966.toNat
def k0_dev123 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2527 : BitVec 32 := 30#32
  let v2975 : BitVec 32 := Scalar.addi v2 c30_i32_2527
  let c32_i32_2528 : BitVec 32 := 32#32
  let c0_i32_2529 : BitVec 32 := 0#32
  let v2976 : BitVec 1 := Scalar.cmpi .eq c32_i32_2528 c0_i32_2529
  let c1_i32_2530 : BitVec 32 := 1#32
  let v2977 : BitVec 32 := Scalar.select v2976 c1_i32_2530 c32_i32_2528
  let v2978 : BitVec 32 := Scalar.remsi v2975 v2977
  let c0_i32_2532 : BitVec 32 := 0#32
  let v2980 : BitVec 1 := Scalar.cmpi .slt v2978 c0_i32_2532
  let c0_i32_2533 : BitVec 32 := 0#32
  let v2981 : BitVec 1 := Scalar.cmpi .slt v2977 c0_i32_2533
  let v2982 : BitVec 1 := Scalar.xori v2980 v2981
  let c0_i32_2531 : BitVec 32 := 0#32
  let v2979 : BitVec 1 := Scalar.cmpi .ne v2978 c0_i32_2531
  let v2983 : BitVec 1 := Scalar.andi v2982 v2979
  let v2984 : BitVec 32 := Scalar.addi v2978 v2977
  let v2985 : BitVec 32 := Scalar.select v2983 v2984 v2978
  let c1_i32_2538 : BitVec 32 := 1#32
  let v2986 : BitVec 32 := Scalar.muli v2985 c1_i32_2538
  let v2987 : BitVec 32 := Scalar.addi c0_i32_2539 v2986
  v2987.toNat
def k0_dev124 (d0 : Dev nD) : Nat :=
  let c0_i32_2556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2544 : BitVec 32 := 31#32
  let v2996 : BitVec 32 := Scalar.addi v2 c31_i32_2544
  let c32_i32_2545 : BitVec 32 := 32#32
  let c0_i32_2546 : BitVec 32 := 0#32
  let v2997 : BitVec 1 := Scalar.cmpi .eq c32_i32_2545 c0_i32_2546
  let c1_i32_2547 : BitVec 32 := 1#32
  let v2998 : BitVec 32 := Scalar.select v2997 c1_i32_2547 c32_i32_2545
  let v2999 : BitVec 32 := Scalar.remsi v2996 v2998
  let c0_i32_2549 : BitVec 32 := 0#32
  let v3001 : BitVec 1 := Scalar.cmpi .slt v2999 c0_i32_2549
  let c0_i32_2550 : BitVec 32 := 0#32
  let v3002 : BitVec 1 := Scalar.cmpi .slt v2998 c0_i32_2550
  let v3003 : BitVec 1 := Scalar.xori v3001 v3002
  let c0_i32_2548 : BitVec 32 := 0#32
  let v3000 : BitVec 1 := Scalar.cmpi .ne v2999 c0_i32_2548
  let v3004 : BitVec 1 := Scalar.andi v3003 v3000
  let v3005 : BitVec 32 := Scalar.addi v2999 v2998
  let v3006 : BitVec 32 := Scalar.select v3004 v3005 v2999
  let c1_i32_2555 : BitVec 32 := 1#32
  let v3007 : BitVec 32 := Scalar.muli v3006 c1_i32_2555
  let v3008 : BitVec 32 := Scalar.addi c0_i32_2556 v3007
  v3008.toNat
def k0_dev125 (d0 : Dev nD) : Nat :=
  let c0_i32_3364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3353 : BitVec 32 := 1#32
  let v3591 : BitVec 32 := Scalar.addi v2 c1_i32_3353
  let c32_i32_3354 : BitVec 32 := 32#32
  let c0_i32_3355 : BitVec 32 := 0#32
  let v3592 : BitVec 1 := Scalar.cmpi .eq c32_i32_3354 c0_i32_3355
  let c1_i32_3356 : BitVec 32 := 1#32
  let v3593 : BitVec 32 := Scalar.select v3592 c1_i32_3356 c32_i32_3354
  let v3594 : BitVec 32 := Scalar.remsi v3591 v3593
  let c0_i32_3358 : BitVec 32 := 0#32
  let v3596 : BitVec 1 := Scalar.cmpi .slt v3594 c0_i32_3358
  let c0_i32_3359 : BitVec 32 := 0#32
  let v3597 : BitVec 1 := Scalar.cmpi .slt v3593 c0_i32_3359
  let v3598 : BitVec 1 := Scalar.xori v3596 v3597
  let c0_i32_3357 : BitVec 32 := 0#32
  let v3595 : BitVec 1 := Scalar.cmpi .ne v3594 c0_i32_3357
  let v3599 : BitVec 1 := Scalar.andi v3598 v3595
  let v3600 : BitVec 32 := Scalar.addi v3594 v3593
  let v3601 : BitVec 32 := Scalar.select v3599 v3600 v3594
  let c1_i32_3363 : BitVec 32 := 1#32
  let v3602 : BitVec 32 := Scalar.muli v3601 c1_i32_3363
  let v3603 : BitVec 32 := Scalar.addi c0_i32_3364 v3602
  v3603.toNat
def k0_dev126 (d0 : Dev nD) : Nat :=
  let c0_i32_3378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3367 : BitVec 32 := 2#32
  let v3610 : BitVec 32 := Scalar.addi v2 c2_i32_3367
  let c32_i32_3368 : BitVec 32 := 32#32
  let c0_i32_3369 : BitVec 32 := 0#32
  let v3611 : BitVec 1 := Scalar.cmpi .eq c32_i32_3368 c0_i32_3369
  let c1_i32_3370 : BitVec 32 := 1#32
  let v3612 : BitVec 32 := Scalar.select v3611 c1_i32_3370 c32_i32_3368
  let v3613 : BitVec 32 := Scalar.remsi v3610 v3612
  let c0_i32_3372 : BitVec 32 := 0#32
  let v3615 : BitVec 1 := Scalar.cmpi .slt v3613 c0_i32_3372
  let c0_i32_3373 : BitVec 32 := 0#32
  let v3616 : BitVec 1 := Scalar.cmpi .slt v3612 c0_i32_3373
  let v3617 : BitVec 1 := Scalar.xori v3615 v3616
  let c0_i32_3371 : BitVec 32 := 0#32
  let v3614 : BitVec 1 := Scalar.cmpi .ne v3613 c0_i32_3371
  let v3618 : BitVec 1 := Scalar.andi v3617 v3614
  let v3619 : BitVec 32 := Scalar.addi v3613 v3612
  let v3620 : BitVec 32 := Scalar.select v3618 v3619 v3613
  let c1_i32_3377 : BitVec 32 := 1#32
  let v3621 : BitVec 32 := Scalar.muli v3620 c1_i32_3377
  let v3622 : BitVec 32 := Scalar.addi c0_i32_3378 v3621
  v3622.toNat
def k0_dev127 (d0 : Dev nD) : Nat :=
  let c0_i32_3392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3381 : BitVec 32 := 3#32
  let v3629 : BitVec 32 := Scalar.addi v2 c3_i32_3381
  let c32_i32_3382 : BitVec 32 := 32#32
  let c0_i32_3383 : BitVec 32 := 0#32
  let v3630 : BitVec 1 := Scalar.cmpi .eq c32_i32_3382 c0_i32_3383
  let c1_i32_3384 : BitVec 32 := 1#32
  let v3631 : BitVec 32 := Scalar.select v3630 c1_i32_3384 c32_i32_3382
  let v3632 : BitVec 32 := Scalar.remsi v3629 v3631
  let c0_i32_3386 : BitVec 32 := 0#32
  let v3634 : BitVec 1 := Scalar.cmpi .slt v3632 c0_i32_3386
  let c0_i32_3387 : BitVec 32 := 0#32
  let v3635 : BitVec 1 := Scalar.cmpi .slt v3631 c0_i32_3387
  let v3636 : BitVec 1 := Scalar.xori v3634 v3635
  let c0_i32_3385 : BitVec 32 := 0#32
  let v3633 : BitVec 1 := Scalar.cmpi .ne v3632 c0_i32_3385
  let v3637 : BitVec 1 := Scalar.andi v3636 v3633
  let v3638 : BitVec 32 := Scalar.addi v3632 v3631
  let v3639 : BitVec 32 := Scalar.select v3637 v3638 v3632
  let c1_i32_3391 : BitVec 32 := 1#32
  let v3640 : BitVec 32 := Scalar.muli v3639 c1_i32_3391
  let v3641 : BitVec 32 := Scalar.addi c0_i32_3392 v3640
  v3641.toNat
def k0_dev128 (d0 : Dev nD) : Nat :=
  let c0_i32_3406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3395 : BitVec 32 := 4#32
  let v3648 : BitVec 32 := Scalar.addi v2 c4_i32_3395
  let c32_i32_3396 : BitVec 32 := 32#32
  let c0_i32_3397 : BitVec 32 := 0#32
  let v3649 : BitVec 1 := Scalar.cmpi .eq c32_i32_3396 c0_i32_3397
  let c1_i32_3398 : BitVec 32 := 1#32
  let v3650 : BitVec 32 := Scalar.select v3649 c1_i32_3398 c32_i32_3396
  let v3651 : BitVec 32 := Scalar.remsi v3648 v3650
  let c0_i32_3400 : BitVec 32 := 0#32
  let v3653 : BitVec 1 := Scalar.cmpi .slt v3651 c0_i32_3400
  let c0_i32_3401 : BitVec 32 := 0#32
  let v3654 : BitVec 1 := Scalar.cmpi .slt v3650 c0_i32_3401
  let v3655 : BitVec 1 := Scalar.xori v3653 v3654
  let c0_i32_3399 : BitVec 32 := 0#32
  let v3652 : BitVec 1 := Scalar.cmpi .ne v3651 c0_i32_3399
  let v3656 : BitVec 1 := Scalar.andi v3655 v3652
  let v3657 : BitVec 32 := Scalar.addi v3651 v3650
  let v3658 : BitVec 32 := Scalar.select v3656 v3657 v3651
  let c1_i32_3405 : BitVec 32 := 1#32
  let v3659 : BitVec 32 := Scalar.muli v3658 c1_i32_3405
  let v3660 : BitVec 32 := Scalar.addi c0_i32_3406 v3659
  v3660.toNat
def k0_dev129 (d0 : Dev nD) : Nat :=
  let c0_i32_3420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3409 : BitVec 32 := 5#32
  let v3667 : BitVec 32 := Scalar.addi v2 c5_i32_3409
  let c32_i32_3410 : BitVec 32 := 32#32
  let c0_i32_3411 : BitVec 32 := 0#32
  let v3668 : BitVec 1 := Scalar.cmpi .eq c32_i32_3410 c0_i32_3411
  let c1_i32_3412 : BitVec 32 := 1#32
  let v3669 : BitVec 32 := Scalar.select v3668 c1_i32_3412 c32_i32_3410
  let v3670 : BitVec 32 := Scalar.remsi v3667 v3669
  let c0_i32_3414 : BitVec 32 := 0#32
  let v3672 : BitVec 1 := Scalar.cmpi .slt v3670 c0_i32_3414
  let c0_i32_3415 : BitVec 32 := 0#32
  let v3673 : BitVec 1 := Scalar.cmpi .slt v3669 c0_i32_3415
  let v3674 : BitVec 1 := Scalar.xori v3672 v3673
  let c0_i32_3413 : BitVec 32 := 0#32
  let v3671 : BitVec 1 := Scalar.cmpi .ne v3670 c0_i32_3413
  let v3675 : BitVec 1 := Scalar.andi v3674 v3671
  let v3676 : BitVec 32 := Scalar.addi v3670 v3669
  let v3677 : BitVec 32 := Scalar.select v3675 v3676 v3670
  let c1_i32_3419 : BitVec 32 := 1#32
  let v3678 : BitVec 32 := Scalar.muli v3677 c1_i32_3419
  let v3679 : BitVec 32 := Scalar.addi c0_i32_3420 v3678
  v3679.toNat
def k0_dev130 (d0 : Dev nD) : Nat :=
  let c0_i32_3434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3423 : BitVec 32 := 6#32
  let v3686 : BitVec 32 := Scalar.addi v2 c6_i32_3423
  let c32_i32_3424 : BitVec 32 := 32#32
  let c0_i32_3425 : BitVec 32 := 0#32
  let v3687 : BitVec 1 := Scalar.cmpi .eq c32_i32_3424 c0_i32_3425
  let c1_i32_3426 : BitVec 32 := 1#32
  let v3688 : BitVec 32 := Scalar.select v3687 c1_i32_3426 c32_i32_3424
  let v3689 : BitVec 32 := Scalar.remsi v3686 v3688
  let c0_i32_3428 : BitVec 32 := 0#32
  let v3691 : BitVec 1 := Scalar.cmpi .slt v3689 c0_i32_3428
  let c0_i32_3429 : BitVec 32 := 0#32
  let v3692 : BitVec 1 := Scalar.cmpi .slt v3688 c0_i32_3429
  let v3693 : BitVec 1 := Scalar.xori v3691 v3692
  let c0_i32_3427 : BitVec 32 := 0#32
  let v3690 : BitVec 1 := Scalar.cmpi .ne v3689 c0_i32_3427
  let v3694 : BitVec 1 := Scalar.andi v3693 v3690
  let v3695 : BitVec 32 := Scalar.addi v3689 v3688
  let v3696 : BitVec 32 := Scalar.select v3694 v3695 v3689
  let c1_i32_3433 : BitVec 32 := 1#32
  let v3697 : BitVec 32 := Scalar.muli v3696 c1_i32_3433
  let v3698 : BitVec 32 := Scalar.addi c0_i32_3434 v3697
  v3698.toNat
def k0_dev131 (d0 : Dev nD) : Nat :=
  let c0_i32_3448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3437 : BitVec 32 := 7#32
  let v3705 : BitVec 32 := Scalar.addi v2 c7_i32_3437
  let c32_i32_3438 : BitVec 32 := 32#32
  let c0_i32_3439 : BitVec 32 := 0#32
  let v3706 : BitVec 1 := Scalar.cmpi .eq c32_i32_3438 c0_i32_3439
  let c1_i32_3440 : BitVec 32 := 1#32
  let v3707 : BitVec 32 := Scalar.select v3706 c1_i32_3440 c32_i32_3438
  let v3708 : BitVec 32 := Scalar.remsi v3705 v3707
  let c0_i32_3442 : BitVec 32 := 0#32
  let v3710 : BitVec 1 := Scalar.cmpi .slt v3708 c0_i32_3442
  let c0_i32_3443 : BitVec 32 := 0#32
  let v3711 : BitVec 1 := Scalar.cmpi .slt v3707 c0_i32_3443
  let v3712 : BitVec 1 := Scalar.xori v3710 v3711
  let c0_i32_3441 : BitVec 32 := 0#32
  let v3709 : BitVec 1 := Scalar.cmpi .ne v3708 c0_i32_3441
  let v3713 : BitVec 1 := Scalar.andi v3712 v3709
  let v3714 : BitVec 32 := Scalar.addi v3708 v3707
  let v3715 : BitVec 32 := Scalar.select v3713 v3714 v3708
  let c1_i32_3447 : BitVec 32 := 1#32
  let v3716 : BitVec 32 := Scalar.muli v3715 c1_i32_3447
  let v3717 : BitVec 32 := Scalar.addi c0_i32_3448 v3716
  v3717.toNat
def k0_dev132 (d0 : Dev nD) : Nat :=
  let c0_i32_3462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3451 : BitVec 32 := 8#32
  let v3724 : BitVec 32 := Scalar.addi v2 c8_i32_3451
  let c32_i32_3452 : BitVec 32 := 32#32
  let c0_i32_3453 : BitVec 32 := 0#32
  let v3725 : BitVec 1 := Scalar.cmpi .eq c32_i32_3452 c0_i32_3453
  let c1_i32_3454 : BitVec 32 := 1#32
  let v3726 : BitVec 32 := Scalar.select v3725 c1_i32_3454 c32_i32_3452
  let v3727 : BitVec 32 := Scalar.remsi v3724 v3726
  let c0_i32_3456 : BitVec 32 := 0#32
  let v3729 : BitVec 1 := Scalar.cmpi .slt v3727 c0_i32_3456
  let c0_i32_3457 : BitVec 32 := 0#32
  let v3730 : BitVec 1 := Scalar.cmpi .slt v3726 c0_i32_3457
  let v3731 : BitVec 1 := Scalar.xori v3729 v3730
  let c0_i32_3455 : BitVec 32 := 0#32
  let v3728 : BitVec 1 := Scalar.cmpi .ne v3727 c0_i32_3455
  let v3732 : BitVec 1 := Scalar.andi v3731 v3728
  let v3733 : BitVec 32 := Scalar.addi v3727 v3726
  let v3734 : BitVec 32 := Scalar.select v3732 v3733 v3727
  let c1_i32_3461 : BitVec 32 := 1#32
  let v3735 : BitVec 32 := Scalar.muli v3734 c1_i32_3461
  let v3736 : BitVec 32 := Scalar.addi c0_i32_3462 v3735
  v3736.toNat
def k0_dev133 (d0 : Dev nD) : Nat :=
  let c0_i32_3476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3465 : BitVec 32 := 9#32
  let v3743 : BitVec 32 := Scalar.addi v2 c9_i32_3465
  let c32_i32_3466 : BitVec 32 := 32#32
  let c0_i32_3467 : BitVec 32 := 0#32
  let v3744 : BitVec 1 := Scalar.cmpi .eq c32_i32_3466 c0_i32_3467
  let c1_i32_3468 : BitVec 32 := 1#32
  let v3745 : BitVec 32 := Scalar.select v3744 c1_i32_3468 c32_i32_3466
  let v3746 : BitVec 32 := Scalar.remsi v3743 v3745
  let c0_i32_3470 : BitVec 32 := 0#32
  let v3748 : BitVec 1 := Scalar.cmpi .slt v3746 c0_i32_3470
  let c0_i32_3471 : BitVec 32 := 0#32
  let v3749 : BitVec 1 := Scalar.cmpi .slt v3745 c0_i32_3471
  let v3750 : BitVec 1 := Scalar.xori v3748 v3749
  let c0_i32_3469 : BitVec 32 := 0#32
  let v3747 : BitVec 1 := Scalar.cmpi .ne v3746 c0_i32_3469
  let v3751 : BitVec 1 := Scalar.andi v3750 v3747
  let v3752 : BitVec 32 := Scalar.addi v3746 v3745
  let v3753 : BitVec 32 := Scalar.select v3751 v3752 v3746
  let c1_i32_3475 : BitVec 32 := 1#32
  let v3754 : BitVec 32 := Scalar.muli v3753 c1_i32_3475
  let v3755 : BitVec 32 := Scalar.addi c0_i32_3476 v3754
  v3755.toNat
def k0_dev134 (d0 : Dev nD) : Nat :=
  let c0_i32_3490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3479 : BitVec 32 := 10#32
  let v3762 : BitVec 32 := Scalar.addi v2 c10_i32_3479
  let c32_i32_3480 : BitVec 32 := 32#32
  let c0_i32_3481 : BitVec 32 := 0#32
  let v3763 : BitVec 1 := Scalar.cmpi .eq c32_i32_3480 c0_i32_3481
  let c1_i32_3482 : BitVec 32 := 1#32
  let v3764 : BitVec 32 := Scalar.select v3763 c1_i32_3482 c32_i32_3480
  let v3765 : BitVec 32 := Scalar.remsi v3762 v3764
  let c0_i32_3484 : BitVec 32 := 0#32
  let v3767 : BitVec 1 := Scalar.cmpi .slt v3765 c0_i32_3484
  let c0_i32_3485 : BitVec 32 := 0#32
  let v3768 : BitVec 1 := Scalar.cmpi .slt v3764 c0_i32_3485
  let v3769 : BitVec 1 := Scalar.xori v3767 v3768
  let c0_i32_3483 : BitVec 32 := 0#32
  let v3766 : BitVec 1 := Scalar.cmpi .ne v3765 c0_i32_3483
  let v3770 : BitVec 1 := Scalar.andi v3769 v3766
  let v3771 : BitVec 32 := Scalar.addi v3765 v3764
  let v3772 : BitVec 32 := Scalar.select v3770 v3771 v3765
  let c1_i32_3489 : BitVec 32 := 1#32
  let v3773 : BitVec 32 := Scalar.muli v3772 c1_i32_3489
  let v3774 : BitVec 32 := Scalar.addi c0_i32_3490 v3773
  v3774.toNat
def k0_dev135 (d0 : Dev nD) : Nat :=
  let c0_i32_3504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3493 : BitVec 32 := 11#32
  let v3781 : BitVec 32 := Scalar.addi v2 c11_i32_3493
  let c32_i32_3494 : BitVec 32 := 32#32
  let c0_i32_3495 : BitVec 32 := 0#32
  let v3782 : BitVec 1 := Scalar.cmpi .eq c32_i32_3494 c0_i32_3495
  let c1_i32_3496 : BitVec 32 := 1#32
  let v3783 : BitVec 32 := Scalar.select v3782 c1_i32_3496 c32_i32_3494
  let v3784 : BitVec 32 := Scalar.remsi v3781 v3783
  let c0_i32_3498 : BitVec 32 := 0#32
  let v3786 : BitVec 1 := Scalar.cmpi .slt v3784 c0_i32_3498
  let c0_i32_3499 : BitVec 32 := 0#32
  let v3787 : BitVec 1 := Scalar.cmpi .slt v3783 c0_i32_3499
  let v3788 : BitVec 1 := Scalar.xori v3786 v3787
  let c0_i32_3497 : BitVec 32 := 0#32
  let v3785 : BitVec 1 := Scalar.cmpi .ne v3784 c0_i32_3497
  let v3789 : BitVec 1 := Scalar.andi v3788 v3785
  let v3790 : BitVec 32 := Scalar.addi v3784 v3783
  let v3791 : BitVec 32 := Scalar.select v3789 v3790 v3784
  let c1_i32_3503 : BitVec 32 := 1#32
  let v3792 : BitVec 32 := Scalar.muli v3791 c1_i32_3503
  let v3793 : BitVec 32 := Scalar.addi c0_i32_3504 v3792
  v3793.toNat
def k0_dev136 (d0 : Dev nD) : Nat :=
  let c0_i32_3518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3507 : BitVec 32 := 12#32
  let v3800 : BitVec 32 := Scalar.addi v2 c12_i32_3507
  let c32_i32_3508 : BitVec 32 := 32#32
  let c0_i32_3509 : BitVec 32 := 0#32
  let v3801 : BitVec 1 := Scalar.cmpi .eq c32_i32_3508 c0_i32_3509
  let c1_i32_3510 : BitVec 32 := 1#32
  let v3802 : BitVec 32 := Scalar.select v3801 c1_i32_3510 c32_i32_3508
  let v3803 : BitVec 32 := Scalar.remsi v3800 v3802
  let c0_i32_3512 : BitVec 32 := 0#32
  let v3805 : BitVec 1 := Scalar.cmpi .slt v3803 c0_i32_3512
  let c0_i32_3513 : BitVec 32 := 0#32
  let v3806 : BitVec 1 := Scalar.cmpi .slt v3802 c0_i32_3513
  let v3807 : BitVec 1 := Scalar.xori v3805 v3806
  let c0_i32_3511 : BitVec 32 := 0#32
  let v3804 : BitVec 1 := Scalar.cmpi .ne v3803 c0_i32_3511
  let v3808 : BitVec 1 := Scalar.andi v3807 v3804
  let v3809 : BitVec 32 := Scalar.addi v3803 v3802
  let v3810 : BitVec 32 := Scalar.select v3808 v3809 v3803
  let c1_i32_3517 : BitVec 32 := 1#32
  let v3811 : BitVec 32 := Scalar.muli v3810 c1_i32_3517
  let v3812 : BitVec 32 := Scalar.addi c0_i32_3518 v3811
  v3812.toNat
def k0_dev137 (d0 : Dev nD) : Nat :=
  let c0_i32_3532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3521 : BitVec 32 := 13#32
  let v3819 : BitVec 32 := Scalar.addi v2 c13_i32_3521
  let c32_i32_3522 : BitVec 32 := 32#32
  let c0_i32_3523 : BitVec 32 := 0#32
  let v3820 : BitVec 1 := Scalar.cmpi .eq c32_i32_3522 c0_i32_3523
  let c1_i32_3524 : BitVec 32 := 1#32
  let v3821 : BitVec 32 := Scalar.select v3820 c1_i32_3524 c32_i32_3522
  let v3822 : BitVec 32 := Scalar.remsi v3819 v3821
  let c0_i32_3526 : BitVec 32 := 0#32
  let v3824 : BitVec 1 := Scalar.cmpi .slt v3822 c0_i32_3526
  let c0_i32_3527 : BitVec 32 := 0#32
  let v3825 : BitVec 1 := Scalar.cmpi .slt v3821 c0_i32_3527
  let v3826 : BitVec 1 := Scalar.xori v3824 v3825
  let c0_i32_3525 : BitVec 32 := 0#32
  let v3823 : BitVec 1 := Scalar.cmpi .ne v3822 c0_i32_3525
  let v3827 : BitVec 1 := Scalar.andi v3826 v3823
  let v3828 : BitVec 32 := Scalar.addi v3822 v3821
  let v3829 : BitVec 32 := Scalar.select v3827 v3828 v3822
  let c1_i32_3531 : BitVec 32 := 1#32
  let v3830 : BitVec 32 := Scalar.muli v3829 c1_i32_3531
  let v3831 : BitVec 32 := Scalar.addi c0_i32_3532 v3830
  v3831.toNat
def k0_dev138 (d0 : Dev nD) : Nat :=
  let c0_i32_3546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3535 : BitVec 32 := 14#32
  let v3838 : BitVec 32 := Scalar.addi v2 c14_i32_3535
  let c32_i32_3536 : BitVec 32 := 32#32
  let c0_i32_3537 : BitVec 32 := 0#32
  let v3839 : BitVec 1 := Scalar.cmpi .eq c32_i32_3536 c0_i32_3537
  let c1_i32_3538 : BitVec 32 := 1#32
  let v3840 : BitVec 32 := Scalar.select v3839 c1_i32_3538 c32_i32_3536
  let v3841 : BitVec 32 := Scalar.remsi v3838 v3840
  let c0_i32_3540 : BitVec 32 := 0#32
  let v3843 : BitVec 1 := Scalar.cmpi .slt v3841 c0_i32_3540
  let c0_i32_3541 : BitVec 32 := 0#32
  let v3844 : BitVec 1 := Scalar.cmpi .slt v3840 c0_i32_3541
  let v3845 : BitVec 1 := Scalar.xori v3843 v3844
  let c0_i32_3539 : BitVec 32 := 0#32
  let v3842 : BitVec 1 := Scalar.cmpi .ne v3841 c0_i32_3539
  let v3846 : BitVec 1 := Scalar.andi v3845 v3842
  let v3847 : BitVec 32 := Scalar.addi v3841 v3840
  let v3848 : BitVec 32 := Scalar.select v3846 v3847 v3841
  let c1_i32_3545 : BitVec 32 := 1#32
  let v3849 : BitVec 32 := Scalar.muli v3848 c1_i32_3545
  let v3850 : BitVec 32 := Scalar.addi c0_i32_3546 v3849
  v3850.toNat
def k0_dev139 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3549 : BitVec 32 := 15#32
  let v3857 : BitVec 32 := Scalar.addi v2 c15_i32_3549
  let c32_i32_3550 : BitVec 32 := 32#32
  let c0_i32_3551 : BitVec 32 := 0#32
  let v3858 : BitVec 1 := Scalar.cmpi .eq c32_i32_3550 c0_i32_3551
  let c1_i32_3552 : BitVec 32 := 1#32
  let v3859 : BitVec 32 := Scalar.select v3858 c1_i32_3552 c32_i32_3550
  let v3860 : BitVec 32 := Scalar.remsi v3857 v3859
  let c0_i32_3554 : BitVec 32 := 0#32
  let v3862 : BitVec 1 := Scalar.cmpi .slt v3860 c0_i32_3554
  let c0_i32_3555 : BitVec 32 := 0#32
  let v3863 : BitVec 1 := Scalar.cmpi .slt v3859 c0_i32_3555
  let v3864 : BitVec 1 := Scalar.xori v3862 v3863
  let c0_i32_3553 : BitVec 32 := 0#32
  let v3861 : BitVec 1 := Scalar.cmpi .ne v3860 c0_i32_3553
  let v3865 : BitVec 1 := Scalar.andi v3864 v3861
  let v3866 : BitVec 32 := Scalar.addi v3860 v3859
  let v3867 : BitVec 32 := Scalar.select v3865 v3866 v3860
  let c1_i32_3559 : BitVec 32 := 1#32
  let v3868 : BitVec 32 := Scalar.muli v3867 c1_i32_3559
  let v3869 : BitVec 32 := Scalar.addi c0_i32_3560 v3868
  v3869.toNat
def k0_dev140 (d0 : Dev nD) : Nat :=
  let c0_i32_3574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3563 : BitVec 32 := 16#32
  let v3876 : BitVec 32 := Scalar.addi v2 c16_i32_3563
  let c32_i32_3564 : BitVec 32 := 32#32
  let c0_i32_3565 : BitVec 32 := 0#32
  let v3877 : BitVec 1 := Scalar.cmpi .eq c32_i32_3564 c0_i32_3565
  let c1_i32_3566 : BitVec 32 := 1#32
  let v3878 : BitVec 32 := Scalar.select v3877 c1_i32_3566 c32_i32_3564
  let v3879 : BitVec 32 := Scalar.remsi v3876 v3878
  let c0_i32_3568 : BitVec 32 := 0#32
  let v3881 : BitVec 1 := Scalar.cmpi .slt v3879 c0_i32_3568
  let c0_i32_3569 : BitVec 32 := 0#32
  let v3882 : BitVec 1 := Scalar.cmpi .slt v3878 c0_i32_3569
  let v3883 : BitVec 1 := Scalar.xori v3881 v3882
  let c0_i32_3567 : BitVec 32 := 0#32
  let v3880 : BitVec 1 := Scalar.cmpi .ne v3879 c0_i32_3567
  let v3884 : BitVec 1 := Scalar.andi v3883 v3880
  let v3885 : BitVec 32 := Scalar.addi v3879 v3878
  let v3886 : BitVec 32 := Scalar.select v3884 v3885 v3879
  let c1_i32_3573 : BitVec 32 := 1#32
  let v3887 : BitVec 32 := Scalar.muli v3886 c1_i32_3573
  let v3888 : BitVec 32 := Scalar.addi c0_i32_3574 v3887
  v3888.toNat
def k0_dev141 (d0 : Dev nD) : Nat :=
  let c0_i32_3588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3577 : BitVec 32 := 17#32
  let v3895 : BitVec 32 := Scalar.addi v2 c17_i32_3577
  let c32_i32_3578 : BitVec 32 := 32#32
  let c0_i32_3579 : BitVec 32 := 0#32
  let v3896 : BitVec 1 := Scalar.cmpi .eq c32_i32_3578 c0_i32_3579
  let c1_i32_3580 : BitVec 32 := 1#32
  let v3897 : BitVec 32 := Scalar.select v3896 c1_i32_3580 c32_i32_3578
  let v3898 : BitVec 32 := Scalar.remsi v3895 v3897
  let c0_i32_3582 : BitVec 32 := 0#32
  let v3900 : BitVec 1 := Scalar.cmpi .slt v3898 c0_i32_3582
  let c0_i32_3583 : BitVec 32 := 0#32
  let v3901 : BitVec 1 := Scalar.cmpi .slt v3897 c0_i32_3583
  let v3902 : BitVec 1 := Scalar.xori v3900 v3901
  let c0_i32_3581 : BitVec 32 := 0#32
  let v3899 : BitVec 1 := Scalar.cmpi .ne v3898 c0_i32_3581
  let v3903 : BitVec 1 := Scalar.andi v3902 v3899
  let v3904 : BitVec 32 := Scalar.addi v3898 v3897
  let v3905 : BitVec 32 := Scalar.select v3903 v3904 v3898
  let c1_i32_3587 : BitVec 32 := 1#32
  let v3906 : BitVec 32 := Scalar.muli v3905 c1_i32_3587
  let v3907 : BitVec 32 := Scalar.addi c0_i32_3588 v3906
  v3907.toNat
def k0_dev142 (d0 : Dev nD) : Nat :=
  let c0_i32_3602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3591 : BitVec 32 := 18#32
  let v3914 : BitVec 32 := Scalar.addi v2 c18_i32_3591
  let c32_i32_3592 : BitVec 32 := 32#32
  let c0_i32_3593 : BitVec 32 := 0#32
  let v3915 : BitVec 1 := Scalar.cmpi .eq c32_i32_3592 c0_i32_3593
  let c1_i32_3594 : BitVec 32 := 1#32
  let v3916 : BitVec 32 := Scalar.select v3915 c1_i32_3594 c32_i32_3592
  let v3917 : BitVec 32 := Scalar.remsi v3914 v3916
  let c0_i32_3596 : BitVec 32 := 0#32
  let v3919 : BitVec 1 := Scalar.cmpi .slt v3917 c0_i32_3596
  let c0_i32_3597 : BitVec 32 := 0#32
  let v3920 : BitVec 1 := Scalar.cmpi .slt v3916 c0_i32_3597
  let v3921 : BitVec 1 := Scalar.xori v3919 v3920
  let c0_i32_3595 : BitVec 32 := 0#32
  let v3918 : BitVec 1 := Scalar.cmpi .ne v3917 c0_i32_3595
  let v3922 : BitVec 1 := Scalar.andi v3921 v3918
  let v3923 : BitVec 32 := Scalar.addi v3917 v3916
  let v3924 : BitVec 32 := Scalar.select v3922 v3923 v3917
  let c1_i32_3601 : BitVec 32 := 1#32
  let v3925 : BitVec 32 := Scalar.muli v3924 c1_i32_3601
  let v3926 : BitVec 32 := Scalar.addi c0_i32_3602 v3925
  v3926.toNat
def k0_dev143 (d0 : Dev nD) : Nat :=
  let c0_i32_3616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3605 : BitVec 32 := 19#32
  let v3933 : BitVec 32 := Scalar.addi v2 c19_i32_3605
  let c32_i32_3606 : BitVec 32 := 32#32
  let c0_i32_3607 : BitVec 32 := 0#32
  let v3934 : BitVec 1 := Scalar.cmpi .eq c32_i32_3606 c0_i32_3607
  let c1_i32_3608 : BitVec 32 := 1#32
  let v3935 : BitVec 32 := Scalar.select v3934 c1_i32_3608 c32_i32_3606
  let v3936 : BitVec 32 := Scalar.remsi v3933 v3935
  let c0_i32_3610 : BitVec 32 := 0#32
  let v3938 : BitVec 1 := Scalar.cmpi .slt v3936 c0_i32_3610
  let c0_i32_3611 : BitVec 32 := 0#32
  let v3939 : BitVec 1 := Scalar.cmpi .slt v3935 c0_i32_3611
  let v3940 : BitVec 1 := Scalar.xori v3938 v3939
  let c0_i32_3609 : BitVec 32 := 0#32
  let v3937 : BitVec 1 := Scalar.cmpi .ne v3936 c0_i32_3609
  let v3941 : BitVec 1 := Scalar.andi v3940 v3937
  let v3942 : BitVec 32 := Scalar.addi v3936 v3935
  let v3943 : BitVec 32 := Scalar.select v3941 v3942 v3936
  let c1_i32_3615 : BitVec 32 := 1#32
  let v3944 : BitVec 32 := Scalar.muli v3943 c1_i32_3615
  let v3945 : BitVec 32 := Scalar.addi c0_i32_3616 v3944
  v3945.toNat
def k0_dev144 (d0 : Dev nD) : Nat :=
  let c0_i32_3630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3619 : BitVec 32 := 20#32
  let v3952 : BitVec 32 := Scalar.addi v2 c20_i32_3619
  let c32_i32_3620 : BitVec 32 := 32#32
  let c0_i32_3621 : BitVec 32 := 0#32
  let v3953 : BitVec 1 := Scalar.cmpi .eq c32_i32_3620 c0_i32_3621
  let c1_i32_3622 : BitVec 32 := 1#32
  let v3954 : BitVec 32 := Scalar.select v3953 c1_i32_3622 c32_i32_3620
  let v3955 : BitVec 32 := Scalar.remsi v3952 v3954
  let c0_i32_3624 : BitVec 32 := 0#32
  let v3957 : BitVec 1 := Scalar.cmpi .slt v3955 c0_i32_3624
  let c0_i32_3625 : BitVec 32 := 0#32
  let v3958 : BitVec 1 := Scalar.cmpi .slt v3954 c0_i32_3625
  let v3959 : BitVec 1 := Scalar.xori v3957 v3958
  let c0_i32_3623 : BitVec 32 := 0#32
  let v3956 : BitVec 1 := Scalar.cmpi .ne v3955 c0_i32_3623
  let v3960 : BitVec 1 := Scalar.andi v3959 v3956
  let v3961 : BitVec 32 := Scalar.addi v3955 v3954
  let v3962 : BitVec 32 := Scalar.select v3960 v3961 v3955
  let c1_i32_3629 : BitVec 32 := 1#32
  let v3963 : BitVec 32 := Scalar.muli v3962 c1_i32_3629
  let v3964 : BitVec 32 := Scalar.addi c0_i32_3630 v3963
  v3964.toNat
def k0_dev145 (d0 : Dev nD) : Nat :=
  let c0_i32_3644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3633 : BitVec 32 := 21#32
  let v3971 : BitVec 32 := Scalar.addi v2 c21_i32_3633
  let c32_i32_3634 : BitVec 32 := 32#32
  let c0_i32_3635 : BitVec 32 := 0#32
  let v3972 : BitVec 1 := Scalar.cmpi .eq c32_i32_3634 c0_i32_3635
  let c1_i32_3636 : BitVec 32 := 1#32
  let v3973 : BitVec 32 := Scalar.select v3972 c1_i32_3636 c32_i32_3634
  let v3974 : BitVec 32 := Scalar.remsi v3971 v3973
  let c0_i32_3638 : BitVec 32 := 0#32
  let v3976 : BitVec 1 := Scalar.cmpi .slt v3974 c0_i32_3638
  let c0_i32_3639 : BitVec 32 := 0#32
  let v3977 : BitVec 1 := Scalar.cmpi .slt v3973 c0_i32_3639
  let v3978 : BitVec 1 := Scalar.xori v3976 v3977
  let c0_i32_3637 : BitVec 32 := 0#32
  let v3975 : BitVec 1 := Scalar.cmpi .ne v3974 c0_i32_3637
  let v3979 : BitVec 1 := Scalar.andi v3978 v3975
  let v3980 : BitVec 32 := Scalar.addi v3974 v3973
  let v3981 : BitVec 32 := Scalar.select v3979 v3980 v3974
  let c1_i32_3643 : BitVec 32 := 1#32
  let v3982 : BitVec 32 := Scalar.muli v3981 c1_i32_3643
  let v3983 : BitVec 32 := Scalar.addi c0_i32_3644 v3982
  v3983.toNat
def k0_dev146 (d0 : Dev nD) : Nat :=
  let c0_i32_3658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3647 : BitVec 32 := 22#32
  let v3990 : BitVec 32 := Scalar.addi v2 c22_i32_3647
  let c32_i32_3648 : BitVec 32 := 32#32
  let c0_i32_3649 : BitVec 32 := 0#32
  let v3991 : BitVec 1 := Scalar.cmpi .eq c32_i32_3648 c0_i32_3649
  let c1_i32_3650 : BitVec 32 := 1#32
  let v3992 : BitVec 32 := Scalar.select v3991 c1_i32_3650 c32_i32_3648
  let v3993 : BitVec 32 := Scalar.remsi v3990 v3992
  let c0_i32_3652 : BitVec 32 := 0#32
  let v3995 : BitVec 1 := Scalar.cmpi .slt v3993 c0_i32_3652
  let c0_i32_3653 : BitVec 32 := 0#32
  let v3996 : BitVec 1 := Scalar.cmpi .slt v3992 c0_i32_3653
  let v3997 : BitVec 1 := Scalar.xori v3995 v3996
  let c0_i32_3651 : BitVec 32 := 0#32
  let v3994 : BitVec 1 := Scalar.cmpi .ne v3993 c0_i32_3651
  let v3998 : BitVec 1 := Scalar.andi v3997 v3994
  let v3999 : BitVec 32 := Scalar.addi v3993 v3992
  let v4000 : BitVec 32 := Scalar.select v3998 v3999 v3993
  let c1_i32_3657 : BitVec 32 := 1#32
  let v4001 : BitVec 32 := Scalar.muli v4000 c1_i32_3657
  let v4002 : BitVec 32 := Scalar.addi c0_i32_3658 v4001
  v4002.toNat
def k0_dev147 (d0 : Dev nD) : Nat :=
  let c0_i32_3672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3661 : BitVec 32 := 23#32
  let v4009 : BitVec 32 := Scalar.addi v2 c23_i32_3661
  let c32_i32_3662 : BitVec 32 := 32#32
  let c0_i32_3663 : BitVec 32 := 0#32
  let v4010 : BitVec 1 := Scalar.cmpi .eq c32_i32_3662 c0_i32_3663
  let c1_i32_3664 : BitVec 32 := 1#32
  let v4011 : BitVec 32 := Scalar.select v4010 c1_i32_3664 c32_i32_3662
  let v4012 : BitVec 32 := Scalar.remsi v4009 v4011
  let c0_i32_3666 : BitVec 32 := 0#32
  let v4014 : BitVec 1 := Scalar.cmpi .slt v4012 c0_i32_3666
  let c0_i32_3667 : BitVec 32 := 0#32
  let v4015 : BitVec 1 := Scalar.cmpi .slt v4011 c0_i32_3667
  let v4016 : BitVec 1 := Scalar.xori v4014 v4015
  let c0_i32_3665 : BitVec 32 := 0#32
  let v4013 : BitVec 1 := Scalar.cmpi .ne v4012 c0_i32_3665
  let v4017 : BitVec 1 := Scalar.andi v4016 v4013
  let v4018 : BitVec 32 := Scalar.addi v4012 v4011
  let v4019 : BitVec 32 := Scalar.select v4017 v4018 v4012
  let c1_i32_3671 : BitVec 32 := 1#32
  let v4020 : BitVec 32 := Scalar.muli v4019 c1_i32_3671
  let v4021 : BitVec 32 := Scalar.addi c0_i32_3672 v4020
  v4021.toNat
def k0_dev148 (d0 : Dev nD) : Nat :=
  let c0_i32_3686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3675 : BitVec 32 := 24#32
  let v4028 : BitVec 32 := Scalar.addi v2 c24_i32_3675
  let c32_i32_3676 : BitVec 32 := 32#32
  let c0_i32_3677 : BitVec 32 := 0#32
  let v4029 : BitVec 1 := Scalar.cmpi .eq c32_i32_3676 c0_i32_3677
  let c1_i32_3678 : BitVec 32 := 1#32
  let v4030 : BitVec 32 := Scalar.select v4029 c1_i32_3678 c32_i32_3676
  let v4031 : BitVec 32 := Scalar.remsi v4028 v4030
  let c0_i32_3680 : BitVec 32 := 0#32
  let v4033 : BitVec 1 := Scalar.cmpi .slt v4031 c0_i32_3680
  let c0_i32_3681 : BitVec 32 := 0#32
  let v4034 : BitVec 1 := Scalar.cmpi .slt v4030 c0_i32_3681
  let v4035 : BitVec 1 := Scalar.xori v4033 v4034
  let c0_i32_3679 : BitVec 32 := 0#32
  let v4032 : BitVec 1 := Scalar.cmpi .ne v4031 c0_i32_3679
  let v4036 : BitVec 1 := Scalar.andi v4035 v4032
  let v4037 : BitVec 32 := Scalar.addi v4031 v4030
  let v4038 : BitVec 32 := Scalar.select v4036 v4037 v4031
  let c1_i32_3685 : BitVec 32 := 1#32
  let v4039 : BitVec 32 := Scalar.muli v4038 c1_i32_3685
  let v4040 : BitVec 32 := Scalar.addi c0_i32_3686 v4039
  v4040.toNat
def k0_dev149 (d0 : Dev nD) : Nat :=
  let c0_i32_3700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3689 : BitVec 32 := 25#32
  let v4047 : BitVec 32 := Scalar.addi v2 c25_i32_3689
  let c32_i32_3690 : BitVec 32 := 32#32
  let c0_i32_3691 : BitVec 32 := 0#32
  let v4048 : BitVec 1 := Scalar.cmpi .eq c32_i32_3690 c0_i32_3691
  let c1_i32_3692 : BitVec 32 := 1#32
  let v4049 : BitVec 32 := Scalar.select v4048 c1_i32_3692 c32_i32_3690
  let v4050 : BitVec 32 := Scalar.remsi v4047 v4049
  let c0_i32_3694 : BitVec 32 := 0#32
  let v4052 : BitVec 1 := Scalar.cmpi .slt v4050 c0_i32_3694
  let c0_i32_3695 : BitVec 32 := 0#32
  let v4053 : BitVec 1 := Scalar.cmpi .slt v4049 c0_i32_3695
  let v4054 : BitVec 1 := Scalar.xori v4052 v4053
  let c0_i32_3693 : BitVec 32 := 0#32
  let v4051 : BitVec 1 := Scalar.cmpi .ne v4050 c0_i32_3693
  let v4055 : BitVec 1 := Scalar.andi v4054 v4051
  let v4056 : BitVec 32 := Scalar.addi v4050 v4049
  let v4057 : BitVec 32 := Scalar.select v4055 v4056 v4050
  let c1_i32_3699 : BitVec 32 := 1#32
  let v4058 : BitVec 32 := Scalar.muli v4057 c1_i32_3699
  let v4059 : BitVec 32 := Scalar.addi c0_i32_3700 v4058
  v4059.toNat
def k0_dev150 (d0 : Dev nD) : Nat :=
  let c0_i32_3714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3703 : BitVec 32 := 26#32
  let v4066 : BitVec 32 := Scalar.addi v2 c26_i32_3703
  let c32_i32_3704 : BitVec 32 := 32#32
  let c0_i32_3705 : BitVec 32 := 0#32
  let v4067 : BitVec 1 := Scalar.cmpi .eq c32_i32_3704 c0_i32_3705
  let c1_i32_3706 : BitVec 32 := 1#32
  let v4068 : BitVec 32 := Scalar.select v4067 c1_i32_3706 c32_i32_3704
  let v4069 : BitVec 32 := Scalar.remsi v4066 v4068
  let c0_i32_3708 : BitVec 32 := 0#32
  let v4071 : BitVec 1 := Scalar.cmpi .slt v4069 c0_i32_3708
  let c0_i32_3709 : BitVec 32 := 0#32
  let v4072 : BitVec 1 := Scalar.cmpi .slt v4068 c0_i32_3709
  let v4073 : BitVec 1 := Scalar.xori v4071 v4072
  let c0_i32_3707 : BitVec 32 := 0#32
  let v4070 : BitVec 1 := Scalar.cmpi .ne v4069 c0_i32_3707
  let v4074 : BitVec 1 := Scalar.andi v4073 v4070
  let v4075 : BitVec 32 := Scalar.addi v4069 v4068
  let v4076 : BitVec 32 := Scalar.select v4074 v4075 v4069
  let c1_i32_3713 : BitVec 32 := 1#32
  let v4077 : BitVec 32 := Scalar.muli v4076 c1_i32_3713
  let v4078 : BitVec 32 := Scalar.addi c0_i32_3714 v4077
  v4078.toNat
def k0_dev151 (d0 : Dev nD) : Nat :=
  let c0_i32_3728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3717 : BitVec 32 := 27#32
  let v4085 : BitVec 32 := Scalar.addi v2 c27_i32_3717
  let c32_i32_3718 : BitVec 32 := 32#32
  let c0_i32_3719 : BitVec 32 := 0#32
  let v4086 : BitVec 1 := Scalar.cmpi .eq c32_i32_3718 c0_i32_3719
  let c1_i32_3720 : BitVec 32 := 1#32
  let v4087 : BitVec 32 := Scalar.select v4086 c1_i32_3720 c32_i32_3718
  let v4088 : BitVec 32 := Scalar.remsi v4085 v4087
  let c0_i32_3722 : BitVec 32 := 0#32
  let v4090 : BitVec 1 := Scalar.cmpi .slt v4088 c0_i32_3722
  let c0_i32_3723 : BitVec 32 := 0#32
  let v4091 : BitVec 1 := Scalar.cmpi .slt v4087 c0_i32_3723
  let v4092 : BitVec 1 := Scalar.xori v4090 v4091
  let c0_i32_3721 : BitVec 32 := 0#32
  let v4089 : BitVec 1 := Scalar.cmpi .ne v4088 c0_i32_3721
  let v4093 : BitVec 1 := Scalar.andi v4092 v4089
  let v4094 : BitVec 32 := Scalar.addi v4088 v4087
  let v4095 : BitVec 32 := Scalar.select v4093 v4094 v4088
  let c1_i32_3727 : BitVec 32 := 1#32
  let v4096 : BitVec 32 := Scalar.muli v4095 c1_i32_3727
  let v4097 : BitVec 32 := Scalar.addi c0_i32_3728 v4096
  v4097.toNat
def k0_dev152 (d0 : Dev nD) : Nat :=
  let c0_i32_3742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3731 : BitVec 32 := 28#32
  let v4104 : BitVec 32 := Scalar.addi v2 c28_i32_3731
  let c32_i32_3732 : BitVec 32 := 32#32
  let c0_i32_3733 : BitVec 32 := 0#32
  let v4105 : BitVec 1 := Scalar.cmpi .eq c32_i32_3732 c0_i32_3733
  let c1_i32_3734 : BitVec 32 := 1#32
  let v4106 : BitVec 32 := Scalar.select v4105 c1_i32_3734 c32_i32_3732
  let v4107 : BitVec 32 := Scalar.remsi v4104 v4106
  let c0_i32_3736 : BitVec 32 := 0#32
  let v4109 : BitVec 1 := Scalar.cmpi .slt v4107 c0_i32_3736
  let c0_i32_3737 : BitVec 32 := 0#32
  let v4110 : BitVec 1 := Scalar.cmpi .slt v4106 c0_i32_3737
  let v4111 : BitVec 1 := Scalar.xori v4109 v4110
  let c0_i32_3735 : BitVec 32 := 0#32
  let v4108 : BitVec 1 := Scalar.cmpi .ne v4107 c0_i32_3735
  let v4112 : BitVec 1 := Scalar.andi v4111 v4108
  let v4113 : BitVec 32 := Scalar.addi v4107 v4106
  let v4114 : BitVec 32 := Scalar.select v4112 v4113 v4107
  let c1_i32_3741 : BitVec 32 := 1#32
  let v4115 : BitVec 32 := Scalar.muli v4114 c1_i32_3741
  let v4116 : BitVec 32 := Scalar.addi c0_i32_3742 v4115
  v4116.toNat
def k0_dev153 (d0 : Dev nD) : Nat :=
  let c0_i32_3756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3745 : BitVec 32 := 29#32
  let v4123 : BitVec 32 := Scalar.addi v2 c29_i32_3745
  let c32_i32_3746 : BitVec 32 := 32#32
  let c0_i32_3747 : BitVec 32 := 0#32
  let v4124 : BitVec 1 := Scalar.cmpi .eq c32_i32_3746 c0_i32_3747
  let c1_i32_3748 : BitVec 32 := 1#32
  let v4125 : BitVec 32 := Scalar.select v4124 c1_i32_3748 c32_i32_3746
  let v4126 : BitVec 32 := Scalar.remsi v4123 v4125
  let c0_i32_3750 : BitVec 32 := 0#32
  let v4128 : BitVec 1 := Scalar.cmpi .slt v4126 c0_i32_3750
  let c0_i32_3751 : BitVec 32 := 0#32
  let v4129 : BitVec 1 := Scalar.cmpi .slt v4125 c0_i32_3751
  let v4130 : BitVec 1 := Scalar.xori v4128 v4129
  let c0_i32_3749 : BitVec 32 := 0#32
  let v4127 : BitVec 1 := Scalar.cmpi .ne v4126 c0_i32_3749
  let v4131 : BitVec 1 := Scalar.andi v4130 v4127
  let v4132 : BitVec 32 := Scalar.addi v4126 v4125
  let v4133 : BitVec 32 := Scalar.select v4131 v4132 v4126
  let c1_i32_3755 : BitVec 32 := 1#32
  let v4134 : BitVec 32 := Scalar.muli v4133 c1_i32_3755
  let v4135 : BitVec 32 := Scalar.addi c0_i32_3756 v4134
  v4135.toNat
def k0_dev154 (d0 : Dev nD) : Nat :=
  let c0_i32_3770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3759 : BitVec 32 := 30#32
  let v4142 : BitVec 32 := Scalar.addi v2 c30_i32_3759
  let c32_i32_3760 : BitVec 32 := 32#32
  let c0_i32_3761 : BitVec 32 := 0#32
  let v4143 : BitVec 1 := Scalar.cmpi .eq c32_i32_3760 c0_i32_3761
  let c1_i32_3762 : BitVec 32 := 1#32
  let v4144 : BitVec 32 := Scalar.select v4143 c1_i32_3762 c32_i32_3760
  let v4145 : BitVec 32 := Scalar.remsi v4142 v4144
  let c0_i32_3764 : BitVec 32 := 0#32
  let v4147 : BitVec 1 := Scalar.cmpi .slt v4145 c0_i32_3764
  let c0_i32_3765 : BitVec 32 := 0#32
  let v4148 : BitVec 1 := Scalar.cmpi .slt v4144 c0_i32_3765
  let v4149 : BitVec 1 := Scalar.xori v4147 v4148
  let c0_i32_3763 : BitVec 32 := 0#32
  let v4146 : BitVec 1 := Scalar.cmpi .ne v4145 c0_i32_3763
  let v4150 : BitVec 1 := Scalar.andi v4149 v4146
  let v4151 : BitVec 32 := Scalar.addi v4145 v4144
  let v4152 : BitVec 32 := Scalar.select v4150 v4151 v4145
  let c1_i32_3769 : BitVec 32 := 1#32
  let v4153 : BitVec 32 := Scalar.muli v4152 c1_i32_3769
  let v4154 : BitVec 32 := Scalar.addi c0_i32_3770 v4153
  v4154.toNat
def k0_dev155 (d0 : Dev nD) : Nat :=
  let c0_i32_3784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3773 : BitVec 32 := 31#32
  let v4161 : BitVec 32 := Scalar.addi v2 c31_i32_3773
  let c32_i32_3774 : BitVec 32 := 32#32
  let c0_i32_3775 : BitVec 32 := 0#32
  let v4162 : BitVec 1 := Scalar.cmpi .eq c32_i32_3774 c0_i32_3775
  let c1_i32_3776 : BitVec 32 := 1#32
  let v4163 : BitVec 32 := Scalar.select v4162 c1_i32_3776 c32_i32_3774
  let v4164 : BitVec 32 := Scalar.remsi v4161 v4163
  let c0_i32_3778 : BitVec 32 := 0#32
  let v4166 : BitVec 1 := Scalar.cmpi .slt v4164 c0_i32_3778
  let c0_i32_3779 : BitVec 32 := 0#32
  let v4167 : BitVec 1 := Scalar.cmpi .slt v4163 c0_i32_3779
  let v4168 : BitVec 1 := Scalar.xori v4166 v4167
  let c0_i32_3777 : BitVec 32 := 0#32
  let v4165 : BitVec 1 := Scalar.cmpi .ne v4164 c0_i32_3777
  let v4169 : BitVec 1 := Scalar.andi v4168 v4165
  let v4170 : BitVec 32 := Scalar.addi v4164 v4163
  let v4171 : BitVec 32 := Scalar.select v4169 v4170 v4164
  let c1_i32_3783 : BitVec 32 := 1#32
  let v4172 : BitVec 32 := Scalar.muli v4171 c1_i32_3783
  let v4173 : BitVec 32 := Scalar.addi c0_i32_3784 v4172
  v4173.toNat
def k0_dev156 (d0 : Dev nD) : Nat :=
  let c0_i32_3861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3849 : BitVec 32 := 1#32
  let v4238 : BitVec 32 := Scalar.addi v2 c1_i32_3849
  let c32_i32_3850 : BitVec 32 := 32#32
  let c0_i32_3851 : BitVec 32 := 0#32
  let v4239 : BitVec 1 := Scalar.cmpi .eq c32_i32_3850 c0_i32_3851
  let c1_i32_3852 : BitVec 32 := 1#32
  let v4240 : BitVec 32 := Scalar.select v4239 c1_i32_3852 c32_i32_3850
  let v4241 : BitVec 32 := Scalar.remsi v4238 v4240
  let c0_i32_3854 : BitVec 32 := 0#32
  let v4243 : BitVec 1 := Scalar.cmpi .slt v4241 c0_i32_3854
  let c0_i32_3855 : BitVec 32 := 0#32
  let v4244 : BitVec 1 := Scalar.cmpi .slt v4240 c0_i32_3855
  let v4245 : BitVec 1 := Scalar.xori v4243 v4244
  let c0_i32_3853 : BitVec 32 := 0#32
  let v4242 : BitVec 1 := Scalar.cmpi .ne v4241 c0_i32_3853
  let v4246 : BitVec 1 := Scalar.andi v4245 v4242
  let v4247 : BitVec 32 := Scalar.addi v4241 v4240
  let v4248 : BitVec 32 := Scalar.select v4246 v4247 v4241
  let c1_i32_3860 : BitVec 32 := 1#32
  let v4249 : BitVec 32 := Scalar.muli v4248 c1_i32_3860
  let v4250 : BitVec 32 := Scalar.addi c0_i32_3861 v4249
  v4250.toNat
def k0_dev157 (d0 : Dev nD) : Nat :=
  let c0_i32_3878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3866 : BitVec 32 := 2#32
  let v4259 : BitVec 32 := Scalar.addi v2 c2_i32_3866
  let c32_i32_3867 : BitVec 32 := 32#32
  let c0_i32_3868 : BitVec 32 := 0#32
  let v4260 : BitVec 1 := Scalar.cmpi .eq c32_i32_3867 c0_i32_3868
  let c1_i32_3869 : BitVec 32 := 1#32
  let v4261 : BitVec 32 := Scalar.select v4260 c1_i32_3869 c32_i32_3867
  let v4262 : BitVec 32 := Scalar.remsi v4259 v4261
  let c0_i32_3871 : BitVec 32 := 0#32
  let v4264 : BitVec 1 := Scalar.cmpi .slt v4262 c0_i32_3871
  let c0_i32_3872 : BitVec 32 := 0#32
  let v4265 : BitVec 1 := Scalar.cmpi .slt v4261 c0_i32_3872
  let v4266 : BitVec 1 := Scalar.xori v4264 v4265
  let c0_i32_3870 : BitVec 32 := 0#32
  let v4263 : BitVec 1 := Scalar.cmpi .ne v4262 c0_i32_3870
  let v4267 : BitVec 1 := Scalar.andi v4266 v4263
  let v4268 : BitVec 32 := Scalar.addi v4262 v4261
  let v4269 : BitVec 32 := Scalar.select v4267 v4268 v4262
  let c1_i32_3877 : BitVec 32 := 1#32
  let v4270 : BitVec 32 := Scalar.muli v4269 c1_i32_3877
  let v4271 : BitVec 32 := Scalar.addi c0_i32_3878 v4270
  v4271.toNat
def k0_dev158 (d0 : Dev nD) : Nat :=
  let c0_i32_3895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3883 : BitVec 32 := 3#32
  let v4280 : BitVec 32 := Scalar.addi v2 c3_i32_3883
  let c32_i32_3884 : BitVec 32 := 32#32
  let c0_i32_3885 : BitVec 32 := 0#32
  let v4281 : BitVec 1 := Scalar.cmpi .eq c32_i32_3884 c0_i32_3885
  let c1_i32_3886 : BitVec 32 := 1#32
  let v4282 : BitVec 32 := Scalar.select v4281 c1_i32_3886 c32_i32_3884
  let v4283 : BitVec 32 := Scalar.remsi v4280 v4282
  let c0_i32_3888 : BitVec 32 := 0#32
  let v4285 : BitVec 1 := Scalar.cmpi .slt v4283 c0_i32_3888
  let c0_i32_3889 : BitVec 32 := 0#32
  let v4286 : BitVec 1 := Scalar.cmpi .slt v4282 c0_i32_3889
  let v4287 : BitVec 1 := Scalar.xori v4285 v4286
  let c0_i32_3887 : BitVec 32 := 0#32
  let v4284 : BitVec 1 := Scalar.cmpi .ne v4283 c0_i32_3887
  let v4288 : BitVec 1 := Scalar.andi v4287 v4284
  let v4289 : BitVec 32 := Scalar.addi v4283 v4282
  let v4290 : BitVec 32 := Scalar.select v4288 v4289 v4283
  let c1_i32_3894 : BitVec 32 := 1#32
  let v4291 : BitVec 32 := Scalar.muli v4290 c1_i32_3894
  let v4292 : BitVec 32 := Scalar.addi c0_i32_3895 v4291
  v4292.toNat
def k0_dev159 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3900 : BitVec 32 := 4#32
  let v4301 : BitVec 32 := Scalar.addi v2 c4_i32_3900
  let c32_i32_3901 : BitVec 32 := 32#32
  let c0_i32_3902 : BitVec 32 := 0#32
  let v4302 : BitVec 1 := Scalar.cmpi .eq c32_i32_3901 c0_i32_3902
  let c1_i32_3903 : BitVec 32 := 1#32
  let v4303 : BitVec 32 := Scalar.select v4302 c1_i32_3903 c32_i32_3901
  let v4304 : BitVec 32 := Scalar.remsi v4301 v4303
  let c0_i32_3905 : BitVec 32 := 0#32
  let v4306 : BitVec 1 := Scalar.cmpi .slt v4304 c0_i32_3905
  let c0_i32_3906 : BitVec 32 := 0#32
  let v4307 : BitVec 1 := Scalar.cmpi .slt v4303 c0_i32_3906
  let v4308 : BitVec 1 := Scalar.xori v4306 v4307
  let c0_i32_3904 : BitVec 32 := 0#32
  let v4305 : BitVec 1 := Scalar.cmpi .ne v4304 c0_i32_3904
  let v4309 : BitVec 1 := Scalar.andi v4308 v4305
  let v4310 : BitVec 32 := Scalar.addi v4304 v4303
  let v4311 : BitVec 32 := Scalar.select v4309 v4310 v4304
  let c1_i32_3911 : BitVec 32 := 1#32
  let v4312 : BitVec 32 := Scalar.muli v4311 c1_i32_3911
  let v4313 : BitVec 32 := Scalar.addi c0_i32_3912 v4312
  v4313.toNat
def k0_dev160 (d0 : Dev nD) : Nat :=
  let c0_i32_3929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3917 : BitVec 32 := 5#32
  let v4322 : BitVec 32 := Scalar.addi v2 c5_i32_3917
  let c32_i32_3918 : BitVec 32 := 32#32
  let c0_i32_3919 : BitVec 32 := 0#32
  let v4323 : BitVec 1 := Scalar.cmpi .eq c32_i32_3918 c0_i32_3919
  let c1_i32_3920 : BitVec 32 := 1#32
  let v4324 : BitVec 32 := Scalar.select v4323 c1_i32_3920 c32_i32_3918
  let v4325 : BitVec 32 := Scalar.remsi v4322 v4324
  let c0_i32_3922 : BitVec 32 := 0#32
  let v4327 : BitVec 1 := Scalar.cmpi .slt v4325 c0_i32_3922
  let c0_i32_3923 : BitVec 32 := 0#32
  let v4328 : BitVec 1 := Scalar.cmpi .slt v4324 c0_i32_3923
  let v4329 : BitVec 1 := Scalar.xori v4327 v4328
  let c0_i32_3921 : BitVec 32 := 0#32
  let v4326 : BitVec 1 := Scalar.cmpi .ne v4325 c0_i32_3921
  let v4330 : BitVec 1 := Scalar.andi v4329 v4326
  let v4331 : BitVec 32 := Scalar.addi v4325 v4324
  let v4332 : BitVec 32 := Scalar.select v4330 v4331 v4325
  let c1_i32_3928 : BitVec 32 := 1#32
  let v4333 : BitVec 32 := Scalar.muli v4332 c1_i32_3928
  let v4334 : BitVec 32 := Scalar.addi c0_i32_3929 v4333
  v4334.toNat
def k0_dev161 (d0 : Dev nD) : Nat :=
  let c0_i32_3946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3934 : BitVec 32 := 6#32
  let v4343 : BitVec 32 := Scalar.addi v2 c6_i32_3934
  let c32_i32_3935 : BitVec 32 := 32#32
  let c0_i32_3936 : BitVec 32 := 0#32
  let v4344 : BitVec 1 := Scalar.cmpi .eq c32_i32_3935 c0_i32_3936
  let c1_i32_3937 : BitVec 32 := 1#32
  let v4345 : BitVec 32 := Scalar.select v4344 c1_i32_3937 c32_i32_3935
  let v4346 : BitVec 32 := Scalar.remsi v4343 v4345
  let c0_i32_3939 : BitVec 32 := 0#32
  let v4348 : BitVec 1 := Scalar.cmpi .slt v4346 c0_i32_3939
  let c0_i32_3940 : BitVec 32 := 0#32
  let v4349 : BitVec 1 := Scalar.cmpi .slt v4345 c0_i32_3940
  let v4350 : BitVec 1 := Scalar.xori v4348 v4349
  let c0_i32_3938 : BitVec 32 := 0#32
  let v4347 : BitVec 1 := Scalar.cmpi .ne v4346 c0_i32_3938
  let v4351 : BitVec 1 := Scalar.andi v4350 v4347
  let v4352 : BitVec 32 := Scalar.addi v4346 v4345
  let v4353 : BitVec 32 := Scalar.select v4351 v4352 v4346
  let c1_i32_3945 : BitVec 32 := 1#32
  let v4354 : BitVec 32 := Scalar.muli v4353 c1_i32_3945
  let v4355 : BitVec 32 := Scalar.addi c0_i32_3946 v4354
  v4355.toNat
def k0_dev162 (d0 : Dev nD) : Nat :=
  let c0_i32_3963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3951 : BitVec 32 := 7#32
  let v4364 : BitVec 32 := Scalar.addi v2 c7_i32_3951
  let c32_i32_3952 : BitVec 32 := 32#32
  let c0_i32_3953 : BitVec 32 := 0#32
  let v4365 : BitVec 1 := Scalar.cmpi .eq c32_i32_3952 c0_i32_3953
  let c1_i32_3954 : BitVec 32 := 1#32
  let v4366 : BitVec 32 := Scalar.select v4365 c1_i32_3954 c32_i32_3952
  let v4367 : BitVec 32 := Scalar.remsi v4364 v4366
  let c0_i32_3956 : BitVec 32 := 0#32
  let v4369 : BitVec 1 := Scalar.cmpi .slt v4367 c0_i32_3956
  let c0_i32_3957 : BitVec 32 := 0#32
  let v4370 : BitVec 1 := Scalar.cmpi .slt v4366 c0_i32_3957
  let v4371 : BitVec 1 := Scalar.xori v4369 v4370
  let c0_i32_3955 : BitVec 32 := 0#32
  let v4368 : BitVec 1 := Scalar.cmpi .ne v4367 c0_i32_3955
  let v4372 : BitVec 1 := Scalar.andi v4371 v4368
  let v4373 : BitVec 32 := Scalar.addi v4367 v4366
  let v4374 : BitVec 32 := Scalar.select v4372 v4373 v4367
  let c1_i32_3962 : BitVec 32 := 1#32
  let v4375 : BitVec 32 := Scalar.muli v4374 c1_i32_3962
  let v4376 : BitVec 32 := Scalar.addi c0_i32_3963 v4375
  v4376.toNat
def k0_dev163 (d0 : Dev nD) : Nat :=
  let c0_i32_4049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4037 : BitVec 32 := 8#32
  let v4449 : BitVec 32 := Scalar.addi v2 c8_i32_4037
  let c32_i32_4038 : BitVec 32 := 32#32
  let c0_i32_4039 : BitVec 32 := 0#32
  let v4450 : BitVec 1 := Scalar.cmpi .eq c32_i32_4038 c0_i32_4039
  let c1_i32_4040 : BitVec 32 := 1#32
  let v4451 : BitVec 32 := Scalar.select v4450 c1_i32_4040 c32_i32_4038
  let v4452 : BitVec 32 := Scalar.remsi v4449 v4451
  let c0_i32_4042 : BitVec 32 := 0#32
  let v4454 : BitVec 1 := Scalar.cmpi .slt v4452 c0_i32_4042
  let c0_i32_4043 : BitVec 32 := 0#32
  let v4455 : BitVec 1 := Scalar.cmpi .slt v4451 c0_i32_4043
  let v4456 : BitVec 1 := Scalar.xori v4454 v4455
  let c0_i32_4041 : BitVec 32 := 0#32
  let v4453 : BitVec 1 := Scalar.cmpi .ne v4452 c0_i32_4041
  let v4457 : BitVec 1 := Scalar.andi v4456 v4453
  let v4458 : BitVec 32 := Scalar.addi v4452 v4451
  let v4459 : BitVec 32 := Scalar.select v4457 v4458 v4452
  let c1_i32_4048 : BitVec 32 := 1#32
  let v4460 : BitVec 32 := Scalar.muli v4459 c1_i32_4048
  let v4461 : BitVec 32 := Scalar.addi c0_i32_4049 v4460
  v4461.toNat
def k0_dev164 (d0 : Dev nD) : Nat :=
  let c0_i32_4066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4054 : BitVec 32 := 9#32
  let v4470 : BitVec 32 := Scalar.addi v2 c9_i32_4054
  let c32_i32_4055 : BitVec 32 := 32#32
  let c0_i32_4056 : BitVec 32 := 0#32
  let v4471 : BitVec 1 := Scalar.cmpi .eq c32_i32_4055 c0_i32_4056
  let c1_i32_4057 : BitVec 32 := 1#32
  let v4472 : BitVec 32 := Scalar.select v4471 c1_i32_4057 c32_i32_4055
  let v4473 : BitVec 32 := Scalar.remsi v4470 v4472
  let c0_i32_4059 : BitVec 32 := 0#32
  let v4475 : BitVec 1 := Scalar.cmpi .slt v4473 c0_i32_4059
  let c0_i32_4060 : BitVec 32 := 0#32
  let v4476 : BitVec 1 := Scalar.cmpi .slt v4472 c0_i32_4060
  let v4477 : BitVec 1 := Scalar.xori v4475 v4476
  let c0_i32_4058 : BitVec 32 := 0#32
  let v4474 : BitVec 1 := Scalar.cmpi .ne v4473 c0_i32_4058
  let v4478 : BitVec 1 := Scalar.andi v4477 v4474
  let v4479 : BitVec 32 := Scalar.addi v4473 v4472
  let v4480 : BitVec 32 := Scalar.select v4478 v4479 v4473
  let c1_i32_4065 : BitVec 32 := 1#32
  let v4481 : BitVec 32 := Scalar.muli v4480 c1_i32_4065
  let v4482 : BitVec 32 := Scalar.addi c0_i32_4066 v4481
  v4482.toNat
def k0_dev165 (d0 : Dev nD) : Nat :=
  let c0_i32_4083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4071 : BitVec 32 := 10#32
  let v4491 : BitVec 32 := Scalar.addi v2 c10_i32_4071
  let c32_i32_4072 : BitVec 32 := 32#32
  let c0_i32_4073 : BitVec 32 := 0#32
  let v4492 : BitVec 1 := Scalar.cmpi .eq c32_i32_4072 c0_i32_4073
  let c1_i32_4074 : BitVec 32 := 1#32
  let v4493 : BitVec 32 := Scalar.select v4492 c1_i32_4074 c32_i32_4072
  let v4494 : BitVec 32 := Scalar.remsi v4491 v4493
  let c0_i32_4076 : BitVec 32 := 0#32
  let v4496 : BitVec 1 := Scalar.cmpi .slt v4494 c0_i32_4076
  let c0_i32_4077 : BitVec 32 := 0#32
  let v4497 : BitVec 1 := Scalar.cmpi .slt v4493 c0_i32_4077
  let v4498 : BitVec 1 := Scalar.xori v4496 v4497
  let c0_i32_4075 : BitVec 32 := 0#32
  let v4495 : BitVec 1 := Scalar.cmpi .ne v4494 c0_i32_4075
  let v4499 : BitVec 1 := Scalar.andi v4498 v4495
  let v4500 : BitVec 32 := Scalar.addi v4494 v4493
  let v4501 : BitVec 32 := Scalar.select v4499 v4500 v4494
  let c1_i32_4082 : BitVec 32 := 1#32
  let v4502 : BitVec 32 := Scalar.muli v4501 c1_i32_4082
  let v4503 : BitVec 32 := Scalar.addi c0_i32_4083 v4502
  v4503.toNat
def k0_dev166 (d0 : Dev nD) : Nat :=
  let c0_i32_4100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4088 : BitVec 32 := 11#32
  let v4512 : BitVec 32 := Scalar.addi v2 c11_i32_4088
  let c32_i32_4089 : BitVec 32 := 32#32
  let c0_i32_4090 : BitVec 32 := 0#32
  let v4513 : BitVec 1 := Scalar.cmpi .eq c32_i32_4089 c0_i32_4090
  let c1_i32_4091 : BitVec 32 := 1#32
  let v4514 : BitVec 32 := Scalar.select v4513 c1_i32_4091 c32_i32_4089
  let v4515 : BitVec 32 := Scalar.remsi v4512 v4514
  let c0_i32_4093 : BitVec 32 := 0#32
  let v4517 : BitVec 1 := Scalar.cmpi .slt v4515 c0_i32_4093
  let c0_i32_4094 : BitVec 32 := 0#32
  let v4518 : BitVec 1 := Scalar.cmpi .slt v4514 c0_i32_4094
  let v4519 : BitVec 1 := Scalar.xori v4517 v4518
  let c0_i32_4092 : BitVec 32 := 0#32
  let v4516 : BitVec 1 := Scalar.cmpi .ne v4515 c0_i32_4092
  let v4520 : BitVec 1 := Scalar.andi v4519 v4516
  let v4521 : BitVec 32 := Scalar.addi v4515 v4514
  let v4522 : BitVec 32 := Scalar.select v4520 v4521 v4515
  let c1_i32_4099 : BitVec 32 := 1#32
  let v4523 : BitVec 32 := Scalar.muli v4522 c1_i32_4099
  let v4524 : BitVec 32 := Scalar.addi c0_i32_4100 v4523
  v4524.toNat
def k0_dev167 (d0 : Dev nD) : Nat :=
  let c0_i32_4117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4105 : BitVec 32 := 12#32
  let v4533 : BitVec 32 := Scalar.addi v2 c12_i32_4105
  let c32_i32_4106 : BitVec 32 := 32#32
  let c0_i32_4107 : BitVec 32 := 0#32
  let v4534 : BitVec 1 := Scalar.cmpi .eq c32_i32_4106 c0_i32_4107
  let c1_i32_4108 : BitVec 32 := 1#32
  let v4535 : BitVec 32 := Scalar.select v4534 c1_i32_4108 c32_i32_4106
  let v4536 : BitVec 32 := Scalar.remsi v4533 v4535
  let c0_i32_4110 : BitVec 32 := 0#32
  let v4538 : BitVec 1 := Scalar.cmpi .slt v4536 c0_i32_4110
  let c0_i32_4111 : BitVec 32 := 0#32
  let v4539 : BitVec 1 := Scalar.cmpi .slt v4535 c0_i32_4111
  let v4540 : BitVec 1 := Scalar.xori v4538 v4539
  let c0_i32_4109 : BitVec 32 := 0#32
  let v4537 : BitVec 1 := Scalar.cmpi .ne v4536 c0_i32_4109
  let v4541 : BitVec 1 := Scalar.andi v4540 v4537
  let v4542 : BitVec 32 := Scalar.addi v4536 v4535
  let v4543 : BitVec 32 := Scalar.select v4541 v4542 v4536
  let c1_i32_4116 : BitVec 32 := 1#32
  let v4544 : BitVec 32 := Scalar.muli v4543 c1_i32_4116
  let v4545 : BitVec 32 := Scalar.addi c0_i32_4117 v4544
  v4545.toNat
def k0_dev168 (d0 : Dev nD) : Nat :=
  let c0_i32_4134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4122 : BitVec 32 := 13#32
  let v4554 : BitVec 32 := Scalar.addi v2 c13_i32_4122
  let c32_i32_4123 : BitVec 32 := 32#32
  let c0_i32_4124 : BitVec 32 := 0#32
  let v4555 : BitVec 1 := Scalar.cmpi .eq c32_i32_4123 c0_i32_4124
  let c1_i32_4125 : BitVec 32 := 1#32
  let v4556 : BitVec 32 := Scalar.select v4555 c1_i32_4125 c32_i32_4123
  let v4557 : BitVec 32 := Scalar.remsi v4554 v4556
  let c0_i32_4127 : BitVec 32 := 0#32
  let v4559 : BitVec 1 := Scalar.cmpi .slt v4557 c0_i32_4127
  let c0_i32_4128 : BitVec 32 := 0#32
  let v4560 : BitVec 1 := Scalar.cmpi .slt v4556 c0_i32_4128
  let v4561 : BitVec 1 := Scalar.xori v4559 v4560
  let c0_i32_4126 : BitVec 32 := 0#32
  let v4558 : BitVec 1 := Scalar.cmpi .ne v4557 c0_i32_4126
  let v4562 : BitVec 1 := Scalar.andi v4561 v4558
  let v4563 : BitVec 32 := Scalar.addi v4557 v4556
  let v4564 : BitVec 32 := Scalar.select v4562 v4563 v4557
  let c1_i32_4133 : BitVec 32 := 1#32
  let v4565 : BitVec 32 := Scalar.muli v4564 c1_i32_4133
  let v4566 : BitVec 32 := Scalar.addi c0_i32_4134 v4565
  v4566.toNat
def k0_dev169 (d0 : Dev nD) : Nat :=
  let c0_i32_4151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4139 : BitVec 32 := 14#32
  let v4575 : BitVec 32 := Scalar.addi v2 c14_i32_4139
  let c32_i32_4140 : BitVec 32 := 32#32
  let c0_i32_4141 : BitVec 32 := 0#32
  let v4576 : BitVec 1 := Scalar.cmpi .eq c32_i32_4140 c0_i32_4141
  let c1_i32_4142 : BitVec 32 := 1#32
  let v4577 : BitVec 32 := Scalar.select v4576 c1_i32_4142 c32_i32_4140
  let v4578 : BitVec 32 := Scalar.remsi v4575 v4577
  let c0_i32_4144 : BitVec 32 := 0#32
  let v4580 : BitVec 1 := Scalar.cmpi .slt v4578 c0_i32_4144
  let c0_i32_4145 : BitVec 32 := 0#32
  let v4581 : BitVec 1 := Scalar.cmpi .slt v4577 c0_i32_4145
  let v4582 : BitVec 1 := Scalar.xori v4580 v4581
  let c0_i32_4143 : BitVec 32 := 0#32
  let v4579 : BitVec 1 := Scalar.cmpi .ne v4578 c0_i32_4143
  let v4583 : BitVec 1 := Scalar.andi v4582 v4579
  let v4584 : BitVec 32 := Scalar.addi v4578 v4577
  let v4585 : BitVec 32 := Scalar.select v4583 v4584 v4578
  let c1_i32_4150 : BitVec 32 := 1#32
  let v4586 : BitVec 32 := Scalar.muli v4585 c1_i32_4150
  let v4587 : BitVec 32 := Scalar.addi c0_i32_4151 v4586
  v4587.toNat
def k0_dev170 (d0 : Dev nD) : Nat :=
  let c0_i32_4168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4156 : BitVec 32 := 15#32
  let v4596 : BitVec 32 := Scalar.addi v2 c15_i32_4156
  let c32_i32_4157 : BitVec 32 := 32#32
  let c0_i32_4158 : BitVec 32 := 0#32
  let v4597 : BitVec 1 := Scalar.cmpi .eq c32_i32_4157 c0_i32_4158
  let c1_i32_4159 : BitVec 32 := 1#32
  let v4598 : BitVec 32 := Scalar.select v4597 c1_i32_4159 c32_i32_4157
  let v4599 : BitVec 32 := Scalar.remsi v4596 v4598
  let c0_i32_4161 : BitVec 32 := 0#32
  let v4601 : BitVec 1 := Scalar.cmpi .slt v4599 c0_i32_4161
  let c0_i32_4162 : BitVec 32 := 0#32
  let v4602 : BitVec 1 := Scalar.cmpi .slt v4598 c0_i32_4162
  let v4603 : BitVec 1 := Scalar.xori v4601 v4602
  let c0_i32_4160 : BitVec 32 := 0#32
  let v4600 : BitVec 1 := Scalar.cmpi .ne v4599 c0_i32_4160
  let v4604 : BitVec 1 := Scalar.andi v4603 v4600
  let v4605 : BitVec 32 := Scalar.addi v4599 v4598
  let v4606 : BitVec 32 := Scalar.select v4604 v4605 v4599
  let c1_i32_4167 : BitVec 32 := 1#32
  let v4607 : BitVec 32 := Scalar.muli v4606 c1_i32_4167
  let v4608 : BitVec 32 := Scalar.addi c0_i32_4168 v4607
  v4608.toNat
def k0_dev171 (d0 : Dev nD) : Nat :=
  let c0_i32_4254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4242 : BitVec 32 := 16#32
  let v4681 : BitVec 32 := Scalar.addi v2 c16_i32_4242
  let c32_i32_4243 : BitVec 32 := 32#32
  let c0_i32_4244 : BitVec 32 := 0#32
  let v4682 : BitVec 1 := Scalar.cmpi .eq c32_i32_4243 c0_i32_4244
  let c1_i32_4245 : BitVec 32 := 1#32
  let v4683 : BitVec 32 := Scalar.select v4682 c1_i32_4245 c32_i32_4243
  let v4684 : BitVec 32 := Scalar.remsi v4681 v4683
  let c0_i32_4247 : BitVec 32 := 0#32
  let v4686 : BitVec 1 := Scalar.cmpi .slt v4684 c0_i32_4247
  let c0_i32_4248 : BitVec 32 := 0#32
  let v4687 : BitVec 1 := Scalar.cmpi .slt v4683 c0_i32_4248
  let v4688 : BitVec 1 := Scalar.xori v4686 v4687
  let c0_i32_4246 : BitVec 32 := 0#32
  let v4685 : BitVec 1 := Scalar.cmpi .ne v4684 c0_i32_4246
  let v4689 : BitVec 1 := Scalar.andi v4688 v4685
  let v4690 : BitVec 32 := Scalar.addi v4684 v4683
  let v4691 : BitVec 32 := Scalar.select v4689 v4690 v4684
  let c1_i32_4253 : BitVec 32 := 1#32
  let v4692 : BitVec 32 := Scalar.muli v4691 c1_i32_4253
  let v4693 : BitVec 32 := Scalar.addi c0_i32_4254 v4692
  v4693.toNat
def k0_dev172 (d0 : Dev nD) : Nat :=
  let c0_i32_4271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4259 : BitVec 32 := 17#32
  let v4702 : BitVec 32 := Scalar.addi v2 c17_i32_4259
  let c32_i32_4260 : BitVec 32 := 32#32
  let c0_i32_4261 : BitVec 32 := 0#32
  let v4703 : BitVec 1 := Scalar.cmpi .eq c32_i32_4260 c0_i32_4261
  let c1_i32_4262 : BitVec 32 := 1#32
  let v4704 : BitVec 32 := Scalar.select v4703 c1_i32_4262 c32_i32_4260
  let v4705 : BitVec 32 := Scalar.remsi v4702 v4704
  let c0_i32_4264 : BitVec 32 := 0#32
  let v4707 : BitVec 1 := Scalar.cmpi .slt v4705 c0_i32_4264
  let c0_i32_4265 : BitVec 32 := 0#32
  let v4708 : BitVec 1 := Scalar.cmpi .slt v4704 c0_i32_4265
  let v4709 : BitVec 1 := Scalar.xori v4707 v4708
  let c0_i32_4263 : BitVec 32 := 0#32
  let v4706 : BitVec 1 := Scalar.cmpi .ne v4705 c0_i32_4263
  let v4710 : BitVec 1 := Scalar.andi v4709 v4706
  let v4711 : BitVec 32 := Scalar.addi v4705 v4704
  let v4712 : BitVec 32 := Scalar.select v4710 v4711 v4705
  let c1_i32_4270 : BitVec 32 := 1#32
  let v4713 : BitVec 32 := Scalar.muli v4712 c1_i32_4270
  let v4714 : BitVec 32 := Scalar.addi c0_i32_4271 v4713
  v4714.toNat
def k0_dev173 (d0 : Dev nD) : Nat :=
  let c0_i32_4288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4276 : BitVec 32 := 18#32
  let v4723 : BitVec 32 := Scalar.addi v2 c18_i32_4276
  let c32_i32_4277 : BitVec 32 := 32#32
  let c0_i32_4278 : BitVec 32 := 0#32
  let v4724 : BitVec 1 := Scalar.cmpi .eq c32_i32_4277 c0_i32_4278
  let c1_i32_4279 : BitVec 32 := 1#32
  let v4725 : BitVec 32 := Scalar.select v4724 c1_i32_4279 c32_i32_4277
  let v4726 : BitVec 32 := Scalar.remsi v4723 v4725
  let c0_i32_4281 : BitVec 32 := 0#32
  let v4728 : BitVec 1 := Scalar.cmpi .slt v4726 c0_i32_4281
  let c0_i32_4282 : BitVec 32 := 0#32
  let v4729 : BitVec 1 := Scalar.cmpi .slt v4725 c0_i32_4282
  let v4730 : BitVec 1 := Scalar.xori v4728 v4729
  let c0_i32_4280 : BitVec 32 := 0#32
  let v4727 : BitVec 1 := Scalar.cmpi .ne v4726 c0_i32_4280
  let v4731 : BitVec 1 := Scalar.andi v4730 v4727
  let v4732 : BitVec 32 := Scalar.addi v4726 v4725
  let v4733 : BitVec 32 := Scalar.select v4731 v4732 v4726
  let c1_i32_4287 : BitVec 32 := 1#32
  let v4734 : BitVec 32 := Scalar.muli v4733 c1_i32_4287
  let v4735 : BitVec 32 := Scalar.addi c0_i32_4288 v4734
  v4735.toNat
def k0_dev174 (d0 : Dev nD) : Nat :=
  let c0_i32_4305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4293 : BitVec 32 := 19#32
  let v4744 : BitVec 32 := Scalar.addi v2 c19_i32_4293
  let c32_i32_4294 : BitVec 32 := 32#32
  let c0_i32_4295 : BitVec 32 := 0#32
  let v4745 : BitVec 1 := Scalar.cmpi .eq c32_i32_4294 c0_i32_4295
  let c1_i32_4296 : BitVec 32 := 1#32
  let v4746 : BitVec 32 := Scalar.select v4745 c1_i32_4296 c32_i32_4294
  let v4747 : BitVec 32 := Scalar.remsi v4744 v4746
  let c0_i32_4298 : BitVec 32 := 0#32
  let v4749 : BitVec 1 := Scalar.cmpi .slt v4747 c0_i32_4298
  let c0_i32_4299 : BitVec 32 := 0#32
  let v4750 : BitVec 1 := Scalar.cmpi .slt v4746 c0_i32_4299
  let v4751 : BitVec 1 := Scalar.xori v4749 v4750
  let c0_i32_4297 : BitVec 32 := 0#32
  let v4748 : BitVec 1 := Scalar.cmpi .ne v4747 c0_i32_4297
  let v4752 : BitVec 1 := Scalar.andi v4751 v4748
  let v4753 : BitVec 32 := Scalar.addi v4747 v4746
  let v4754 : BitVec 32 := Scalar.select v4752 v4753 v4747
  let c1_i32_4304 : BitVec 32 := 1#32
  let v4755 : BitVec 32 := Scalar.muli v4754 c1_i32_4304
  let v4756 : BitVec 32 := Scalar.addi c0_i32_4305 v4755
  v4756.toNat
def k0_dev175 (d0 : Dev nD) : Nat :=
  let c0_i32_4322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4310 : BitVec 32 := 20#32
  let v4765 : BitVec 32 := Scalar.addi v2 c20_i32_4310
  let c32_i32_4311 : BitVec 32 := 32#32
  let c0_i32_4312 : BitVec 32 := 0#32
  let v4766 : BitVec 1 := Scalar.cmpi .eq c32_i32_4311 c0_i32_4312
  let c1_i32_4313 : BitVec 32 := 1#32
  let v4767 : BitVec 32 := Scalar.select v4766 c1_i32_4313 c32_i32_4311
  let v4768 : BitVec 32 := Scalar.remsi v4765 v4767
  let c0_i32_4315 : BitVec 32 := 0#32
  let v4770 : BitVec 1 := Scalar.cmpi .slt v4768 c0_i32_4315
  let c0_i32_4316 : BitVec 32 := 0#32
  let v4771 : BitVec 1 := Scalar.cmpi .slt v4767 c0_i32_4316
  let v4772 : BitVec 1 := Scalar.xori v4770 v4771
  let c0_i32_4314 : BitVec 32 := 0#32
  let v4769 : BitVec 1 := Scalar.cmpi .ne v4768 c0_i32_4314
  let v4773 : BitVec 1 := Scalar.andi v4772 v4769
  let v4774 : BitVec 32 := Scalar.addi v4768 v4767
  let v4775 : BitVec 32 := Scalar.select v4773 v4774 v4768
  let c1_i32_4321 : BitVec 32 := 1#32
  let v4776 : BitVec 32 := Scalar.muli v4775 c1_i32_4321
  let v4777 : BitVec 32 := Scalar.addi c0_i32_4322 v4776
  v4777.toNat
def k0_dev176 (d0 : Dev nD) : Nat :=
  let c0_i32_4339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4327 : BitVec 32 := 21#32
  let v4786 : BitVec 32 := Scalar.addi v2 c21_i32_4327
  let c32_i32_4328 : BitVec 32 := 32#32
  let c0_i32_4329 : BitVec 32 := 0#32
  let v4787 : BitVec 1 := Scalar.cmpi .eq c32_i32_4328 c0_i32_4329
  let c1_i32_4330 : BitVec 32 := 1#32
  let v4788 : BitVec 32 := Scalar.select v4787 c1_i32_4330 c32_i32_4328
  let v4789 : BitVec 32 := Scalar.remsi v4786 v4788
  let c0_i32_4332 : BitVec 32 := 0#32
  let v4791 : BitVec 1 := Scalar.cmpi .slt v4789 c0_i32_4332
  let c0_i32_4333 : BitVec 32 := 0#32
  let v4792 : BitVec 1 := Scalar.cmpi .slt v4788 c0_i32_4333
  let v4793 : BitVec 1 := Scalar.xori v4791 v4792
  let c0_i32_4331 : BitVec 32 := 0#32
  let v4790 : BitVec 1 := Scalar.cmpi .ne v4789 c0_i32_4331
  let v4794 : BitVec 1 := Scalar.andi v4793 v4790
  let v4795 : BitVec 32 := Scalar.addi v4789 v4788
  let v4796 : BitVec 32 := Scalar.select v4794 v4795 v4789
  let c1_i32_4338 : BitVec 32 := 1#32
  let v4797 : BitVec 32 := Scalar.muli v4796 c1_i32_4338
  let v4798 : BitVec 32 := Scalar.addi c0_i32_4339 v4797
  v4798.toNat
def k0_dev177 (d0 : Dev nD) : Nat :=
  let c0_i32_4356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4344 : BitVec 32 := 22#32
  let v4807 : BitVec 32 := Scalar.addi v2 c22_i32_4344
  let c32_i32_4345 : BitVec 32 := 32#32
  let c0_i32_4346 : BitVec 32 := 0#32
  let v4808 : BitVec 1 := Scalar.cmpi .eq c32_i32_4345 c0_i32_4346
  let c1_i32_4347 : BitVec 32 := 1#32
  let v4809 : BitVec 32 := Scalar.select v4808 c1_i32_4347 c32_i32_4345
  let v4810 : BitVec 32 := Scalar.remsi v4807 v4809
  let c0_i32_4349 : BitVec 32 := 0#32
  let v4812 : BitVec 1 := Scalar.cmpi .slt v4810 c0_i32_4349
  let c0_i32_4350 : BitVec 32 := 0#32
  let v4813 : BitVec 1 := Scalar.cmpi .slt v4809 c0_i32_4350
  let v4814 : BitVec 1 := Scalar.xori v4812 v4813
  let c0_i32_4348 : BitVec 32 := 0#32
  let v4811 : BitVec 1 := Scalar.cmpi .ne v4810 c0_i32_4348
  let v4815 : BitVec 1 := Scalar.andi v4814 v4811
  let v4816 : BitVec 32 := Scalar.addi v4810 v4809
  let v4817 : BitVec 32 := Scalar.select v4815 v4816 v4810
  let c1_i32_4355 : BitVec 32 := 1#32
  let v4818 : BitVec 32 := Scalar.muli v4817 c1_i32_4355
  let v4819 : BitVec 32 := Scalar.addi c0_i32_4356 v4818
  v4819.toNat
def k0_dev178 (d0 : Dev nD) : Nat :=
  let c0_i32_4373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4361 : BitVec 32 := 23#32
  let v4828 : BitVec 32 := Scalar.addi v2 c23_i32_4361
  let c32_i32_4362 : BitVec 32 := 32#32
  let c0_i32_4363 : BitVec 32 := 0#32
  let v4829 : BitVec 1 := Scalar.cmpi .eq c32_i32_4362 c0_i32_4363
  let c1_i32_4364 : BitVec 32 := 1#32
  let v4830 : BitVec 32 := Scalar.select v4829 c1_i32_4364 c32_i32_4362
  let v4831 : BitVec 32 := Scalar.remsi v4828 v4830
  let c0_i32_4366 : BitVec 32 := 0#32
  let v4833 : BitVec 1 := Scalar.cmpi .slt v4831 c0_i32_4366
  let c0_i32_4367 : BitVec 32 := 0#32
  let v4834 : BitVec 1 := Scalar.cmpi .slt v4830 c0_i32_4367
  let v4835 : BitVec 1 := Scalar.xori v4833 v4834
  let c0_i32_4365 : BitVec 32 := 0#32
  let v4832 : BitVec 1 := Scalar.cmpi .ne v4831 c0_i32_4365
  let v4836 : BitVec 1 := Scalar.andi v4835 v4832
  let v4837 : BitVec 32 := Scalar.addi v4831 v4830
  let v4838 : BitVec 32 := Scalar.select v4836 v4837 v4831
  let c1_i32_4372 : BitVec 32 := 1#32
  let v4839 : BitVec 32 := Scalar.muli v4838 c1_i32_4372
  let v4840 : BitVec 32 := Scalar.addi c0_i32_4373 v4839
  v4840.toNat
def k0_dev179 (d0 : Dev nD) : Nat :=
  let c0_i32_4459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4447 : BitVec 32 := 24#32
  let v4913 : BitVec 32 := Scalar.addi v2 c24_i32_4447
  let c32_i32_4448 : BitVec 32 := 32#32
  let c0_i32_4449 : BitVec 32 := 0#32
  let v4914 : BitVec 1 := Scalar.cmpi .eq c32_i32_4448 c0_i32_4449
  let c1_i32_4450 : BitVec 32 := 1#32
  let v4915 : BitVec 32 := Scalar.select v4914 c1_i32_4450 c32_i32_4448
  let v4916 : BitVec 32 := Scalar.remsi v4913 v4915
  let c0_i32_4452 : BitVec 32 := 0#32
  let v4918 : BitVec 1 := Scalar.cmpi .slt v4916 c0_i32_4452
  let c0_i32_4453 : BitVec 32 := 0#32
  let v4919 : BitVec 1 := Scalar.cmpi .slt v4915 c0_i32_4453
  let v4920 : BitVec 1 := Scalar.xori v4918 v4919
  let c0_i32_4451 : BitVec 32 := 0#32
  let v4917 : BitVec 1 := Scalar.cmpi .ne v4916 c0_i32_4451
  let v4921 : BitVec 1 := Scalar.andi v4920 v4917
  let v4922 : BitVec 32 := Scalar.addi v4916 v4915
  let v4923 : BitVec 32 := Scalar.select v4921 v4922 v4916
  let c1_i32_4458 : BitVec 32 := 1#32
  let v4924 : BitVec 32 := Scalar.muli v4923 c1_i32_4458
  let v4925 : BitVec 32 := Scalar.addi c0_i32_4459 v4924
  v4925.toNat
def k0_dev180 (d0 : Dev nD) : Nat :=
  let c0_i32_4476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4464 : BitVec 32 := 25#32
  let v4934 : BitVec 32 := Scalar.addi v2 c25_i32_4464
  let c32_i32_4465 : BitVec 32 := 32#32
  let c0_i32_4466 : BitVec 32 := 0#32
  let v4935 : BitVec 1 := Scalar.cmpi .eq c32_i32_4465 c0_i32_4466
  let c1_i32_4467 : BitVec 32 := 1#32
  let v4936 : BitVec 32 := Scalar.select v4935 c1_i32_4467 c32_i32_4465
  let v4937 : BitVec 32 := Scalar.remsi v4934 v4936
  let c0_i32_4469 : BitVec 32 := 0#32
  let v4939 : BitVec 1 := Scalar.cmpi .slt v4937 c0_i32_4469
  let c0_i32_4470 : BitVec 32 := 0#32
  let v4940 : BitVec 1 := Scalar.cmpi .slt v4936 c0_i32_4470
  let v4941 : BitVec 1 := Scalar.xori v4939 v4940
  let c0_i32_4468 : BitVec 32 := 0#32
  let v4938 : BitVec 1 := Scalar.cmpi .ne v4937 c0_i32_4468
  let v4942 : BitVec 1 := Scalar.andi v4941 v4938
  let v4943 : BitVec 32 := Scalar.addi v4937 v4936
  let v4944 : BitVec 32 := Scalar.select v4942 v4943 v4937
  let c1_i32_4475 : BitVec 32 := 1#32
  let v4945 : BitVec 32 := Scalar.muli v4944 c1_i32_4475
  let v4946 : BitVec 32 := Scalar.addi c0_i32_4476 v4945
  v4946.toNat
def k0_dev181 (d0 : Dev nD) : Nat :=
  let c0_i32_4493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4481 : BitVec 32 := 26#32
  let v4955 : BitVec 32 := Scalar.addi v2 c26_i32_4481
  let c32_i32_4482 : BitVec 32 := 32#32
  let c0_i32_4483 : BitVec 32 := 0#32
  let v4956 : BitVec 1 := Scalar.cmpi .eq c32_i32_4482 c0_i32_4483
  let c1_i32_4484 : BitVec 32 := 1#32
  let v4957 : BitVec 32 := Scalar.select v4956 c1_i32_4484 c32_i32_4482
  let v4958 : BitVec 32 := Scalar.remsi v4955 v4957
  let c0_i32_4486 : BitVec 32 := 0#32
  let v4960 : BitVec 1 := Scalar.cmpi .slt v4958 c0_i32_4486
  let c0_i32_4487 : BitVec 32 := 0#32
  let v4961 : BitVec 1 := Scalar.cmpi .slt v4957 c0_i32_4487
  let v4962 : BitVec 1 := Scalar.xori v4960 v4961
  let c0_i32_4485 : BitVec 32 := 0#32
  let v4959 : BitVec 1 := Scalar.cmpi .ne v4958 c0_i32_4485
  let v4963 : BitVec 1 := Scalar.andi v4962 v4959
  let v4964 : BitVec 32 := Scalar.addi v4958 v4957
  let v4965 : BitVec 32 := Scalar.select v4963 v4964 v4958
  let c1_i32_4492 : BitVec 32 := 1#32
  let v4966 : BitVec 32 := Scalar.muli v4965 c1_i32_4492
  let v4967 : BitVec 32 := Scalar.addi c0_i32_4493 v4966
  v4967.toNat
def k0_dev182 (d0 : Dev nD) : Nat :=
  let c0_i32_4510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4498 : BitVec 32 := 27#32
  let v4976 : BitVec 32 := Scalar.addi v2 c27_i32_4498
  let c32_i32_4499 : BitVec 32 := 32#32
  let c0_i32_4500 : BitVec 32 := 0#32
  let v4977 : BitVec 1 := Scalar.cmpi .eq c32_i32_4499 c0_i32_4500
  let c1_i32_4501 : BitVec 32 := 1#32
  let v4978 : BitVec 32 := Scalar.select v4977 c1_i32_4501 c32_i32_4499
  let v4979 : BitVec 32 := Scalar.remsi v4976 v4978
  let c0_i32_4503 : BitVec 32 := 0#32
  let v4981 : BitVec 1 := Scalar.cmpi .slt v4979 c0_i32_4503
  let c0_i32_4504 : BitVec 32 := 0#32
  let v4982 : BitVec 1 := Scalar.cmpi .slt v4978 c0_i32_4504
  let v4983 : BitVec 1 := Scalar.xori v4981 v4982
  let c0_i32_4502 : BitVec 32 := 0#32
  let v4980 : BitVec 1 := Scalar.cmpi .ne v4979 c0_i32_4502
  let v4984 : BitVec 1 := Scalar.andi v4983 v4980
  let v4985 : BitVec 32 := Scalar.addi v4979 v4978
  let v4986 : BitVec 32 := Scalar.select v4984 v4985 v4979
  let c1_i32_4509 : BitVec 32 := 1#32
  let v4987 : BitVec 32 := Scalar.muli v4986 c1_i32_4509
  let v4988 : BitVec 32 := Scalar.addi c0_i32_4510 v4987
  v4988.toNat
def k0_dev183 (d0 : Dev nD) : Nat :=
  let c0_i32_4527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4515 : BitVec 32 := 28#32
  let v4997 : BitVec 32 := Scalar.addi v2 c28_i32_4515
  let c32_i32_4516 : BitVec 32 := 32#32
  let c0_i32_4517 : BitVec 32 := 0#32
  let v4998 : BitVec 1 := Scalar.cmpi .eq c32_i32_4516 c0_i32_4517
  let c1_i32_4518 : BitVec 32 := 1#32
  let v4999 : BitVec 32 := Scalar.select v4998 c1_i32_4518 c32_i32_4516
  let v5000 : BitVec 32 := Scalar.remsi v4997 v4999
  let c0_i32_4520 : BitVec 32 := 0#32
  let v5002 : BitVec 1 := Scalar.cmpi .slt v5000 c0_i32_4520
  let c0_i32_4521 : BitVec 32 := 0#32
  let v5003 : BitVec 1 := Scalar.cmpi .slt v4999 c0_i32_4521
  let v5004 : BitVec 1 := Scalar.xori v5002 v5003
  let c0_i32_4519 : BitVec 32 := 0#32
  let v5001 : BitVec 1 := Scalar.cmpi .ne v5000 c0_i32_4519
  let v5005 : BitVec 1 := Scalar.andi v5004 v5001
  let v5006 : BitVec 32 := Scalar.addi v5000 v4999
  let v5007 : BitVec 32 := Scalar.select v5005 v5006 v5000
  let c1_i32_4526 : BitVec 32 := 1#32
  let v5008 : BitVec 32 := Scalar.muli v5007 c1_i32_4526
  let v5009 : BitVec 32 := Scalar.addi c0_i32_4527 v5008
  v5009.toNat
def k0_dev184 (d0 : Dev nD) : Nat :=
  let c0_i32_4544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4532 : BitVec 32 := 29#32
  let v5018 : BitVec 32 := Scalar.addi v2 c29_i32_4532
  let c32_i32_4533 : BitVec 32 := 32#32
  let c0_i32_4534 : BitVec 32 := 0#32
  let v5019 : BitVec 1 := Scalar.cmpi .eq c32_i32_4533 c0_i32_4534
  let c1_i32_4535 : BitVec 32 := 1#32
  let v5020 : BitVec 32 := Scalar.select v5019 c1_i32_4535 c32_i32_4533
  let v5021 : BitVec 32 := Scalar.remsi v5018 v5020
  let c0_i32_4537 : BitVec 32 := 0#32
  let v5023 : BitVec 1 := Scalar.cmpi .slt v5021 c0_i32_4537
  let c0_i32_4538 : BitVec 32 := 0#32
  let v5024 : BitVec 1 := Scalar.cmpi .slt v5020 c0_i32_4538
  let v5025 : BitVec 1 := Scalar.xori v5023 v5024
  let c0_i32_4536 : BitVec 32 := 0#32
  let v5022 : BitVec 1 := Scalar.cmpi .ne v5021 c0_i32_4536
  let v5026 : BitVec 1 := Scalar.andi v5025 v5022
  let v5027 : BitVec 32 := Scalar.addi v5021 v5020
  let v5028 : BitVec 32 := Scalar.select v5026 v5027 v5021
  let c1_i32_4543 : BitVec 32 := 1#32
  let v5029 : BitVec 32 := Scalar.muli v5028 c1_i32_4543
  let v5030 : BitVec 32 := Scalar.addi c0_i32_4544 v5029
  v5030.toNat
def k0_dev185 (d0 : Dev nD) : Nat :=
  let c0_i32_4561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4549 : BitVec 32 := 30#32
  let v5039 : BitVec 32 := Scalar.addi v2 c30_i32_4549
  let c32_i32_4550 : BitVec 32 := 32#32
  let c0_i32_4551 : BitVec 32 := 0#32
  let v5040 : BitVec 1 := Scalar.cmpi .eq c32_i32_4550 c0_i32_4551
  let c1_i32_4552 : BitVec 32 := 1#32
  let v5041 : BitVec 32 := Scalar.select v5040 c1_i32_4552 c32_i32_4550
  let v5042 : BitVec 32 := Scalar.remsi v5039 v5041
  let c0_i32_4554 : BitVec 32 := 0#32
  let v5044 : BitVec 1 := Scalar.cmpi .slt v5042 c0_i32_4554
  let c0_i32_4555 : BitVec 32 := 0#32
  let v5045 : BitVec 1 := Scalar.cmpi .slt v5041 c0_i32_4555
  let v5046 : BitVec 1 := Scalar.xori v5044 v5045
  let c0_i32_4553 : BitVec 32 := 0#32
  let v5043 : BitVec 1 := Scalar.cmpi .ne v5042 c0_i32_4553
  let v5047 : BitVec 1 := Scalar.andi v5046 v5043
  let v5048 : BitVec 32 := Scalar.addi v5042 v5041
  let v5049 : BitVec 32 := Scalar.select v5047 v5048 v5042
  let c1_i32_4560 : BitVec 32 := 1#32
  let v5050 : BitVec 32 := Scalar.muli v5049 c1_i32_4560
  let v5051 : BitVec 32 := Scalar.addi c0_i32_4561 v5050
  v5051.toNat
def k0_dev186 (d0 : Dev nD) : Nat :=
  let c0_i32_4578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4566 : BitVec 32 := 31#32
  let v5060 : BitVec 32 := Scalar.addi v2 c31_i32_4566
  let c32_i32_4567 : BitVec 32 := 32#32
  let c0_i32_4568 : BitVec 32 := 0#32
  let v5061 : BitVec 1 := Scalar.cmpi .eq c32_i32_4567 c0_i32_4568
  let c1_i32_4569 : BitVec 32 := 1#32
  let v5062 : BitVec 32 := Scalar.select v5061 c1_i32_4569 c32_i32_4567
  let v5063 : BitVec 32 := Scalar.remsi v5060 v5062
  let c0_i32_4571 : BitVec 32 := 0#32
  let v5065 : BitVec 1 := Scalar.cmpi .slt v5063 c0_i32_4571
  let c0_i32_4572 : BitVec 32 := 0#32
  let v5066 : BitVec 1 := Scalar.cmpi .slt v5062 c0_i32_4572
  let v5067 : BitVec 1 := Scalar.xori v5065 v5066
  let c0_i32_4570 : BitVec 32 := 0#32
  let v5064 : BitVec 1 := Scalar.cmpi .ne v5063 c0_i32_4570
  let v5068 : BitVec 1 := Scalar.andi v5067 v5064
  let v5069 : BitVec 32 := Scalar.addi v5063 v5062
  let v5070 : BitVec 32 := Scalar.select v5068 v5069 v5063
  let c1_i32_4577 : BitVec 32 := 1#32
  let v5071 : BitVec 32 := Scalar.muli v5070 c1_i32_4577
  let v5072 : BitVec 32 := Scalar.addi c0_i32_4578 v5071
  v5072.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x32768 : Shape := ⟨2, ![512, 32768]⟩
abbrev S32768x512 : Shape := ⟨2, ![32768, 512]⟩
abbrev S64x32768 : Shape := ⟨2, ![64, 32768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x512, .bf16⟩
  | .hbm, ⟨1, _⟩ => ⟨S512x32768, .bf16⟩
  | .hbm, ⟨2, _⟩ => ⟨S512x32768, .bf16⟩
  | .hbm, ⟨3, _⟩ => ⟨S512x32768, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S64x512, .f32⟩
  | .hbm, ⟨8, _⟩ => ⟨S512x32768, .f32⟩
  | .hbm, ⟨9, _⟩ => ⟨S64x32768, .f32⟩
  | .hbm, ⟨10, _⟩ => ⟨S64x32768, .bf16⟩
  | .hbm, ⟨11, _⟩ => ⟨S_, .bf16⟩
  | .hbm, ⟨12, _⟩ => ⟨S64x32768, .bf16⟩
  | .hbm, ⟨13, _⟩ => ⟨S64x32768, .bf16⟩
  | .hbm, ⟨14, _⟩ => ⟨S64x32768, .f32⟩
  | .hbm, ⟨15, _⟩ => ⟨S32768x512, .f32⟩
  | .hbm, ⟨16, _⟩ => ⟨S64x512, .f32⟩
  | .hbm, ⟨17, _⟩ => ⟨S64x512, .bf16⟩
  | .hbm, ⟨18, _⟩ => ⟨S64x512, .f32⟩
  | .hbm, ⟨19, _⟩ => ⟨S512x32768, .f32⟩
  | .hbm, ⟨20, _⟩ => ⟨S64x32768, .f32⟩
  | .hbm, ⟨21, _⟩ => ⟨S64x32768, .bf16⟩
  | .hbm, ⟨22, _⟩ => ⟨S_, .bf16⟩
  | .hbm, ⟨23, _⟩ => ⟨S64x32768, .bf16⟩
  | .hbm, ⟨24, _⟩ => ⟨S64x32768, .bf16⟩
  | .hbm, ⟨25, _⟩ => ⟨S64x32768, .f32⟩
  | .hbm, ⟨26, _⟩ => ⟨S32768x512, .f32⟩
  | .hbm, ⟨27, _⟩ => ⟨S64x512, .f32⟩
  | .hbm, ⟨28, _⟩ => ⟨S64x512, .bf16⟩
  | .hbm, ⟨29, _⟩ => ⟨S64x512, .f32⟩
  | .hbm, ⟨30, _⟩ => ⟨S512x32768, .f32⟩
  | .hbm, ⟨31, _⟩ => ⟨S64x32768, .f32⟩
  | .hbm, ⟨32, _⟩ => ⟨S64x32768, .bf16⟩
  | .hbm, ⟨33, _⟩ => ⟨S_, .bf16⟩
  | .hbm, ⟨34, _⟩ => ⟨S64x32768, .bf16⟩
  | .hbm, ⟨35, _⟩ => ⟨S64x32768, .bf16⟩
  | .hbm, ⟨36, _⟩ => ⟨S64x32768, .f32⟩
  | .hbm, ⟨37, _⟩ => ⟨S32768x512, .f32⟩
  | .hbm, ⟨38, _⟩ => ⟨S64x512, .f32⟩
  | _, _ => ⟨S64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Slots.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

/-!
# Devices, slots, semaphores and contents

The kernel runs on 32 devices. Device `c` calls the device `k` places after it `peer c k`, and keeps for it slot `k`
of three buffers of 32 slots. What one device calls `k`, the other calls `ng k = -k`. This file has that arithmetic,
the slots as sets of indices, the semaphores as cells, and what the buffers hold at each stage of the computation.
-/

@[expose] public section
noncomputable section
namespace Cert.KernelIdeal.AllReduce
open Cert.KernelIdeal Cert.KernelIdeal.Gen
open Idealize.ShloMosaic
open Idealize.ShloMosaic.TcCoe

variable {F : FTy → Type} [FloatOps F]

/-! ## Devices -/

/-- The device `k` places after `c`. -/
def peer (c k : Fin 32) : Fin 32 := ⟨(c.val + k.val) % 32, Nat.mod_lt _ (by decide)⟩
/-- The number of places from the device `k` places after a device back to it. -/
def ng (k : Fin 32) : Fin 32 := ⟨(32 - k.val) % 32, Nat.mod_lt _ (by decide)⟩

theorem peer_val (c k : Fin 32) : (peer c k).val = (c.val + k.val) % 32 := rfl
theorem ng_ng (k : Fin 32) : ng (ng k) = k := by revert k; decide
theorem ng_zero : ng 0 = 0 := by decide
theorem ng_ne {k : Fin 32} (h : k ≠ 0) : ng k ≠ 0 := by revert k; decide
theorem ng_ne_iff {k : Fin 32} : ng k ≠ 0 ↔ k ≠ 0 := ⟨fun h e => h (e ▸ ng_zero), ng_ne⟩
theorem peer_ng (c k : Fin 32) : peer (peer c k) (ng k) = c := by
  apply Fin.ext; simp only [peer, ng]; omega
theorem peer_zero (c : Fin 32) : peer c 0 = c := by apply Fin.ext; simp only [peer]; simp
theorem peer_ng' (c k : Fin 32) : peer (peer c (ng k)) k = c := by
  have := peer_ng c (ng k); rwa [ng_ng] at this
theorem peer_inj (c : Fin 32) {k k' : Fin 32} (h : peer c k = peer c k') : k = k' := by
  have := congrArg Fin.val h; simp only [peer] at this; apply Fin.ext; omega
theorem peer_cancel {c c' k : Fin 32} (h : peer c k = peer c' k) : c = c' := by
  rw [← peer_ng c k, h, peer_ng]

/-- The places after a device, as the devices they name. -/
def peerEquiv (c : Fin 32) : Fin 32 ≃ Fin 32 where
  toFun := peer c
  invFun d := ⟨(d.val + (32 - c.val)) % 32, Nat.mod_lt _ (by decide)⟩
  left_inv k := by apply Fin.ext; simp only [peer]; omega
  right_inv d := by apply Fin.ext; simp only [peer]; omega

/-- A device and a place, seen from the other device. -/
def flip : Fin 32 × Fin 32 ≃ Fin 32 × Fin 32 where
  toFun p := (peer p.1 p.2, ng p.2)
  invFun p := (peer p.1 p.2, ng p.2)
  left_inv p := by simp only [peer_ng, ng_ng]
  right_inv p := by simp only [peer_ng, ng_ng]

/-! ## Slots -/

/-- Index `j` of slot `k`. -/
def sIdx (k : Fin 32) (j : S2x512.Idx) : S32x2x512.Idx := Fin.cons (α := fun a : Fin 3 => S32x2x512.Coord a) k j
/-- An index within its slot. -/
def tl (i : S32x2x512.Idx) : S2x512.Idx := fun a => i a.succ
/-- The slot of an index. -/
def hd (i : S32x2x512.Idx) : Fin 32 := i 0

theorem sIdx_hd_tl (i : S32x2x512.Idx) : sIdx (hd i) (tl i) = i := Fin.cons_self_tail (α := fun a : Fin 3 => S32x2x512.Coord a) i
theorem tl_sIdx (k : Fin 32) (j : S2x512.Idx) : tl (sIdx k j) = j := rfl
theorem hd_sIdx (k : Fin 32) (j : S2x512.Idx) : hd (sIdx k j) = k := rfl

/-- The indices of the slots of a set. -/
def slots (s : Finset (Fin 32)) : Finset S32x2x512.Idx := Finset.univ.filter fun i => hd i ∈ s
/-- The indices of slot `k`. -/
abbrev slot (k : Fin 32) : Finset S32x2x512.Idx := slots {k}

theorem mem_slots {s : Finset (Fin 32)} {i : S32x2x512.Idx} : i ∈ slots s ↔ hd i ∈ s := by simp [slots]
theorem mem_slot {k : Fin 32} {i : S32x2x512.Idx} : i ∈ slot k ↔ hd i = k := by simp [slots]
theorem slots_univ : slots Finset.univ = Finset.univ := by ext i; simp [mem_slots]
theorem slots_eq_biUnion (s : Finset (Fin 32)) : slots s = s.biUnion slot := by
  ext i; simp [mem_slots]
theorem slot_disjoint {k k' : Fin 32} (h : k ≠ k') : Disjoint (slot k) (slot k') := by
  rw [Finset.disjoint_left]; intro i hi hi'
  exact h ((mem_slot.mp hi).symm.trans (mem_slot.mp hi'))

theorem slot_inb (k : Fin 32) : ∀ a, (![k.val, 0, 0] : Fin 3 → ℕ) a + S1x2x512.size a ≤ S32x2x512.size a := by
  intro a; have := k.isLt
  fin_cases a
  · show k.val + 1 ≤ 32; omega
  · show 0 + 2 ≤ 2; omega
  · show 0 + 512 ≤ 512; omega

/-- Slot `k` of a buffer of slots. -/
abbrev slotM (M : Memref sig .tc .vmem S32x2x512 .bf16) (k : Fin 32) : Memref sig .tc .vmem S2x512 .bf16 :=
  (M.slice (Rect.unit (s := S32x2x512) ![k.val, 0, 0] S1x2x512.size (slot_inb k)) (fun _ => rfl)).squeeze S2x512 squeezes_S1x2x512_S2x512

theorem slotM_emb (M : Memref sig .tc .vmem S32x2x512 .bf16) (k : Fin 32) (j : S2x512.Idx) :
    (slotM M k).view.emb j = M.view.emb (sIdx k j) := by
  show M.view.emb ((Rect.unit (s := S32x2x512) ![k.val, 0, 0] S1x2x512.size (slot_inb k)).emb (Shape.reshapeEquiv _ j)) = _
  congr 1
  rw [Shape.reshapeEquiv_cons_one (d := ![2, 512])]
  funext a; apply Fin.ext
  fin_cases a
  · show k.val + 1 * 0 = k.val; omega
  · show 0 + 1 * (j 0).val = (j 0).val; omega
  · show 0 + 1 * (j 1).val = (j 1).val; omega

theorem slotM_set (M : Memref sig .tc .vmem S32x2x512 .bf16) (k : Fin 32) :
    (slotM M k).view.set = (slot k).map M.view.emb := by
  ext i
  simp only [View.set, Finset.mem_map, Finset.mem_univ, true_and]
  constructor
  · rintro ⟨j, rfl⟩; exact ⟨sIdx k j, mem_slot.mpr (hd_sIdx k j), (slotM_emb M k j).symm⟩
  · rintro ⟨x, hx, rfl⟩
    exact ⟨tl x, (slotM_emb M k (tl x)).trans (congrArg _ (by rw [← mem_slot.mp hx, sIdx_hd_tl]))⟩

/-- A slot named by an offset that is known to be the slot's. -/
theorem slotM_of_off (M : Memref sig .tc .vmem S32x2x512 .bf16) (k : Fin 32) (off : Fin 3 → ℕ) (h : off = ![k.val, 0, 0])
    (inb : ∀ a, off a + S1x2x512.size a ≤ S32x2x512.size a) :
    (M.slice (Rect.unit (s := S32x2x512) off S1x2x512.size inb) (fun _ => rfl)).squeeze S2x512 squeezes_S1x2x512_S2x512 = slotM M k := by
  subst h; rfl

/-- The kernel's buffers of slots, and its buffer of one slot's size. -/
abbrev xgM : Memref sig .tc .vmem S32x2x512 .bf16 := Memref.whole cc0_scratch0
abbrev pM : Memref sig .tc .vmem S32x2x512 .bf16 := Memref.whole cc0_scratch1
abbrev redM : Memref sig .tc .vmem S2x512 .bf16 := Memref.whole cc0_scratch2
abbrev rsM : Memref sig .tc .vmem S32x2x512 .bf16 := Memref.whole cc0_scratch3

/-- The contents of a buffer of slots, and of a buffer of one slot's size. -/
abbrev C32 (F : FTy → Type) : Type := S32x2x512.Idx → Elt F .bf16
abbrev C2 (F : FTy → Type) : Type := S2x512.Idx → Elt F .bf16

/-! ## Semaphores -/

/-- The `k`th of a run of DMA semaphores. -/
def semOf (base : ℕ) (k : Fin 32) (h : base ≤ 102 := by decide) : DmaSem sig := ⟨base + k.val, by show _ < 135; omega⟩
/-- Signalled when the transfer of slot `k` of the partial products has left; -/
abbrev semS1 (k : Fin 32) : DmaSem sig := semOf 7 k
/-- when that of the reduced slot to the device `k` places on has left; -/
abbrev semS2 (k : Fin 32) : DmaSem sig := semOf 38 k
/-- when slot `k` of the partial products has come; -/
abbrev semP1 (k : Fin 32) : DmaSem sig := semOf 70 k
/-- when slot `k` of the gathered activations has come; -/
abbrev semP2 (k : Fin 32) : DmaSem sig := semOf 102 k
/-- when the device's own slot has been copied. -/
abbrev semLoc : DmaSem sig := ⟨134, by decide⟩
theorem semLoc_eq : cc0_scratch8.sem = semLoc := by decide
/-- The semaphore of the entry handshake. -/
abbrev semBar : Sem sig := (SemArray.scalar (sig.barrier 0 rfl) : Sems sig S_).sem

abbrev cS1 (c k : Fin 32) : GSem nD τ sig := (((c : Dev nD) : Thread nD τ), .dma (semS1 k))
abbrev cS2 (c k : Fin 32) : GSem nD τ sig := (((c : Dev nD) : Thread nD τ), .dma (semS2 k))
abbrev cP1 (c k : Fin 32) : GSem nD τ sig := (((c : Dev nD) : Thread nD τ), .dma (semP1 k))
abbrev cP2 (c k : Fin 32) : GSem nD τ sig := (((c : Dev nD) : Thread nD τ), .dma (semP2 k))
abbrev cLoc (c : Fin 32) : GSem nD τ sig := (((c : Dev nD) : Thread nD τ), .dma semLoc)
abbrev cBar (c : Fin 32) : GSem nD τ sig := (((c : Dev nD) : Thread nD τ), .reg semBar)

/-- What a semaphore is for. -/
inductive Kd where
  | off | bar | loc | s1 (k : Fin 32) | s2 (k : Fin 32) | p1 (k : Fin 32) | p2 (k : Fin 32)
deriving DecidableEq

/-- The number of a semaphore within the run starting at `base`. -/
def within (base q : ℕ) : Fin 32 := ⟨(q - base) % 32, Nat.mod_lt _ (by decide)⟩

/-- What each semaphore is for. -/
def kd : SemLoc sig → Kd
  | .reg _ => .bar
  | .dma q =>
    if q.val < 8 then .off else if q.val < 39 then .s1 (within 7 q.val) else if q.val < 70 then .s2 (within 38 q.val)
    else if q.val < 71 then .off else if q.val < 102 then .p1 (within 70 q.val) else if q.val < 103 then .off
    else if q.val < 134 then .p2 (within 102 q.val) else .loc

theorem kd_bar : kd (.reg semBar) = .bar := rfl
theorem kd_loc : kd (.dma semLoc) = .loc := by decide
theorem kd_s1 : ∀ k : Fin 32, k ≠ 0 → kd (.dma (semS1 k)) = .s1 k := by decide
theorem kd_s2 : ∀ k : Fin 32, k ≠ 0 → kd (.dma (semS2 k)) = .s2 k := by decide
theorem kd_p1 : ∀ k : Fin 32, k ≠ 0 → kd (.dma (semP1 k)) = .p1 k := by decide
theorem kd_p2 : ∀ k : Fin 32, k ≠ 0 → kd (.dma (semP2 k)) = .p2 k := by decide

/-- What a transfer of one slot adds to a semaphore. -/
abbrev N : ℕ := redM.view.dmaCredit
theorem N_pos : 0 < N := View.dmaCredit_pos _ (by decide)
theorem credit_xg (k : Fin 32) : (slotM xgM k).view.dmaCredit = N := rfl
theorem credit_rs (k : Fin 32) : (slotM rsM k).view.dmaCredit = N := rfl
theorem credit_p (k : Fin 32) : (slotM pM k).view.dmaCredit = N := rfl

end Cert.KernelIdeal.AllReduce
-- ==== Proof.Schedule.lean ====
module

public import proofs.«01_k».proof.Proof.Slots

/-!
# What is computed, and who owes what to whom

First the contents of the buffers at each stage, as functions of every device's arguments. Then the schedule of the
semaphores: in round `r` of a cell, which payments are due, of how many units, and what each hands over. Last what
each device owes at the start, and the levels that order the waits.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- Every device's arguments: the activations, and the two weights of each layer. -/
structure Inp (F : FTy → Type) where
  x : Fin 32 → Vec F S64x512 .bf16
  w : ℕ → Fin 32 → Vec F S512x1024 .bf16
  wo : ℕ → Fin 32 → Vec F S1024x512 .bf16

/-- The eight slots from slot `8 * g`. -/
def blk (X : C32 F) (g : Fin 4) : Vec F S8x2x512 .bf16 := fun j =>
  X (sIdx ⟨8 * g.val + (j 0).val, by have := (j 0).isLt; have : (j 0).val < 8 := this; omega⟩ (fun a => j a.succ))
/-- The group of eight slots an index lies in. -/
def grpOf (i : S32x2x512.Idx) : Fin 4 := ⟨(hd i).val / 8, by omega⟩
/-- An index within its group. -/
def gIdx (i : S32x2x512.Idx) : S8x2x512.Idx :=
  Fin.cons (α := fun a : Fin 3 => S8x2x512.Coord a) (⟨(hd i).val % 8, Nat.mod_lt _ (by decide)⟩ : Fin 8) (tl i)

/-- One layer's two products on a device's share of the weights, group by group. -/
def mlp (X : C32 F) (w : Vec F S512x1024 .bf16) (wo : Vec F S1024x512 .bf16) : C32 F := fun i =>
  k0_pay11 (blk X (grpOf i)) w wo (gIdx i)

/-- The slot of the partial products that a device sends `k` places on: in the first layer the slots are numbered by the
    device they are for, in the others by its distance. -/
def src : ℕ → Fin 32 → Fin 32 → Fin 32
  | 0, c, k => peer c k
  | _ + 1, _, k => k

/-- What device `c` has once every device has sent it its slot of the partial products `p`. -/
def gath (r : ℕ) (p : Fin 32 → C32 F) (c : Fin 32) : C32 F := fun i =>
  p (peer c (hd i)) (sIdx (src r (peer c (hd i)) (ng (hd i))) (tl i))

/-- The sum of the slots, rounded. -/
def redOf (f : C32 F) : C2 F := k0_pay4 (k0_pay3 f)

/-- The partial products of layer `r` on each device. -/
def P (I : Inp F) : ℕ → Fin 32 → C32 F
  | 0 => fun c => k0_pay2 (k0_pay1 (I.x c) (I.w 0 c) (I.wo 0 c))
  | r + 1 => fun c => mlp (fun i => redOf (gath r (P I r) (peer c (hd i))) (tl i)) (I.w (r + 1) c) (I.wo (r + 1) c)
/-- The partial products of layer `r` a device has gathered. -/
def RS (I : Inp F) (r : ℕ) (c : Fin 32) : C32 F := gath r (P I r) c
/-- Their sum: a device's slot of the activations after layer `r`. -/
def RED (I : Inp F) (r : ℕ) (c : Fin 32) : C2 F := redOf (RS I r c)
/-- Every device's slot, as device `c` has gathered them. -/
def XG (I : Inp F) (r : ℕ) (c : Fin 32) : C32 F := fun i => RED I r (peer c (hd i)) (tl i)
/-- A device's result. -/
def OUT (I : Inp F) (c : Fin 32) : FVec F S2x512 .f32 := k0_pay24 (RS I 2 c)

theorem P_succ (I : Inp F) (r : ℕ) (c : Fin 32) : P I (r + 1) c = mlp (XG I r c) (I.w (r + 1) c) (I.wo (r + 1) c) := rfl

/-! ## Ghost state and points-to assertions -/

abbrev UB : Type := URounds (GSem nD τ sig) (Fin 32)
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-- Device `c` as a thread. -/
abbrev th (c : Fin 32) : Thread nD τ := ((c : Dev nD) : Thread nD τ)

abbrev xgPt (c : Fin 32) (s : Finset (Fin 32)) (f : C32 F) : sProp 𝕄 := ((th c).loc cc0_scratch0) ↦[slots s]{fullShare} f
abbrev pPt (c : Fin 32) (s : Finset (Fin 32)) (f : C32 F) : sProp 𝕄 := ((th c).loc cc0_scratch1) ↦[slots s]{fullShare} f
abbrev rsPt (c : Fin 32) (s : Finset (Fin 32)) (f : C32 F) : sProp 𝕄 := ((th c).loc cc0_scratch3) ↦[slots s]{fullShare} f
abbrev redPt (c : Fin 32) (q : PosShare TreeShare) (f : C2 F) : sProp 𝕄 := ((th c).loc cc0_scratch2) ↦[Finset.univ]{q} f
/-- The share of the reduced slot that the transfer `k` places on reads. -/
abbrev leafQ (k : Fin 32) : PosShare TreeShare := ShareLeaves.leaf 5 fullShare k

/-- Slot `k` at some contents. -/
abbrev xgAny (c k : Fin 32) : sProp 𝕄 := iprop(∃ f, xgPt (F := F) c {k} f)
abbrev rsAny (c k : Fin 32) : sProp 𝕄 := iprop(∃ f, rsPt (F := F) c {k} f)

/-! ## The schedule -/

/-- The handshake's signal from the device `k` places on: the slots device `c` will write there. -/
def payBar (c k : Fin 32) : sProp 𝕄 := iprop(rsAny (F := F) (peer c k) (ng k) ∗ xgAny (F := F) (peer c k) (ng k))
/-- The local copy: both slots back. -/
def payLoc (I : Inp F) (c : Fin 32) : sProp 𝕄 := iprop(pPt c {c} (P I 0 c) ∗ rsPt c {0} (RS I 0 c))
/-- A partial product has left: its slot back. -/
def payS1 (I : Inp F) (c k : Fin 32) (r : ℕ) : sProp 𝕄 := pPt c {src r c k} (P I r c)
/-- The reduced slot has left: the share of it back. -/
def payS2 (I : Inp F) (c k : Fin 32) (r : ℕ) : sProp 𝕄 := redPt c (leafQ k) (RED I r c)
/-- With a partial product of the middle layer comes the sender's slot for the activations after it. -/
def ext1 (c k : Fin 32) (r : ℕ) : sProp 𝕄 :=
  if r = 1 then iprop(xgAny (F := F) (peer c k) (ng k) ∗ reached ER (cP2 (peer c k) (ng k)) 1) else iprop(emp)
/-- A partial product has come. -/
def payP1 (I : Inp F) (c k : Fin 32) (r : ℕ) : sProp 𝕄 := iprop(rsPt c {k} (RS I r c) ∗ ext1 (F := F) c k r)
/-- A slot of the activations has come, and with it the sender's slot for the next layer's partial product. -/
def payP2 (I : Inp F) (c k : Fin 32) (r : ℕ) : sProp 𝕄 :=
  iprop(xgPt c {k} (XG I r c) ∗ rsAny (F := F) (peer c k) (ng k) ∗ reached ER (cP1 (peer c k) (ng k)) (r + 1))

/-- What is due by kind of semaphore. -/
def dutiesK : Kd → ℕ → Finset (Fin 32)
  | .off, _ => ∅
  | .bar, r => if r = 0 then Finset.univ.filter (· ≠ 0) else ∅
  | .loc, r => if r = 0 then {0} else ∅
  | .s1 _, r | .p1 _, r => if r < 3 then {0} else ∅
  | .s2 _, r | .p2 _, r => if r < 2 then {0} else ∅
/-- How many units each payment has. -/
def amountK : Kd → ℕ
  | .bar => 1
  | _ => N
/-- What a payment hands over. -/
def payK (I : Inp F) (c : Fin 32) (r : ℕ) (d : Fin 32) : Kd → sProp 𝕄
  | .off => iprop(emp)
  | .bar => payBar (F := F) c d
  | .loc => payLoc I c
  | .s1 k => payS1 I c k r
  | .s2 k => payS2 I c k r
  | .p1 k => payP1 I c k r
  | .p2 k => payP2 I c k r

/-- The schedule of every semaphore. -/
def Sc (I : Inp F) : Rounds.Schedule (GSem nD τ sig) (Fin 32) 𝕄 where
  duties g r := dutiesK (kd g.2) r
  unitless _ := False
  amount g _ _ := amountK (kd g.2)
  payload g r d := payK I g.1.1 r d (kd g.2)
  amount_pos g _ _ _ := by
    cases kd g.2 <;> first | exact Nat.one_pos | exact N_pos

instance Sc_storable (I : Inp F) (g : GSem nD τ sig) (r : ℕ) (d : Fin 32) :
    BI.Storable (upEmb : UEmb _ 𝕄) ((Sc I).payload g r d) := by
  show BI.Storable upEmb (payK I g.1.1 r d (kd g.2))
  cases kd g.2 <;> simp only [payK, payBar, payLoc, payS1, payS2, payP1, payP2, ext1] <;> (repeat' split) <;> infer_instance

section Rules
variable (I : Inp F) (c k : Fin 32) (r : ℕ)

theorem duties_s1 (h : k ≠ 0) (hr : r < 3) : (Sc I).duties (cS1 c k) r = {0} := by
  show dutiesK (kd _) r = _; rw [kd_s1 k h]; exact if_pos hr
theorem duties_p1 (h : k ≠ 0) (hr : r < 3) : (Sc I).duties (cP1 c k) r = {0} := by
  show dutiesK (kd _) r = _; rw [kd_p1 k h]; exact if_pos hr
theorem duties_s2 (h : k ≠ 0) (hr : r < 2) : (Sc I).duties (cS2 c k) r = {0} := by
  show dutiesK (kd _) r = _; rw [kd_s2 k h]; exact if_pos hr
theorem duties_p2 (h : k ≠ 0) (hr : r < 2) : (Sc I).duties (cP2 c k) r = {0} := by
  show dutiesK (kd _) r = _; rw [kd_p2 k h]; exact if_pos hr
theorem duties_loc : (Sc I).duties (cLoc c) 0 = {0} := by
  show dutiesK (kd (.dma semLoc)) 0 = _; rw [kd_loc]; rfl
theorem duties_bar : (Sc I).duties (cBar c) 0 = Finset.univ.filter (· ≠ 0) := rfl

theorem amount_s1 (h : k ≠ 0) (d : Fin 32) : (Sc I).amount (cS1 c k) r d = N := by
  show amountK (kd _) = _; rw [kd_s1 k h]; rfl
theorem amount_p1 (h : k ≠ 0) (d : Fin 32) : (Sc I).amount (cP1 c k) r d = N := by
  show amountK (kd _) = _; rw [kd_p1 k h]; rfl
theorem amount_s2 (h : k ≠ 0) (d : Fin 32) : (Sc I).amount (cS2 c k) r d = N := by
  show amountK (kd _) = _; rw [kd_s2 k h]; rfl
theorem amount_p2 (h : k ≠ 0) (d : Fin 32) : (Sc I).amount (cP2 c k) r d = N := by
  show amountK (kd _) = _; rw [kd_p2 k h]; rfl
theorem amount_loc (d : Fin 32) : (Sc I).amount (cLoc c) r d = N := by
  show amountK (kd (.dma semLoc)) = _; rw [kd_loc]; rfl
theorem amount_bar (d : Fin 32) : (Sc I).amount (cBar c) r d = 1 := rfl

theorem payload_s1 (h : k ≠ 0) (d : Fin 32) : (Sc I).payload (cS1 c k) r d = payS1 I c k r := by
  show payK I c r d (kd _) = _; rw [kd_s1 k h]; rfl
theorem payload_p1 (h : k ≠ 0) (d : Fin 32) : (Sc I).payload (cP1 c k) r d = payP1 I c k r := by
  show payK I c r d (kd _) = _; rw [kd_p1 k h]; rfl
theorem payload_s2 (h : k ≠ 0) (d : Fin 32) : (Sc I).payload (cS2 c k) r d = payS2 I c k r := by
  show payK I c r d (kd _) = _; rw [kd_s2 k h]; rfl
theorem payload_p2 (h : k ≠ 0) (d : Fin 32) : (Sc I).payload (cP2 c k) r d = payP2 I c k r := by
  show payK I c r d (kd _) = _; rw [kd_p2 k h]; rfl
theorem payload_loc (d : Fin 32) : (Sc I).payload (cLoc c) r d = payLoc I c := by
  show payK I c r d (kd (.dma semLoc)) = _; rw [kd_loc]; rfl
theorem payload_bar (d : Fin 32) : (Sc I).payload (cBar c) r d = payBar (F := F) c d := rfl

/-- A round with one payment expects its units, -/
theorem expect_one {g : GSem nD τ sig} (hd : (Sc I).duties g r = {0}) (ha : (Sc I).amount g r 0 = N) : (Sc I).expect g r = N := by
  unfold Schedule.expect Schedule.amountOf; rw [hd, Finset.sum_singleton, ha]
/-- and what is left of it before any payment is what that payment hands over. -/
theorem rest_one {g : GSem nD τ sig} {pay : sProp 𝕄} (hd : (Sc I).duties g r = {0}) (hp : (Sc I).payload g r 0 = pay) :
    bigSep ((Sc I).duties g r \ ∅) (fun d => (Sc I).payload g r d) = pay := by
  rw [Finset.sdiff_empty, hd, bigSep_singleton, hp]
/-- The handshake expects a unit from each other device. -/
theorem expect_bar : (Sc I).expect (cBar c) 0 = 31 := by
  unfold Schedule.expect Schedule.amountOf
  rw [duties_bar, Finset.sum_congr rfl fun d _ => amount_bar I c 0 d, Finset.sum_const, smul_eq_mul]
  decide
end Rules

/-! ## Intervals of places -/

/-- The places from `a` up to, not including, `b`. -/
def iv (a b : ℕ) : Finset (Fin 32) := Finset.univ.filter fun k => a ≤ k.val ∧ k.val < b

theorem mem_iv {a b : ℕ} {k : Fin 32} : k ∈ iv a b ↔ a ≤ k.val ∧ k.val < b := by simp [iv]
theorem iv_self (a : ℕ) : iv a a = ∅ := by ext k; simp [mem_iv]
theorem iv_full : iv 0 32 = Finset.univ := by ext k; simp [mem_iv]
theorem iv_ne : iv 1 32 = Finset.univ.filter (· ≠ 0) := by decide
theorem iv_cons {a b : ℕ} (h : a < b) (ha : a < 32) : iv a b = insert (⟨a, ha⟩ : Fin 32) (iv (a + 1) b) := by
  ext k; simp only [mem_iv, Finset.mem_insert, Fin.ext_iff]; omega
theorem notMem_iv_cons {a b : ℕ} (ha : a < 32) : (⟨a, ha⟩ : Fin 32) ∉ iv (a + 1) b := by simp [mem_iv]
theorem iv_snoc {a b : ℕ} (h : a ≤ b) (hb : b < 32) : iv a (b + 1) = insert (⟨b, hb⟩ : Fin 32) (iv a b) := by
  ext k; simp only [mem_iv, Finset.mem_insert, Fin.ext_iff]; omega
theorem notMem_iv_snoc {a b : ℕ} (hb : b < 32) : (⟨b, hb⟩ : Fin 32) ∉ iv a b := by simp [mem_iv]
theorem iv_union {a b e : ℕ} (h : a ≤ b) (h' : b ≤ e) : iv a b ∪ iv b e = iv a e := by
  ext k; simp only [mem_iv, Finset.mem_union]; omega
theorem iv_disj {a b b' e : ℕ} (h : b ≤ b') : Disjoint (iv a b) (iv b' e) := by
  rw [Finset.disjoint_left]; intro k; simp only [mem_iv]; omega
theorem ne_zero_of_iv {a b : ℕ} (ha : 1 ≤ a) {k : Fin 32} (h : k ∈ iv a b) : k ≠ 0 := by
  rintro rfl; simp [mem_iv] at h; omega

/-! ## What is owed -/

/-- Over a set of places, `n` units of round `r` to the cell of each. -/
def due (f : Fin 32 → GSem nD τ sig) (r n : ℕ) (s : Finset (Fin 32)) : CellTallies nD τ sig ℕ := ∑ k ∈ s, tallyAt (f k) r n

theorem due_empty (f : Fin 32 → GSem nD τ sig) (r n : ℕ) : due f r n ∅ = 0 := Finset.sum_empty
theorem due_cons (f : Fin 32 → GSem nD τ sig) (r n : ℕ) {a b : ℕ} (h : a < b) (ha : a < 32) :
    due f r n (iv a b) = tallyAt (f ⟨a, ha⟩) r n + due f r n (iv (a + 1) b) := by
  unfold due; rw [iv_cons h ha, Finset.sum_insert (notMem_iv_cons ha)]

/-- The cells device `c` pays: the handshake, the partial products, the activations. -/
abbrev toBar (c : Fin 32) : Fin 32 → GSem nD τ sig := fun k => cBar (peer c k)
abbrev toP1 (c : Fin 32) : Fin 32 → GSem nD τ sig := fun k => cP1 (peer c k) (ng k)
abbrev toP2 (c : Fin 32) : Fin 32 → GSem nD τ sig := fun k => cP2 (peer c k) (ng k)

/-- What device `c` owes after all its transfers of the first `n` of the five kinds, in the program's order. -/
def later (c : Fin 32) : ℕ → CellTallies nD τ sig ℕ
  | 0 => due (toP1 c) 0 N (iv 1 32) + (due (toP2 c) 0 N (iv 1 32) + (due (toP1 c) 1 N (iv 1 32) + (due (toP2 c) 1 N (iv 1 32) + (due (toP1 c) 2 N (iv 1 32) + 0))))
  | 1 => due (toP2 c) 0 N (iv 1 32) + (due (toP1 c) 1 N (iv 1 32) + (due (toP2 c) 1 N (iv 1 32) + (due (toP1 c) 2 N (iv 1 32) + 0)))
  | 2 => due (toP1 c) 1 N (iv 1 32) + (due (toP2 c) 1 N (iv 1 32) + (due (toP1 c) 2 N (iv 1 32) + 0))
  | 3 => due (toP2 c) 1 N (iv 1 32) + (due (toP1 c) 2 N (iv 1 32) + 0)
  | 4 => due (toP1 c) 2 N (iv 1 32) + 0
  | _ => 0
/-- What device `c` owes at the start. -/
def O₀ (c : Fin 32) : CellTallies nD τ sig ℕ := due (toBar c) 0 1 (iv 1 32) + later c 0

/-! ## Levels -/

def L (g : GSem nD τ sig) : Finset ℕ := if g.1.2 = .tc then {0, 1, 2} else ∅
def lvK : Kd → ℕ → ℕ
  | .bar, _ => 1
  | .p1 _, r => 2 + 2 * r
  | .p2 _, r => 3 + 2 * r
  | _, _ => 0
def lv (g : GSem nD τ sig) (r : ℕ) : ℕ := lvK (kd g.2) r

/-- Everything owed is to a device's own cells in one of the three rounds, above level `n`. -/
def Above (n : ℕ) (O : CellTallies nD τ sig ℕ) : Prop := ∀ g u, 0 < O g u → g.1.2 = .tc ∧ u < 3 ∧ n < lv g u

theorem above_zero (n : ℕ) : Above n 0 := fun g u h => absurd h (Nat.lt_irrefl 0)
theorem above_add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · rw [h0, Nat.zero_add] at hg; exact h' g u hg
  · exact h g u h0
theorem above_tally {n r k : ℕ} {g : GSem nD τ sig} (hg : g.1.2 = .tc) (hr : r < 3) (hl : n < lv g r) : Above n (tallyAt g r k) := by
  intro g' u h
  rw [tallyAt_apply] at h
  by_cases h' : g' = g ∧ u = r
  · obtain ⟨rfl, rfl⟩ := h'; exact ⟨hg, hr, hl⟩
  · rw [if_neg h'] at h; exact absurd h (Nat.lt_irrefl 0)
theorem above_due {n r k : ℕ} {f : Fin 32 → GSem nD τ sig} {s : Finset (Fin 32)} (hr : r < 3)
    (h : ∀ i ∈ s, (f i).1.2 = .tc ∧ n < lv (f i) r) : Above n (due f r k s) := by
  classical
  unfold due
  induction s using Finset.induction_on with
  | empty => rw [Finset.sum_empty]; exact above_zero n
  | insert i s hi ih =>
    rw [Finset.sum_insert hi]
    exact above_add (above_tally (h i (Finset.mem_insert_self _ _)).1 hr (h i (Finset.mem_insert_self _ _)).2)
      (ih fun j hj => h j (Finset.mem_insert_of_mem hj))
theorem above_bar {n : ℕ} (c : Fin 32) (s : Finset (Fin 32)) (hn : n < 1) : Above n (due (toBar c) 0 1 s) :=
  above_due (by decide) fun i _ => ⟨rfl, hn⟩
theorem above_p1 {n r : ℕ} (c : Fin 32) {a b : ℕ} (ha : 1 ≤ a) (hr : r < 3) (hn : n < 2 + 2 * r) : Above n (due (toP1 c) r N (iv a b)) :=
  above_due hr fun i hi => ⟨rfl, by
    show n < lvK (kd _) r; rw [kd_p1 _ (ng_ne (ne_zero_of_iv ha hi))]; exact hn⟩
theorem above_p2 {n r : ℕ} (c : Fin 32) {a b : ℕ} (ha : 1 ≤ a) (hr : r < 3) (hn : n < 3 + 2 * r) : Above n (due (toP2 c) r N (iv a b)) :=
  above_due hr fun i hi => ⟨rfl, by
    show n < lvK (kd _) r; rw [kd_p2 _ (ng_ne (ne_zero_of_iv ha hi))]; exact hn⟩
theorem above_later {n m : ℕ} (c : Fin 32) (h : n < 2 + m) : Above n (later c m) := by
  have h1 : ∀ r, r < 3 → n < 2 + 2 * r → Above n (due (toP1 c) r N (iv 1 32)) := fun r hr hn => above_p1 c (le_refl 1) hr hn
  have h2 : ∀ r, r < 3 → n < 3 + 2 * r → Above n (due (toP2 c) r N (iv 1 32)) := fun r hr hn => above_p2 c (le_refl 1) hr hn
  match m, h with
  | 0, h => exact above_add (h1 0 (by decide) (by omega)) (above_add (h2 0 (by decide) (by omega)) (above_add (h1 1 (by decide) (by omega)) (above_add (h2 1 (by decide) (by omega)) (above_add (h1 2 (by decide) (by omega)) (above_zero n)))))
  | 1, h => exact above_add (h2 0 (by decide) (by omega)) (above_add (h1 1 (by decide) (by omega)) (above_add (h2 1 (by decide) (by omega)) (above_add (h1 2 (by decide) (by omega)) (above_zero n))))
  | 2, h => exact above_add (h1 1 (by decide) (by omega)) (above_add (h2 1 (by decide) (by omega)) (above_add (h1 2 (by decide) (by omega)) (above_zero n)))
  | 3, h => exact above_add (h2 1 (by decide) (by omega)) (above_add (h1 2 (by decide) (by omega)) (above_zero n))
  | 4, h => exact above_add (h1 2 (by decide) (by omega)) (above_zero n)
  | _ + 5, h => exact above_zero n
theorem above_O₀ (c : Fin 32) : Above 0 (O₀ c) := above_add (above_bar c _ (by decide)) (above_later c (by decide))

theorem L_of_ne (g : GSem nD τ sig) (h : g.1.2 ≠ .tc) : L g = ∅ := if_neg h
theorem mem_L {g : GSem nD τ sig} {r : ℕ} (h : g.1.2 = .tc) (hr : r < 3) : r ∈ L g := by
  unfold L; rw [if_pos h]; simp only [Finset.mem_insert, Finset.mem_singleton]; omega

/-- A device may wait at a cell of its own for everything owed above the cell's level. -/
theorem mayWait {n r : ℕ} (c : Fin 32) (sm : SemLoc sig) {O : CellTallies nD τ sig ℕ} (hr : r < 3) (hl : lv (th c, sm) r ≤ n)
    (h : Above n O) : (levAts L lv : sProp 𝕄) ⊢ MayWait (th c) sm r O :=
  MayOwe.of_cut (L := L) (lev := lv) n (fun p hp => by rw [Finset.mem_singleton.mp hp]; exact mem_L rfl hr)
    (fun g u hg => mem_L (h g u hg).1 (h g u hg).2.1)
    (fun p hp => by rw [Finset.mem_singleton.mp hp]; exact hl)
    (fun g u hg => (h g u hg).2.2)

end Cert.KernelIdeal.AllReduce
-- ==== Proof.Steps.lean ====
module

public import proofs.«01_k».proof.Proof.Schedule

/-!
# One step of the kernel

What holds between two operations is written `St`: the cells' invariants, what the device owes, what it has for the
places a phase has still to treat and what it has got for those treated, and the rest. Each theorem here takes one
operation of the kernel: the state before it entails the weakest precondition of the operation followed by `k`, once
the state after it entails that of `k`.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-! ## The cells and their invariants -/

/-- A device's semaphores beyond the pipeline's own, numbered. -/
def csem (i : Fin 128) : SemLoc sig := if h : i.val < 127 then .dma ⟨8 + i.val, by show _ < 135; omega⟩ else .reg semBar
/-- The cells, by device and number. -/
def kcell (ck : Fin 32 × Fin 128) : GSem nD τ sig := (th ck.1, csem ck.2)

/-- A cell's invariant, under some name. -/
def Inv (I : Inp F) (g : GSem nD τ sig) : sProp 𝕄 := iprop(∃ κ : ℕ, cellInv ER (Sc I) κ g)
instance Inv_persistent (I : Inp F) (g : GSem nD τ sig) : BI.Persistent (Inv I g) := by unfold Inv; infer_instance
/-- What every device knows throughout: each cell's invariant and that it has reached its first round. -/
def Rec (I : Inp F) : sProp 𝕄 := bigSep (Finset.univ : Finset (Fin 32 × Fin 128)) fun ck => iprop(Inv I (kcell ck) ∗ reached ER (kcell ck) 0)
instance Rec_persistent (I : Inp F) : BI.Persistent (Rec I) := by unfold Rec; infer_instance
/-- That, and the levels. -/
def Ctx (I : Inp F) : sProp 𝕄 := iprop(Rec I ∗ levAts L lv)
instance Ctx_persistent (I : Inp F) : BI.Persistent (Ctx I) := by unfold Ctx; infer_instance

theorem kcell_dma (c : Fin 32) (q : DmaSem sig) (h : 8 ≤ q.val) :
    kcell (c, ⟨q.val - 8, by have : q.val < 135 := q.isLt; omega⟩) = (th c, .dma q) := by
  have hq : q.val < 135 := q.isLt
  unfold kcell csem
  rw [dif_pos (show (⟨q.val - 8, _⟩ : Fin 128).val < 127 by show q.val - 8 < 127; omega)]
  congr 2
  apply Fin.ext; show 8 + (q.val - 8) = q.val; omega
theorem kcell_bar (c : Fin 32) : kcell (c, 127) = cBar c := rfl

theorem ctx_cell (I : Inp F) (ck : Fin 32 × Fin 128) : Ctx I ⊢ iprop(Inv I (kcell ck) ∗ reached ER (kcell ck) 0) := by
  unfold Ctx Rec
  exact sep_elim_left.trans
    (bigSep_elim (Φ := fun ck => iprop(Inv I (kcell ck) ∗ reached ER (kcell ck) 0)) (Finset.mem_univ ck))
theorem ctx_dma (I : Inp F) (c : Fin 32) (q : DmaSem sig) (h : 8 ≤ q.val) : Ctx I ⊢ iprop(Inv I (th c, .dma q) ∗ reached ER (th c, .dma q) 0) := by
  rw [← kcell_dma c q h]; exact ctx_cell I _
theorem ctx_bar (I : Inp F) (c : Fin 32) : Ctx I ⊢ iprop(Inv I (cBar c) ∗ reached ER (cBar c) 0) := by
  rw [← kcell_bar c]; exact ctx_cell I _

theorem semS1_ge {k : Fin 32} (h : k ≠ 0) : 8 ≤ (semS1 k).val := by
  have : k.val ≠ 0 := fun e => h (Fin.ext e)
  show 8 ≤ 7 + k.val; omega
theorem semS2_ge (k : Fin 32) : 8 ≤ (semS2 k).val := by show 8 ≤ 38 + k.val; omega
theorem semP1_ge (k : Fin 32) : 8 ≤ (semP1 k).val := by show 8 ≤ 70 + k.val; omega
theorem semP2_ge (k : Fin 32) : 8 ≤ (semP2 k).val := by show 8 ≤ 102 + k.val; omega

theorem add_rot (a b R : CellTallies nD τ sig ℕ) : a + b + R = b + R + a := by rw [add_assoc, add_comm]

/-! ## Phases -/

/-- What device `c` owes, whatever it has waited for. -/
def Ow (c : Fin 32) (O : CellTallies nD τ sig ℕ) : sProp 𝕄 := iprop(∃ W, owes (th c) O W)

/-- The weakest precondition of a program of device `c`'s core. -/
abbrev W {α : Type} (c : Fin 32) (p : Prog (TpuEff nD τ sig (Elt F) Λ₀ .tc) α) (Q : α → sProp 𝕄) : sProp 𝕄 :=
  wp frame (wpE (defs₀ (F := F)) Variants.none (th c) none) Set.univ p Q

/-- Within a phase over the places from `a` to `b`, those below `i` treated: what is known, owed, had for each place to
    come, got for each place treated, and kept. -/
def St (I : Inp F) (c : Fin 32) (O : CellTallies nD τ sig ℕ) (A B : Fin 32 → sProp 𝕄) (a i b : ℕ) (X : sProp 𝕄) : sProp 𝕄 :=
  iprop(Ctx I ∗ Ow c O ∗ bigSep (iv i b) A ∗ bigSep (iv a i) B ∗ X)

theorem bigSep_iv_cons {a b : ℕ} (h : a < b) (ha : a < 32) (A : Fin 32 → sProp 𝕄) :
    bigSep (iv a b) A = iprop(A ⟨a, ha⟩ ∗ bigSep (iv (a + 1) b) A) := by
  rw [iv_cons h ha, bigSep_insert (notMem_iv_cons ha)]; rfl
theorem bigSep_iv_snoc {a b : ℕ} (h : a ≤ b) (hb : b < 32) (A : Fin 32 → sProp 𝕄) :
    bigSep (iv a (b + 1)) A = iprop(A ⟨b, hb⟩ ∗ bigSep (iv a b) A) := by
  rw [iv_snoc h hb, bigSep_insert (notMem_iv_snoc hb)]; rfl

/-- One place treated. -/
theorem phase_step {I : Inp F} {c : Fin 32} {O O' : CellTallies nD τ sig ℕ} {A B : Fin 32 → sProp 𝕄} {a i b : ℕ} {X : sProp 𝕄}
    (hi : a ≤ i ∧ i < b ∧ i < 32) {wpk wpo : sProp 𝕄}
    (core : iprop(Ctx I ∗ Ow c O ∗ A ⟨i, hi.2.2⟩) ⊢ iprop((iprop(Ow c O' ∗ B ⟨i, hi.2.2⟩) -∗ wpk) -∗ wpo))
    (h : St I c O' A B a (i + 1) b X ⊢ wpk) : St I c O A B a i b X ⊢ wpo := by
  unfold St at h ⊢
  rw [bigSep_iv_cons hi.2.1 hi.2.2]
  rw [bigSep_iv_snoc hi.1 hi.2.2] at h
  iintro ⟨#HC, HO, ⟨HA, HAs⟩, HBs, HX⟩
  iapply core $$ [HO HA]
  · isplitr; · iexact HC
    isplitl [HO] <;> iassumption
  iintro ⟨HO, HB⟩
  iapply h
  isplitr; · iexact HC
  isplitl [HO]; · iexact HO
  isplitl [HAs]; · iexact HAs
  isplitl [HB HBs]
  · isplitl [HB] <;> iassumption
  iexact HX

/-! ## The devices the kernel addresses -/

/-- The devices named by the kernel's signals and transfers, in the program's order: six rounds over the places 1 to 31. -/
def devs : List (Dev nD → ℕ) := [k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31, k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62, k0_dev63, k0_dev64, k0_dev65, k0_dev66, k0_dev67, k0_dev68, k0_dev69, k0_dev70, k0_dev71, k0_dev72, k0_dev73, k0_dev74, k0_dev75, k0_dev76, k0_dev77, k0_dev78, k0_dev79, k0_dev80, k0_dev81, k0_dev82, k0_dev83, k0_dev84, k0_dev85, k0_dev86, k0_dev87, k0_dev88, k0_dev89, k0_dev90, k0_dev91, k0_dev92, k0_dev93, k0_dev94, k0_dev95, k0_dev96, k0_dev97, k0_dev98, k0_dev99, k0_dev100, k0_dev101, k0_dev102, k0_dev103, k0_dev104, k0_dev105, k0_dev106, k0_dev107, k0_dev108, k0_dev109, k0_dev110, k0_dev111, k0_dev112, k0_dev113, k0_dev114, k0_dev115, k0_dev116, k0_dev117, k0_dev118, k0_dev119, k0_dev120, k0_dev121, k0_dev122, k0_dev123, k0_dev124, k0_dev125, k0_dev126, k0_dev127, k0_dev128, k0_dev129, k0_dev130, k0_dev131, k0_dev132, k0_dev133, k0_dev134, k0_dev135, k0_dev136, k0_dev137, k0_dev138, k0_dev139, k0_dev140, k0_dev141, k0_dev142, k0_dev143, k0_dev144, k0_dev145, k0_dev146, k0_dev147, k0_dev148, k0_dev149, k0_dev150, k0_dev151, k0_dev152, k0_dev153, k0_dev154, k0_dev155, k0_dev156, k0_dev157, k0_dev158, k0_dev159, k0_dev160, k0_dev161, k0_dev162, k0_dev163, k0_dev164, k0_dev165, k0_dev166, k0_dev167, k0_dev168, k0_dev169, k0_dev170, k0_dev171, k0_dev172, k0_dev173, k0_dev174, k0_dev175, k0_dev176, k0_dev177, k0_dev178, k0_dev179, k0_dev180, k0_dev181, k0_dev182, k0_dev183, k0_dev184, k0_dev185, k0_dev186]
/-- The device the `j`th of them names on device `c`. -/
def dv (j : ℕ) (c : Fin 32) : ℕ := (devs.map fun f => f c)[j]!
theorem devs_eq : ∀ c : Fin 32, devs.map (fun f => f c) = (List.range 186).map fun i => (c.val + (i % 31 + 1)) % 32 := by decide +kernel
theorem dv_eq (c : Fin 32) {j : ℕ} (h : j < 186) : dv j c = (c.val + (j % 31 + 1)) % 32 := by
  unfold dv; rw [devs_eq]; simp [h]
/-- A device with the number of the `j`th is the one so many places on. -/
theorem eq_peer {c : Fin 32} {n : Dev nD} {j i : ℕ} (hn : n.val = dv j c) (hj : j < 186) (hi : i < 32) (h : j % 31 + 1 = i) : n = peer c ⟨i, hi⟩ := by
  apply Fin.ext; rw [hn, dv_eq c hj, h]; rfl

/-! ## The handshake -/

/-- What a signal needs: its duty, and the slots it offers. -/
def preSig (c k : Fin 32) : sProp 𝕄 := iprop(dutyTok ER (cBar (peer c k)) 0 (ng k) ∗ rsAny (F := F) c k ∗ xgAny (F := F) c k)

theorem step_signal {I : Inp F} {c : Fin 32} (i : ℕ) {R : CellTallies nD τ sig ℕ} {X : sProp 𝕄} (hi : 1 ≤ i ∧ i < 32 ∧ i < 32)
    {n : Dev nD} (hn : n.val = dv (i - 1) c) {α : Type} {k : PUnit → Prog (TpuEff nD τ sig (Elt F) Λ₀ .tc) α} {Q : α → sProp 𝕄}
    (h : St I c (due (toBar c) 0 1 (iv (i + 1) 32) + R) (preSig c) (fun _ => iprop(emp)) 1 (i + 1) 32 X ⊢ W c (k ⟨⟩) Q) :
    St I c (due (toBar c) 0 1 (iv i 32) + R) (preSig c) (fun _ => iprop(emp)) 1 i 32 X ⊢ W c (.op (.semSignal (n, .tc) semBar 1) k) Q := by
  refine phase_step hi ?_ h
  have hn' : n = peer c ⟨i, hi.2.2⟩ := eq_peer hn (by omega) hi.2.2 (by omega)
  subst hn'
  rw [due_cons _ _ _ hi.2.1 hi.2.2]
  unfold Ow preSig
  generalize hk : (⟨i, hi.2.2⟩ : Fin 32) = k'
  have hk0 : k' ≠ 0 := by rintro rfl; have := congrArg Fin.val hk; simp at this; omega
  iintro ⟨#HC, ⟨%W0, HO⟩, Htok, Hrs, Hxg⟩ Hk
  ihave H := (ctx_bar I (peer c k')) $$ HC
  icases H with ⟨HI, HR⟩
  unfold Inv
  icases HI with ⟨%κ, HI⟩
  iapply (Rounds.wp_signal Variants.none ER (Sc I) (th c) none (dst := th (peer c k')) (κ := κ) (r := 0)
      (d := ng k') (by rw [duties_bar]; exact Finset.mem_filter.mpr ⟨Finset.mem_univ _, ng_ne hk0⟩) (amount_bar I (peer c k') 0 (ng k')) 0
      (due (toBar c) 0 1 (iv (i + 1) 32) + R) (add_rot _ _ _)) $$ [HI HO Htok Hrs Hxg HR]
  · isplitl [HI]; · iexact HI
    isplitl [HO]; · iexact HO
    isplitl [Htok]; · iexact Htok
    isplitl [Hrs Hxg]
    · rw [payload_bar]; unfold payBar; rw [peer_ng, ng_ng]
      isplitl [Hrs] <;> iassumption
    iexact HR
  iintro HO
  iapply Hk
  isplitl; · iexists W0; iexact HO
  iempintro

/-! ## Waits -/

/-- What a wait for round `r` needs: the position before the round, and credit for it. -/
def preW (c : Fin 32) (q : DmaSem sig) (r : ℕ) : sProp 𝕄 := iprop(atPos ER (th c, .dma q) r ∅ 0 ∗ cred (tallyAt (th c, .dma q) r N))
/-- What it gives: the position after the round, that the next is reached, and what the round's payment hands over. -/
def postW (c : Fin 32) (q : DmaSem sig) (r : ℕ) (pay : sProp 𝕄) : sProp 𝕄 :=
  iprop(atPos ER (th c, .dma q) (r + 1) ∅ 0 ∗ reached ER (th c, .dma q) (r + 1) ∗ pay)

theorem wait_core {I : Inp F} {c : Fin 32} {O : CellTallies nD τ sig ℕ} {q : DmaSem sig} {n r : ℕ} {pay : sProp 𝕄} (hq : 8 ≤ q.val)
    (hd : (Sc I).duties (th c, .dma q) r = {0}) (ha : (Sc I).amount (th c, .dma q) r 0 = N) (hp : (Sc I).payload (th c, .dma q) r 0 = pay)
    (hr : r < 3) (hl : lv (th c, .dma q) r ≤ n) (hO : Above n O)
    {sp sp' : Space} {s s' : Shape} {e e' : EltTy} {src : Memref sig .tc sp' s' e'} {dst : Memref sig .tc sp s e}
    (hcr : dst.view.dmaCredit = N) {h1 : src.view.WordExact} {h2 : dst.view.WordExact}
    {α : Type} {k : PUnit → Prog (TpuEff nD τ sig (Elt F) Λ₀ .tc) α} {Q : α → sProp 𝕄} :
    iprop(Ctx I ∗ Ow c O ∗ preW c q r) ⊢ iprop((iprop(Ow c O ∗ postW c q r pay) -∗ W c (k ⟨⟩) Q)
      -∗ W c (.op (.waitDma2 q src dst h1 h2) k) Q) := by
  unfold Ow preW postW
  iintro ⟨#HC, ⟨%W0, HO⟩, Hat, Hc⟩ Hk
  ihave H := (ctx_dma I c q hq) $$ HC
  icases H with ⟨HI, -⟩
  unfold Inv
  icases HI with ⟨%κ, HI⟩
  iapply (Rounds.wp_wait_rest_token Variants.none ER (Sc I) (th c) none (κ := κ) (fun K => wpE_waitDma2_eq Variants.none (th c) none Set.univ K)
      (Set.mem_univ κ) r (O := O) (W := W0) (R := r) (m := 0) (T := ∅) (by rw [Nat.zero_add, hcr, expect_one I r hd ha])) $$ [HI HO Hat Hc]
  · isplitl [HI]; · iexact HI
    isplitl [Hc]; · rw [hcr]; iexact Hc
    isplitl [HO]; · iexact HO
    isplitr
    · unfold Ctx
      icases HC with ⟨-, HL⟩
      iapply (mayWait c _ hr hl hO); iexact HL
    iexact Hat
  iintro ⟨HO, Hat, HR, Hpay⟩
  iapply Hk
  isplitl [HO]; · iexists _; iexact HO
  isplitl [Hat]; · iexact Hat
  isplitl [HR]; · iexact HR
  iapply (Entails.of_eq (rest_one I r hd hp)); iexact Hpay

section WaitSteps
variable {I : Inp F} {c : Fin 32} {O : CellTallies nD τ sig ℕ} (r : ℕ) {a i b : ℕ} {q : DmaSem sig}
  {sp sp' : Space} {s s' : Shape} {e e' : EltTy} {src : Memref sig .tc sp' s' e'} {dst : Memref sig .tc sp s e}
  {h1 : src.view.WordExact} {h2 : dst.view.WordExact}
  {α : Type} {k : PUnit → Prog (TpuEff nD τ sig (Elt F) Λ₀ .tc) α}

theorem fin_ne {i : ℕ} (h : 1 ≤ i) (h' : i < 32) : (⟨i, h'⟩ : Fin 32) ≠ 0 := fun e => by have := congrArg Fin.val e; simp at this; omega

/-- A partial product has left. -/
theorem step_s1 {X : sProp 𝕄} {Q : α → sProp 𝕄} (hi : 1 ≤ i ∧ a ≤ i ∧ i < b ∧ i < 32) (hq : q = semS1 ⟨i, hi.2.2.2⟩) (hcr : dst.view.dmaCredit = N) (hr : r < 3) (hO : Above 0 O)
    (h : St I c O (fun k => preW c (semS1 k) r) (fun k => postW c (semS1 k) r (payS1 I c k r)) a (i + 1) b X ⊢ W c (k ⟨⟩) Q) :
    St I c O (fun k => preW c (semS1 k) r) (fun k => postW c (semS1 k) r (payS1 I c k r)) a i b X ⊢ W c (.op (.waitDma2 q src dst h1 h2) k) Q := by
  subst hq
  have h0 := fin_ne hi.1 hi.2.2.2
  refine phase_step hi.2 ?_ h
  exact wait_core (semS1_ge h0) (duties_s1 I c _ r h0 hr) (amount_s1 I c _ r h0 0) (payload_s1 I c _ r h0 0) hr
    (by show lvK (kd _) r ≤ 0; rw [kd_s1 _ h0]; exact le_refl 0) hO hcr
/-- A reduced slot has left. -/
theorem step_s2 {X : sProp 𝕄} {Q : α → sProp 𝕄} (hi : 1 ≤ i ∧ a ≤ i ∧ i < b ∧ i < 32) (hq : q = semS2 ⟨i, hi.2.2.2⟩) (hcr : dst.view.dmaCredit = N) (hr : r < 2) (hO : Above 0 O)
    (h : St I c O (fun k => preW c (semS2 k) r) (fun k => postW c (semS2 k) r (payS2 I c k r)) a (i + 1) b X ⊢ W c (k ⟨⟩) Q) :
    St I c O (fun k => preW c (semS2 k) r) (fun k => postW c (semS2 k) r (payS2 I c k r)) a i b X ⊢ W c (.op (.waitDma2 q src dst h1 h2) k) Q := by
  subst hq
  have h0 := fin_ne hi.1 hi.2.2.2
  refine phase_step hi.2 ?_ h
  exact wait_core (semS2_ge _) (duties_s2 I c _ r h0 hr) (amount_s2 I c _ r h0 0) (payload_s2 I c _ r h0 0) (by omega)
    (by show lvK (kd _) r ≤ 0; rw [kd_s2 _ h0]; exact le_refl 0) hO hcr
/-- A partial product has come; the kernel waits for the slots from the last down. -/
theorem step_p1 {X : sProp 𝕄} {Q : α → sProp 𝕄} (hi : 1 ≤ i ∧ a ≤ i ∧ i < b ∧ i < 32) (hq : q = semP1 (ng ⟨i, hi.2.2.2⟩)) (hcr : dst.view.dmaCredit = N) (hr : r < 3)
    (hO : Above (2 + 2 * r) O)
    (h : St I c O (fun k => preW c (semP1 (ng k)) r) (fun k => postW c (semP1 (ng k)) r (payP1 I c (ng k) r)) a (i + 1) b X ⊢ W c (k ⟨⟩) Q) :
    St I c O (fun k => preW c (semP1 (ng k)) r) (fun k => postW c (semP1 (ng k)) r (payP1 I c (ng k) r)) a i b X
      ⊢ W c (.op (.waitDma2 q src dst h1 h2) k) Q := by
  subst hq
  have h0 := ng_ne (fin_ne hi.1 hi.2.2.2)
  refine phase_step hi.2 ?_ h
  exact wait_core (semP1_ge _) (duties_p1 I c _ r h0 hr) (amount_p1 I c _ r h0 0) (payload_p1 I c _ r h0 0) (by omega)
    (by show lvK (kd _) r ≤ _; rw [kd_p1 _ h0]; exact le_refl _) hO hcr
/-- A slot of the activations has come. -/
theorem step_p2 {X : sProp 𝕄} {Q : α → sProp 𝕄} (hi : 1 ≤ i ∧ a ≤ i ∧ i < b ∧ i < 32) (hq : q = semP2 ⟨i, hi.2.2.2⟩) (hcr : dst.view.dmaCredit = N) (hr : r < 2)
    (hO : Above (3 + 2 * r) O)
    (h : St I c O (fun k => preW c (semP2 k) r) (fun k => postW c (semP2 k) r (payP2 I c k r)) a (i + 1) b X ⊢ W c (k ⟨⟩) Q) :
    St I c O (fun k => preW c (semP2 k) r) (fun k => postW c (semP2 k) r (payP2 I c k r)) a i b X
      ⊢ W c (.op (.waitDma2 q src dst h1 h2) k) Q := by
  subst hq
  have h0 := fin_ne hi.1 hi.2.2.2
  refine phase_step hi.2 ?_ h
  exact wait_core (semP2_ge _) (duties_p2 I c _ r h0 hr) (amount_p2 I c _ r h0 0) (payload_p2 I c _ r h0 0) (by omega)
    (by show lvK (kd _) r ≤ _; rw [kd_p2 _ h0]; exact le_refl _) hO hcr
end WaitSteps

/-! ## Transfers -/

theorem set_xg (k : Fin 32) : (slotM xgM k).view.set = slot k := (slotM_set xgM k).trans Finset.map_refl
theorem set_rs (k : Fin 32) : (slotM rsM k).view.set = slot k := (slotM_set rsM k).trans Finset.map_refl
theorem set_p (k : Fin 32) : (slotM pM k).view.set = slot k := (slotM_set pM k).trans Finset.map_refl
theorem set_red : redM.view.set = Finset.univ := View.set_whole _

/-- What a transfer into a slot leaves there. -/
theorem write_xg (k : Fin 32) (f : C32 F) (g : C2 F) {i : S32x2x512.Idx} (h : i ∈ slot k) :
    (slotM xgM k).view.write (Elt F) f g Finset.univ i = g (tl i) := by
  have hi : (slotM xgM k).view.emb (tl i) = i := (slotM_emb xgM k (tl i)).trans (by rw [← mem_slot.mp h]; exact sIdx_hd_tl i)
  conv_lhs => rw [← hi]
  exact View.write_emb_of_mem _ _ (Finset.mem_univ _)
theorem write_rs (k : Fin 32) (f : C32 F) (g : C2 F) {i : S32x2x512.Idx} (h : i ∈ slot k) :
    (slotM rsM k).view.write (Elt F) f g Finset.univ i = g (tl i) := by
  have hi : (slotM rsM k).view.emb (tl i) = i := (slotM_emb rsM k (tl i)).trans (by rw [← mem_slot.mp h]; exact sIdx_hd_tl i)
  conv_lhs => rw [← hi]
  exact View.write_emb_of_mem _ _ (Finset.mem_univ _)
/-- What a transfer reads of a slot. -/
theorem read_p (k : Fin 32) (f : C32 F) (j : S2x512.Idx) : (slotM pM k).view.read (Elt F) f j = f (sIdx k j) :=
  congrArg f (slotM_emb pM k j)

/-- What the transfer of a partial product `k` places on needs in layer `r`. -/
def pre1 (I : Inp F) (r : ℕ) (c k : Fin 32) : sProp 𝕄 :=
  iprop((dutyTok ER (cS1 c k) r 0 ∗ dutyTok ER (toP1 c k) r 0) ∗ (reached ER (cS1 c k) r ∗ reached ER (toP1 c k) r)
    ∗ rsAny (F := F) (peer c k) (ng k) ∗ payS1 I c k r ∗ ext1 (F := F) (peer c k) (ng k) r)
/-- What it gives at once: the credit to wait for its having left. -/
def post1 (r : ℕ) (c k : Fin 32) : sProp 𝕄 := cred (tallyAt (cS1 c k) r N)
/-- What the transfer of the reduced slot `k` places on needs after layer `r`. -/
def pre2 (I : Inp F) (r : ℕ) (c k : Fin 32) : sProp 𝕄 :=
  iprop((dutyTok ER (cS2 c k) r 0 ∗ dutyTok ER (toP2 c k) r 0) ∗ (reached ER (cS2 c k) r ∗ reached ER (toP2 c k) r)
    ∗ xgAny (F := F) (peer c k) (ng k) ∗ payS2 I c k r ∗ rsAny (F := F) c k ∗ reached ER (cP1 c k) (r + 1))
def post2 (r : ℕ) (c k : Fin 32) : sProp 𝕄 := cred (tallyAt (cS2 c k) r N)

/-- What arrives is what the receiver gathers. -/
theorem RS_peer (I : Inp F) (r : ℕ) (c k : Fin 32) {i : S32x2x512.Idx} (h : i ∈ slot (ng k)) :
    RS I r (peer c k) i = P I r c (sIdx (src r c k) (tl i)) := by
  unfold RS gath; rw [mem_slot.mp h, peer_ng, ng_ng]
theorem XG_peer (I : Inp F) (r : ℕ) (c k : Fin 32) {i : S32x2x512.Idx} (h : i ∈ slot (ng k)) :
    XG I r (peer c k) i = RED I r c (tl i) := by
  unfold XG; rw [mem_slot.mp h, peer_ng]

section SendSteps
variable {I : Inp F} {c : Fin 32} {R : CellTallies nD τ sig ℕ} (r : ℕ) {a i b : ℕ}
  {α : Type} {K : PUnit → Prog (TpuEff nD τ sig (Elt F) Λ₀ .tc) α}

/-- A partial product is sent. -/
theorem step_send1 {X : sProp 𝕄} {Q : α → sProp 𝕄} (hi : 1 ≤ i ∧ a ≤ i ∧ i < b ∧ i < 32) (hr : r < 3) {n : Dev nD} (hn : n.val = dv (31 + 62 * r + (i - 1)) c)
    {sM : Memref sig .tc .vmem S2x512 .bf16} {dM : Memref sig (Dev.tc n : Thread nD τ).2.kind .vmem S2x512 .bf16} {sS sV : DmaSem sig}
    (hsM : sM = slotM pM (src r c ⟨i, hi.2.2.2⟩)) (hdM : dM = slotM rsM (ng ⟨i, hi.2.2.2⟩))
    (hsS : sS = semS1 ⟨i, hi.2.2.2⟩) (hsV : sV = semP1 (ng ⟨i, hi.2.2.2⟩))
    {hsc : dM.view.ref.isScScratch = false} {h1 : sM.view.WordExact} {h2 : dM.view.WordExact}
    {h3 : DmaTarget.Typed .vmem (.dma sV) (.remote (Dev.tc n) dM (.dma sS) hsc)}
    (h : St I c (due (toP1 c) r N (iv (i + 1) 32) + R) (pre1 I r c) (post1 (F := F) r c) a (i + 1) b X ⊢ W c (K ⟨⟩) Q) :
    St I c (due (toP1 c) r N (iv i 32) + R) (pre1 I r c) (post1 (F := F) r c) a i b X
      ⊢ W c (.op (.enqueueDma sM (.remote (Dev.tc n) dM (.dma sS) hsc) (.dma sV) h1 h2 h3) K) Q := by
  refine phase_step hi.2 ?_ h
  have hn' : n = peer c ⟨i, hi.2.2.2⟩ := eq_peer hn (by omega) hi.2.2.2 (by omega)
  subst hn'; subst hsM; subst hdM; subst hsS; subst hsV
  rw [due_cons _ _ _ hi.2.2.2 hi.2.2.2]
  have hk0 := fin_ne hi.1 hi.2.2.2
  generalize (⟨i, hi.2.2.2⟩ : Fin 32) = k at *
  unfold Ow pre1 post1 payS1
  iintro ⟨#HC, ⟨%W0, HO⟩, ⟨Ht1, Ht2⟩, ⟨HR1, HR2⟩, ⟨%fd, Hrs⟩, Hp, Hx⟩ Hk
  ihave H1 := (ctx_dma I c (semS1 k) (semS1_ge hk0)) $$ HC
  ihave H2 := (ctx_dma I (peer c k) (semP1 (ng k)) (semP1_ge _)) $$ HC
  icases H1 with ⟨HI1, -⟩
  icases H2 with ⟨HI2, -⟩
  unfold Inv
  icases HI1 with ⟨%κ1, HI1⟩
  icases HI2 with ⟨%κ2, HI2⟩
  iapply (Rounds.wp_send_pointsTo_with Variants.none ER (Sc I) (th c) none (c' := th (peer c k)) (src := slotM pM (src r c k)) (dst := slotM rsM (ng k))
      (κ₁ := κ1) (κ₂ := κ2) (r₁ := r) (r₂ := r) (d₁ := 0) (d₂ := 0) (q := fullShare) (fs := P I r c) (fd := fd)
      (F := ext1 (F := F) (peer c k) (ng k) r)
      (by rw [duties_s1 I c k r hk0 hr]; exact Finset.mem_singleton_self _)
      (by rw [duties_p1 I (peer c k) (ng k) r (ng_ne hk0) hr]; exact Finset.mem_singleton_self _) r r N rfl
      (amount_s1 I c k r hk0 0) (amount_p1 I (peer c k) (ng k) r (ng_ne hk0) 0) (due (toP1 c) r N (iv (i + 1) 32) + R) (add_rot _ _ _)
      (by rw [payload_s1 I c k r hk0, set_p]; exact .rfl)
      (by
        rw [payload_p1 I (peer c k) (ng k) r (ng_ne hk0), set_rs]
        unfold payP1
        refine sep_mono_left (Entails.of_eq (pointsTo_congr fun i hi => ?_))
        rw [write_rs _ _ _ hi, RS_peer I r c k hi]; exact read_p _ _ _)) $$ [HI1 HI2 HO Ht1 Ht2 HR1 HR2 Hrs Hp Hx]
  · isplitl [HI1]; · iexact HI1
    isplitl [HI2]; · iexact HI2
    isplitl [Hp]; · rw [set_p]; iexact Hp
    isplitl [Hrs Hx]
    · isplitl [Hrs]; · rw [set_rs]; iexact Hrs
      iexact Hx
    isplitl [HO]; · iexact HO
    isplitl [Ht1]; · iexact Ht1
    isplitl [HR1]; · iexact HR1
    isplitl [Ht2]; · iexact Ht2
    iexact HR2
  iintro ⟨Hc, HO⟩
  iapply Hk
  isplitl [HO]; · iexists W0; iexact HO
  iexact Hc

/-- The reduced slot is sent. -/
theorem step_send2 {X : sProp 𝕄} {Q : α → sProp 𝕄} (hi : 1 ≤ i ∧ a ≤ i ∧ i < b ∧ i < 32) (hr : r < 2) {n : Dev nD} (hn : n.val = dv (62 + 62 * r + (i - 1)) c)
    {dM : Memref sig (Dev.tc n : Thread nD τ).2.kind .vmem S2x512 .bf16} {sS sV : DmaSem sig}
    (hdM : dM = slotM xgM (ng ⟨i, hi.2.2.2⟩)) (hsS : sS = semS2 ⟨i, hi.2.2.2⟩) (hsV : sV = semP2 (ng ⟨i, hi.2.2.2⟩))
    {hsc : dM.view.ref.isScScratch = false} {h1 : redM.view.WordExact} {h2 : dM.view.WordExact}
    {h3 : DmaTarget.Typed .vmem (.dma sV) (.remote (Dev.tc n) dM (.dma sS) hsc)}
    (h : St I c (due (toP2 c) r N (iv (i + 1) 32) + R) (pre2 I r c) (post2 (F := F) r c) a (i + 1) b X ⊢ W c (K ⟨⟩) Q) :
    St I c (due (toP2 c) r N (iv i 32) + R) (pre2 I r c) (post2 (F := F) r c) a i b X
      ⊢ W c (.op (.enqueueDma redM (.remote (Dev.tc n) dM (.dma sS) hsc) (.dma sV) h1 h2 h3) K) Q := by
  refine phase_step hi.2 ?_ h
  have hn' : n = peer c ⟨i, hi.2.2.2⟩ := eq_peer hn (by omega) hi.2.2.2 (by omega)
  subst hn'; subst hdM; subst hsS; subst hsV
  rw [due_cons _ _ _ hi.2.2.2 hi.2.2.2]
  have hk0 := fin_ne hi.1 hi.2.2.2
  generalize (⟨i, hi.2.2.2⟩ : Fin 32) = k at *
  unfold Ow pre2 post2 payS2
  iintro ⟨#HC, ⟨%W0, HO⟩, ⟨Ht1, Ht2⟩, ⟨HR1, HR2⟩, ⟨%fd, Hxg⟩, Hp, Hrs, HRc⟩ Hk
  ihave H1 := (ctx_dma I c (semS2 k) (semS2_ge k)) $$ HC
  ihave H2 := (ctx_dma I (peer c k) (semP2 (ng k)) (semP2_ge _)) $$ HC
  icases H1 with ⟨HI1, -⟩
  icases H2 with ⟨HI2, -⟩
  unfold Inv
  icases HI1 with ⟨%κ1, HI1⟩
  icases HI2 with ⟨%κ2, HI2⟩
  iapply (Rounds.wp_send_pointsTo_with Variants.none ER (Sc I) (th c) none (c' := th (peer c k)) (src := redM) (dst := slotM xgM (ng k))
      (κ₁ := κ1) (κ₂ := κ2) (r₁ := r) (r₂ := r) (d₁ := 0) (d₂ := 0) (q := leafQ k) (fs := RED I r c) (fd := fd)
      (F := iprop(rsAny (F := F) c k ∗ reached ER (cP1 c k) (r + 1)))
      (by rw [duties_s2 I c k r hk0 hr]; exact Finset.mem_singleton_self _)
      (by rw [duties_p2 I (peer c k) (ng k) r (ng_ne hk0) hr]; exact Finset.mem_singleton_self _) r r N rfl
      (amount_s2 I c k r hk0 0) (amount_p2 I (peer c k) (ng k) r (ng_ne hk0) 0) (due (toP2 c) r N (iv (i + 1) 32) + R) (add_rot _ _ _)
      (by rw [payload_s2 I c k r hk0, set_red]; exact .rfl)
      (by
        rw [payload_p2 I (peer c k) (ng k) r (ng_ne hk0), set_xg]
        unfold payP2
        rw [peer_ng, ng_ng]
        refine sep_mono_left (Entails.of_eq (pointsTo_congr fun i hi => ?_))
        rw [write_xg _ _ _ hi, XG_peer I r c k hi]; rfl)) $$ [HI1 HI2 HO Ht1 Ht2 HR1 HR2 Hrs Hp Hxg HRc]
  · isplitl [HI1]; · iexact HI1
    isplitl [HI2]; · iexact HI2
    isplitl [Hp]; · rw [set_red]; iexact Hp
    isplitl [Hrs Hxg HRc]
    · isplitl [Hxg]; · rw [set_xg]; iexact Hxg
      isplitl [Hrs]; · iexact Hrs
      iexact HRc
    isplitl [HO]; · iexact HO
    isplitl [Ht1]; · iexact Ht1
    isplitl [HR1]; · iexact HR1
    isplitl [Ht2]; · iexact Ht2
    iexact HR2
  iintro ⟨Hc, HO⟩
  iapply Hk
  isplitl [HO]; · iexists W0; iexact HO
  iexact Hc
end SendSteps

end Cert.KernelIdeal.AllReduce
-- ==== Proof.Memory.lean ====
module

public import proofs.«01_k».proof.Proof.Steps
public import Idealize.ShloMosaic.Lib.Pipeline.Value

/-!
# Loads and stores of the kernel

The state before a load or a store is `At`: what is known and owed, the memory the next operations touch, and the rest.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-- What is known, owed, in memory for the next operations, and kept. -/
def At (I : Inp F) (c : Fin 32) (O : CellTallies nD τ sig ℕ) (M X : sProp 𝕄) : sProp 𝕄 := iprop(Ctx I ∗ Ow c O ∗ M ∗ X)

/-- An operation on the memory at hand. -/
theorem mem_step {I : Inp F} {c : Fin 32} {O : CellTallies nD τ sig ℕ} {M M' X wpk wpo : sProp 𝕄}
    (core : M ⊢ iprop((M' -∗ wpk) -∗ wpo)) (h : At I c O M' X ⊢ wpk) : At I c O M X ⊢ wpo := by
  unfold At at h ⊢
  iintro ⟨#HC, HO, HM, HX⟩
  iapply core $$ HM
  iintro HM
  iapply h
  isplitr; · iexact HC
  isplitl [HO]; · iexact HO
  isplitl [HM] <;> iassumption
/-- An operation on memory at contents not known, -/
theorem any_step {β : Type} {A : β → sProp 𝕄} {V : Type} {wpk : V → sProp 𝕄} {wpo : sProp 𝕄} {v : β → V}
    (core : ∀ f, A f ⊢ iprop((A f -∗ wpk (v f)) -∗ wpo)) :
    iprop(∃ f, A f) ⊢ iprop((iprop(∃ f, A f) -∗ iprop(∀ v, wpk v)) -∗ wpo) := by
  iintro ⟨%f, H⟩ Hk
  iapply (core f) $$ H
  iintro H
  ihave Hw := Hk $$ [H]
  · iexists f; iexact H
  iapply Hw
theorem any_store {β : Type} {A : β → sProp 𝕄} {B wpk wpo : sProp 𝕄} (core : ∀ f, A f ⊢ iprop((B -∗ wpk) -∗ wpo)) :
    iprop(∃ f, A f) ⊢ iprop((B -∗ wpk) -∗ wpo) := by
  iintro ⟨%f, H⟩
  iapply (core f); iexact H
/-- or on the first or the second of two parts of it. -/
theorem left_step {A A' B wpk wpo : sProp 𝕄} (core : A ⊢ iprop((A' -∗ wpk) -∗ wpo)) : iprop(A ∗ B) ⊢ iprop((iprop(A' ∗ B) -∗ wpk) -∗ wpo) := by
  iintro ⟨HA, HB⟩ Hk
  iapply core $$ HA
  iintro HA
  iapply Hk
  isplitl [HA] <;> iassumption
theorem right_step {A A' B wpk wpo : sProp 𝕄} (core : A ⊢ iprop((A' -∗ wpk) -∗ wpo)) : iprop(B ∗ A) ⊢ iprop((iprop(B ∗ A') -∗ wpk) -∗ wpo) := by
  iintro ⟨HB, HA⟩ Hk
  iapply core $$ HA
  iintro HA
  iapply Hk
  isplitl [HB] <;> iassumption

theorem hz2 : (![0, 0] : Fin 2 → ℕ) = fun _ => 0 := by decide
theorem hz3 : (![0, 0, 0] : Fin 3 → ℕ) = fun _ => 0 := by decide

/-! ## Any load, any store -/

theorem load_core {c : Fin 32} {cs : CoreSpace} {s : Shape} {e : EltTy} {m : Memref sig .tc cs s e} {r : LoadRect s} {hl : m.view.LoadsAt r}
    {S : Finset (Idx (m.view.loc (th c)))} {q : PosShare TreeShare} {f : Buf (Elt F) (m.view.loc (th c))} (hS : m.view.setOn r.set ⊆ S)
    {v : r.shape.Idx → Elt F e} (hv : m.view.readAt (Elt F) r f = v)
    {α : Type} {k : (r.shape.Idx → Elt F e) → Prog (TpuEff nD τ sig (Elt F) Λ₀ .tc) α} {Q : α → sProp 𝕄} :
    (m.view.loc (th c) ↦[S]{q} f : sProp 𝕄) ⊢ iprop(((m.view.loc (th c) ↦[S]{q} f) -∗ W c (k v) Q) -∗ W c (.op (.load m r hl) k) Q) := by
  subst hv
  exact wp_load Variants.none (th c) none Set.univ hS

theorem store_core {c : Fin 32} {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {S : Finset (Idx ((m.access r).loc (th c)))} {f g : Buf (Elt F) ((m.access r).loc (th c))} (hS : (m.access r).setOn Finset.univ ⊆ S)
    (hv : ∀ i ∈ S, (m.access r).write (Elt F) f w Finset.univ i = g i)
    {α : Type} {k : PUnit → Prog (TpuEff nD τ sig (Elt F) Λ₀ .tc) α} {Q : α → sProp 𝕄} :
    ((m.access r).loc (th c) ↦[S]{fullShare} f : sProp 𝕄)
      ⊢ iprop((((m.access r).loc (th c) ↦[S]{fullShare} g) -∗ W c (k ⟨⟩) Q) -∗ W c (.op (.store m r w Finset.univ hx hm) k) Q) := by
  rw [← pointsTo_congr hv]
  exact wp_store Variants.none (th c) none Set.univ hS

/-! ## Blocks of slots -/

/-- An index of a block of slots from slot `a` on. -/
theorem blk_emb {a n : ℕ} (inb : ∀ b, (![a, 0, 0] : Fin 3 → ℕ) b + (![n, 2, 512] : Fin 3 → ℕ) b ≤ S32x2x512.size b)
    (x : (⟨3, ![n, 2, 512]⟩ : Shape).Idx) (h : a + (x 0).val < 32) :
    (Rect.unit (s := S32x2x512) ![a, 0, 0] ![n, 2, 512] inb).emb x = sIdx ⟨a + (x 0).val, h⟩ (fun b => x b.succ) := by
  funext b; apply Fin.ext
  fin_cases b
  · show a + 1 * (x 0).val = a + (x 0).val; omega
  · show 0 + 1 * (x 1).val = (x 1).val; omega
  · show 0 + 1 * (x 2).val = (x 2).val; omega

theorem blk_lt {a n : ℕ} (inb : ∀ b, (![a, 0, 0] : Fin 3 → ℕ) b + (![n, 2, 512] : Fin 3 → ℕ) b ≤ S32x2x512.size b)
    (x : (⟨3, ![n, 2, 512]⟩ : Shape).Idx) : a + (x 0).val < 32 := by
  have h0 : a + n ≤ 32 := inb 0
  have h1 : (x 0).val < n := (x 0).isLt
  omega

/-- The block lies within its slots. -/
theorem blk_sub {a n : ℕ} (inb : ∀ b, (![a, 0, 0] : Fin 3 → ℕ) b + (![n, 2, 512] : Fin 3 → ℕ) b ≤ S32x2x512.size b) (M : Finset _) :
    M.map (Rect.unit (s := S32x2x512) ![a, 0, 0] ![n, 2, 512] inb).emb ⊆ slots (iv a (a + n)) := by
  intro i hi
  obtain ⟨x, -, rfl⟩ := Finset.mem_map.mp hi
  rw [blk_emb inb x (blk_lt inb x), mem_slots, mem_iv]
  have h1 : (x 0).val < n := (x 0).isLt
  constructor
  · show a ≤ a + (x 0).val; omega
  · show a + (x 0).val < a + n; omega

/-- An index within the block that starts at slot `a`. -/
def inBlk (a n : ℕ) (i : S32x2x512.Idx) (h : (hd i).val - a < n) : (⟨3, ![n, 2, 512]⟩ : Shape).Idx :=
  Fin.cons (α := fun b : Fin 3 => (⟨3, ![n, 2, 512]⟩ : Shape).Coord b) (⟨(hd i).val - a, h⟩ : Fin n) (tl i)
theorem blk_inBlk {a n : ℕ} (inb : ∀ b, (![a, 0, 0] : Fin 3 → ℕ) b + (![n, 2, 512] : Fin 3 → ℕ) b ≤ S32x2x512.size b)
    (i : S32x2x512.Idx) (h : (hd i).val - a < n) (ha : a ≤ (hd i).val) :
    (Rect.unit (s := S32x2x512) ![a, 0, 0] ![n, 2, 512] inb).emb (inBlk a n i h) = i := by
  rw [blk_emb inb _ (blk_lt inb _)]
  conv_rhs => rw [← sIdx_hd_tl i]
  congr 1
  apply Fin.ext; show a + ((hd i).val - a) = (hd i).val; omega

theorem iv_zero_one : iv 0 1 = {0} := by decide
theorem inBlk_zero (i : S32x2x512.Idx) (h : i ∈ slots {0}) (h' : (hd i).val - 0 < 1) :
    inBlk 0 1 i h' = Fin.cons (α := fun b : Fin 3 => S1x2x512.Coord b) (0 : Fin 1) (tl i) := by
  unfold inBlk; congr 1; exact Subsingleton.elim (α := Fin 1) _ _
theorem inBlk_group (g : Fin 4) (i : S32x2x512.Idx) (h : i ∈ slots (iv (8 * g.val) (8 * g.val + 8))) (h' : (hd i).val - 8 * g.val < 8) :
    inBlk (8 * g.val) 8 i h' = gIdx i ∧ grpOf i = g := by
  have := mem_iv.mp (mem_slots.mp h)
  constructor
  · unfold inBlk gIdx; congr 1; apply Fin.ext; show (hd i).val - 8 * g.val = (hd i).val % 8; omega
  · apply Fin.ext; show (hd i).val / 8 = g.val; omega

/-! What a store into a block of slots leaves, in each buffer of slots. -/

theorem write_blk_xg {a n : ℕ} (inb : ∀ b, (![a, 0, 0] : Fin 3 → ℕ) b + (![n, 2, 512] : Fin 3 → ℕ) b ≤ S32x2x512.size b)
    (f : C32 F) (w : (⟨3, ![n, 2, 512]⟩ : Shape).Idx → Elt F .bf16) (i : S32x2x512.Idx) (h : (hd i).val - a < n) (ha : a ≤ (hd i).val) :
    (xgM.access (Rect.unit (s := S32x2x512) ![a, 0, 0] ![n, 2, 512] inb)).write (Elt F) f w Finset.univ i = w (inBlk a n i h) := by
  conv_lhs => rw [← blk_inBlk inb i h ha]
  exact View.write_emb_of_mem (v := xgM.access (Rect.unit (s := S32x2x512) ![a, 0, 0] ![n, 2, 512] inb)) _ _ (Finset.mem_univ _)
theorem write_blk_p {a n : ℕ} (inb : ∀ b, (![a, 0, 0] : Fin 3 → ℕ) b + (![n, 2, 512] : Fin 3 → ℕ) b ≤ S32x2x512.size b)
    (f : C32 F) (w : (⟨3, ![n, 2, 512]⟩ : Shape).Idx → Elt F .bf16) (i : S32x2x512.Idx) (h : (hd i).val - a < n) (ha : a ≤ (hd i).val) :
    (pM.access (Rect.unit (s := S32x2x512) ![a, 0, 0] ![n, 2, 512] inb)).write (Elt F) f w Finset.univ i = w (inBlk a n i h) := by
  conv_lhs => rw [← blk_inBlk inb i h ha]
  exact View.write_emb_of_mem (v := pM.access (Rect.unit (s := S32x2x512) ![a, 0, 0] ![n, 2, 512] inb)) _ _ (Finset.mem_univ _)
theorem write_blk_rs {a n : ℕ} (inb : ∀ b, (![a, 0, 0] : Fin 3 → ℕ) b + (![n, 2, 512] : Fin 3 → ℕ) b ≤ S32x2x512.size b)
    (f : C32 F) (w : (⟨3, ![n, 2, 512]⟩ : Shape).Idx → Elt F .bf16) (i : S32x2x512.Idx) (h : (hd i).val - a < n) (ha : a ≤ (hd i).val) :
    (rsM.access (Rect.unit (s := S32x2x512) ![a, 0, 0] ![n, 2, 512] inb)).write (Elt F) f w Finset.univ i = w (inBlk a n i h) := by
  conv_lhs => rw [← blk_inBlk inb i h ha]
  exact View.write_emb_of_mem (v := rsM.access (Rect.unit (s := S32x2x512) ![a, 0, 0] ![n, 2, 512] inb)) _ _ (Finset.mem_univ _)

/-- The slots of a group. -/
abbrev grp (g : Fin 4) : Finset (Fin 32) := iv (8 * g.val) (8 * g.val + 8)
/-- Slot 0, as a block of one slot. -/
def slot0 (f : C32 F) : S1x2x512.Idx → Elt F .bf16 := fun x => f (sIdx 0 (fun b => x b.succ))

theorem slot0_eq (f : C32 F) (inb) : (fun x => f ((Rect.unit (s := S32x2x512) ![0, 0, 0] S1x2x512.size inb).emb x)) = slot0 f := by
  funext x; unfold slot0
  exact congrArg f ((blk_emb (n := 1) inb x (blk_lt (n := 1) inb x)).trans (congrArg (fun k => sIdx k _) (Fin.ext (by
    show 0 + (x 0).val = 0
    have : (x 0).val < 1 := (x 0).isLt
    omega))))
theorem blk_eq (f : C32 F) (g : Fin 4) (inb) :
    (fun x => f ((Rect.unit (s := S32x2x512) ![8 * g.val, 0, 0] S8x2x512.size inb).emb x)) = blk f g := by
  funext x; unfold blk
  exact congrArg f (blk_emb (n := 8) inb x (blk_lt (n := 8) inb x))

/-- The reduced slot as the kernel stores it among the gathered ones, -/
theorem pay5_apply (v : C2 F) (i : S32x2x512.Idx) :
    k0_pay5 v (Fin.cons (α := fun b : Fin 3 => S1x2x512.Coord b) (0 : Fin 1) (tl i)) = v (tl i) := by
  unfold k0_pay5
  exact shapeCast_addUnit_apply ![2, 512] v _ _
/-- and the device's own partial product among those it has received. -/
theorem pay14_apply (f : C32 F) (i : S32x2x512.Idx) :
    k0_pay14 (slot0 f) (Fin.cons (α := fun b : Fin 3 => S1x2x512.Coord b) (0 : Fin 1) (tl i)) = f (sIdx 0 (tl i)) := by
  unfold k0_pay14
  refine (shapeCast_addUnit_apply ![2, 512] _ _ _).trans ?_
  exact shapeCast_dropUnit_apply ![2, 512] (slot0 f) _ _

section
variable {I : Inp F} {c : Fin 32} {O : CellTallies nD τ sig ℕ} {α : Type}

/-! ## The arguments -/

/-- The device's windows on its arguments. -/
def Args (I : Inp F) (c : Fin 32) : sProp 𝕄 :=
  iprop((((th c).loc cc0_stg0_0) ↦[Finset.univ]{fullShare} (I.x c)) ∗ (((th c).loc cc0_stg1_0) ↦[Finset.univ]{fullShare} (I.w 0 c)) ∗ (((th c).loc cc0_stg2_0) ↦[Finset.univ]{fullShare} (I.wo 0 c)) ∗ (((th c).loc cc0_stg3_0) ↦[Finset.univ]{fullShare} (I.w 1 c)) ∗ (((th c).loc cc0_stg4_0) ↦[Finset.univ]{fullShare} (I.wo 1 c)) ∗ (((th c).loc cc0_stg5_0) ↦[Finset.univ]{fullShare} (I.w 2 c)) ∗ (((th c).loc cc0_stg6_0) ↦[Finset.univ]{fullShare} (I.wo 2 c)))

theorem step_x {B X : sProp 𝕄} {Q : α → sProp 𝕄} {inb hl} {k : Vec F S64x512 .bf16 → Prog (TpuEff nD τ sig (Elt F) Λ₀ .tc) α}
    (h : At I c O iprop(Args I c ∗ B) X ⊢ W c (k (I.x c)) Q) :
    At I c O iprop(Args I c ∗ B) X
      ⊢ W c (.op (.load (Memref.whole cc0_stg0_0) (Rect.unit (s := S64x512) ![0, 0] S64x512.size inb).toLoadRect hl) k) Q :=
  mem_step (left_step (left_step (load_core (Finset.subset_univ _) (Memref.readAt_unit_zero (Elt F) cc0_stg0_0 hz2 _ _)))) h

theorem step_w0 {B X : sProp 𝕄} {Q : α → sProp 𝕄} {inb hl} {k : Vec F S512x1024 .bf16 → Prog (TpuEff nD τ sig (Elt F) Λ₀ .tc) α}
    (h : At I c O iprop(Args I c ∗ B) X ⊢ W c (k (I.w 0 c)) Q) :
    At I c O iprop(Args I c ∗ B) X
      ⊢ W c (.op (.load (Memref.whole cc0_stg1_0) (Rect.unit (s := S512x1024) ![0, 0] S512x1024.size inb).toLoadRect hl) k) Q :=
  mem_step (left_step (right_step (left_step (load_core (Finset.subset_univ _) (Memref.readAt_unit_zero (Elt F) cc0_stg1_0 hz2 _ _))))) h

theorem step_wo0 {B X : sProp 𝕄} {Q : α → sProp 𝕄} {inb hl} {k : Vec F S1024x512 .bf16 → Prog (TpuEff nD τ sig (Elt F) Λ₀ .tc) α}
    (h : At I c O iprop(Args I c ∗ B) X ⊢ W c (k (I.wo 0 c)) Q) :
    At I c O iprop(Args I c ∗ B) X
      ⊢ W c (.op (.load (Memref.whole cc0_stg2_0) (Rect.unit (s := S1024x512) ![0, 0] S1024x512.size inb).toLoadRect hl) k) Q :=
  mem_step (left_step (right_step (right_step (left_step (load_core (Finset.subset_univ _) (Memref.readAt_unit_zero (Elt F) cc0_stg2_0 hz2 _ _)))))) h

theorem step_w1 {B X : sProp 𝕄} {Q : α → sProp 𝕄} {inb hl} {k : Vec F S512x1024 .bf16 → Prog (TpuEff nD τ sig (Elt F) Λ₀ .tc) α}
    (h : At I c O iprop(Args I c ∗ B) X ⊢ W c (k (I.w 1 c)) Q) :
    At I c O iprop(Args I c ∗ B) X
      ⊢ W c (.op (.load (Memref.whole cc0_stg3_0) (Rect.unit (s := S512x1024) ![0, 0] S512x1024.size inb).toLoadRect hl) k) Q :=
  mem_step (left_step (right_step (right_step (right_step (left_step (load_core (Finset.subset_univ _) (Memref.readAt_unit_zero (Elt F) cc0_stg3_0 hz2 _ _))))))) h

theorem step_wo1 {B X : sProp 𝕄} {Q : α → sProp 𝕄} {inb hl} {k : Vec F S1024x512 .bf16 → Prog (TpuEff nD τ sig (Elt F) Λ₀ .tc) α}
    (h : At I c O iprop(Args I c ∗ B) X ⊢ W c (k (I.wo 1 c)) Q) :
    At I c O iprop(Args I c ∗ B) X
      ⊢ W c (.op (.load (Memref.whole cc0_stg4_0) (Rect.unit (s := S1024x512) ![0, 0] S1024x512.size inb).toLoadRect hl) k) Q :=
  mem_step (left_step (right_step (right_step (right_step (right_step (left_step (load_core (Finset.subset_univ _) (Memref.readAt_unit_zero (Elt F) cc0_stg4_0 hz2 _ _)))))))) h

theorem step_w2 {B X : sProp 𝕄} {Q : α → sProp 𝕄} {inb hl} {k : Vec F S512x1024 .bf16 → Prog (TpuEff nD τ sig (Elt F) Λ₀ .tc) α}
    (h : At I c O iprop(Args I c ∗ B) X ⊢ W c (k (I.w 2 c)) Q) :
    At I c O iprop(Args I c ∗ B) X
      ⊢ W c (.op (.load (Memref.whole cc0_stg5_0) (Rect.unit (s := S512x1024) ![0, 0] S512x1024.size inb).toLoadRect hl) k) Q :=
  mem_step (left_step (right_step (right_step (right_step (right_step (right_step (left_step (load_core (Finset.subset_univ _) (Memref.readAt_unit_zero (Elt F) cc0_stg5_0 hz2 _ _))))))))) h

theorem step_wo2 {B X : sProp 𝕄} {Q : α → sProp 𝕄} {inb hl} {k : Vec F S1024x512 .bf16 → Prog (TpuEff nD τ sig (Elt F) Λ₀ .tc) α}
    (h : At I c O iprop(Args I c ∗ B) X ⊢ W c (k (I.wo 2 c)) Q) :
    At I c O iprop(Args I c ∗ B) X
      ⊢ W c (.op (.load (Memref.whole cc0_stg6_0) (Rect.unit (s := S1024x512) ![0, 0] S1024x512.size inb).toLoadRect hl) k) Q :=
  mem_step (left_step (right_step (right_step (right_step (right_step (right_step (right_step (load_core (Finset.subset_univ _) (Memref.readAt_unit_zero (Elt F) cc0_stg6_0 hz2 _ _))))))))) h

/-! ## The first layer's partial products -/

theorem step_ldp_whole {X : sProp 𝕄} {Q : α → sProp 𝕄} {inb hl} {k : Vec F S32x2x512 .bf16 → Prog (TpuEff nD τ sig (Elt F) Λ₀ .tc) α}
    (h : ∀ v, At I c O iprop(Args I c ∗ ∃ f, pPt c Finset.univ f) X ⊢ W c (k v) Q) :
    At I c O iprop(Args I c ∗ ∃ f, pPt c Finset.univ f) X
      ⊢ W c (.op (.load pM (Rect.unit (s := S32x2x512) ![0, 0, 0] S32x2x512.size inb).toLoadRect hl) k) Q :=
  mem_step (right_step (any_step (v := fun f => f) fun f => load_core (m := pM) (r := (Rect.unit (s := S32x2x512) ![0, 0, 0] S32x2x512.size inb).toLoadRect) (S := slots Finset.univ) (by rw [slots_univ]; exact Finset.subset_univ _)
    (Memref.readAt_unit_zero (Elt F) cc0_scratch1 hz3 _ _))) (forall_intro h)

theorem step_stp_whole {X : sProp 𝕄} {Q : α → sProp 𝕄} {inb w hx hm} {k : PUnit → Prog (TpuEff nD τ sig (Elt F) Λ₀ .tc) α}
    (hw : w = k0_pay2 (k0_pay1 (I.x c) (I.w 0 c) (I.wo 0 c))) (h : At I c O iprop(Args I c ∗ pPt c Finset.univ (P I 0 c)) X ⊢ W c (k ⟨⟩) Q) :
    At I c O iprop(Args I c ∗ ∃ f, pPt c Finset.univ f) X
      ⊢ W c (.op (.store pM (Rect.unit (s := S32x2x512) ![0, 0, 0] S32x2x512.size inb) w Finset.univ hx hm) k) Q :=
  mem_step (right_step (any_store fun f => store_core (m := pM) (r := (Rect.unit (s := S32x2x512) ![0, 0, 0] S32x2x512.size inb)) (S := slots Finset.univ) (by rw [slots_univ]; exact Finset.subset_univ _) fun i _ => by
    subst hw
    exact congrFun (Memref.write_access_unit_zero_univ (Elt F) cc0_scratch1 hz3 inb f _) i)) h

/-! ## A sum and the slot of activations it makes -/

theorem step_ldrs {f : C32 F} {X : sProp 𝕄} {Q : α → sProp 𝕄} {inb hl} {k : Vec F S32x2x512 .bf16 → Prog (TpuEff nD τ sig (Elt F) Λ₀ .tc) α}
    (h : At I c O (rsPt c Finset.univ f) X ⊢ W c (k f) Q) :
    At I c O (rsPt c Finset.univ f) X
      ⊢ W c (.op (.load rsM (Rect.unit (s := S32x2x512) ![0, 0, 0] S32x2x512.size inb).toLoadRect hl) k) Q :=
  mem_step (load_core (m := rsM) (r := (Rect.unit (s := S32x2x512) ![0, 0, 0] S32x2x512.size inb).toLoadRect) (S := slots Finset.univ) (by rw [slots_univ]; exact Finset.subset_univ _) (Memref.readAt_unit_zero (Elt F) cc0_scratch3 hz3 _ _)) h

theorem step_ldred_any {B X : sProp 𝕄} {Q : α → sProp 𝕄} {inb hl} {k : Vec F S2x512 .bf16 → Prog (TpuEff nD τ sig (Elt F) Λ₀ .tc) α}
    (h : ∀ v, At I c O iprop((∃ f, redPt c fullShare f) ∗ B) X ⊢ W c (k v) Q) :
    At I c O iprop((∃ f, redPt c fullShare f) ∗ B) X
      ⊢ W c (.op (.load redM (Rect.unit (s := S2x512) ![0, 0] S2x512.size inb).toLoadRect hl) k) Q :=
  mem_step (left_step (any_step (v := fun f => f) fun f => load_core (m := redM) (r := (Rect.unit (s := S2x512) ![0, 0] S2x512.size inb).toLoadRect) (S := Finset.univ) (Finset.subset_univ _)
    (Memref.readAt_unit_zero (Elt F) cc0_scratch2 hz2 _ _))) (forall_intro h)

theorem step_stred {g : C2 F} {B X : sProp 𝕄} {Q : α → sProp 𝕄} {inb w hx hm} {k : PUnit → Prog (TpuEff nD τ sig (Elt F) Λ₀ .tc) α}
    (hw : w = g) (h : At I c O iprop(redPt c fullShare g ∗ B) X ⊢ W c (k ⟨⟩) Q) :
    At I c O iprop((∃ f, redPt c fullShare f) ∗ B) X
      ⊢ W c (.op (.store redM (Rect.unit (s := S2x512) ![0, 0] S2x512.size inb) w Finset.univ hx hm) k) Q :=
  mem_step (left_step (any_store fun f => store_core (m := redM) (r := (Rect.unit (s := S2x512) ![0, 0] S2x512.size inb)) (S := Finset.univ) (Finset.subset_univ _) fun i _ => by
    subst hw
    exact congrFun (Memref.write_access_unit_zero_univ (Elt F) cc0_scratch2 hz2 inb f _) i)) h

theorem step_ldred {g : C2 F} {B X : sProp 𝕄} {Q : α → sProp 𝕄} {inb hl} {k : Vec F S2x512 .bf16 → Prog (TpuEff nD τ sig (Elt F) Λ₀ .tc) α}
    (h : At I c O iprop(redPt c fullShare g ∗ B) X ⊢ W c (k g) Q) :
    At I c O iprop(redPt c fullShare g ∗ B) X
      ⊢ W c (.op (.load redM (Rect.unit (s := S2x512) ![0, 0] S2x512.size inb).toLoadRect hl) k) Q :=
  mem_step (left_step (load_core (m := redM) (r := (Rect.unit (s := S2x512) ![0, 0] S2x512.size inb).toLoadRect) (S := Finset.univ) (Finset.subset_univ _) (Memref.readAt_unit_zero (Elt F) cc0_scratch2 hz2 _ _))) h

theorem step_ldxg0 {B X : sProp 𝕄} {Q : α → sProp 𝕄} {inb hl} {k : Vec F S1x2x512 .bf16 → Prog (TpuEff nD τ sig (Elt F) Λ₀ .tc) α}
    (h : ∀ v, At I c O iprop(B ∗ xgAny c 0) X ⊢ W c (k v) Q) :
    At I c O iprop(B ∗ xgAny c 0) X
      ⊢ W c (.op (.load xgM (Rect.unit (s := S32x2x512) ![0, 0, 0] S1x2x512.size inb).toLoadRect hl) k) Q :=
  mem_step (right_step (any_step (v := slot0) fun f => load_core (m := xgM) (r := (Rect.unit (s := S32x2x512) ![0, 0, 0] S1x2x512.size inb).toLoadRect) (S := slots {0}) (Memref.setOn_subset_of_access_subset (c := th c) (by rw [← iv_zero_one]; exact blk_sub (n := 1) inb Finset.univ))
    (by exact slot0_eq f inb))) (forall_intro h)

theorem step_stxg0 {r : ℕ} {B X : sProp 𝕄} {Q : α → sProp 𝕄} {inb w hx hm} {k : PUnit → Prog (TpuEff nD τ sig (Elt F) Λ₀ .tc) α}
    (hw : w = k0_pay5 (RED I r c)) (h : At I c O iprop(B ∗ xgPt c {0} (XG I r c)) X ⊢ W c (k ⟨⟩) Q) :
    At I c O iprop(B ∗ xgAny c 0) X
      ⊢ W c (.op (.store xgM (Rect.unit (s := S32x2x512) ![0, 0, 0] S1x2x512.size inb) w Finset.univ hx hm) k) Q :=
  mem_step (right_step (any_store fun f => store_core (m := xgM) (r := (Rect.unit (s := S32x2x512) ![0, 0, 0] S1x2x512.size inb)) (S := slots {0}) (by rw [← iv_zero_one]; exact blk_sub (n := 1) inb _) fun i hi => by
    subst hw
    have h0 : hd i = 0 := mem_slot.mp hi
    refine (write_blk_xg (n := 1) inb f _ i (by rw [h0]; decide) (Nat.zero_le _)).trans ?_
    rw [inBlk_zero i hi, pay5_apply]; unfold XG; rw [h0, peer_zero])) h

/-! ## A group of the later layers -/

theorem step_ldxg (g : Fin 4) {f : C32 F} {A B X : sProp 𝕄} {Q : α → sProp 𝕄} {inb hl} {k : Vec F S8x2x512 .bf16 → Prog (TpuEff nD τ sig (Elt F) Λ₀ .tc) α}
    (h : At I c O iprop(A ∗ xgPt c (grp g) f ∗ B) X ⊢ W c (k (blk f g)) Q) :
    At I c O iprop(A ∗ xgPt c (grp g) f ∗ B) X
      ⊢ W c (.op (.load xgM (Rect.unit (s := S32x2x512) ![8 * g.val, 0, 0] S8x2x512.size inb).toLoadRect hl) k) Q :=
  mem_step (right_step (left_step (load_core (m := xgM) (r := (Rect.unit (s := S32x2x512) ![8 * g.val, 0, 0] S8x2x512.size inb).toLoadRect) (S := slots (grp g)) (Memref.setOn_subset_of_access_subset (c := th c) (by exact blk_sub (n := 8) inb Finset.univ)) (by exact blk_eq f g inb)))) h

theorem step_ldp (g : Fin 4) {A B X : sProp 𝕄} {Q : α → sProp 𝕄} {inb hl} {k : Vec F S8x2x512 .bf16 → Prog (TpuEff nD τ sig (Elt F) Λ₀ .tc) α}
    (h : ∀ v, At I c O iprop(A ∗ B ∗ ∃ f, pPt c (grp g) f) X ⊢ W c (k v) Q) :
    At I c O iprop(A ∗ B ∗ ∃ f, pPt c (grp g) f) X
      ⊢ W c (.op (.load pM (Rect.unit (s := S32x2x512) ![8 * g.val, 0, 0] S8x2x512.size inb).toLoadRect hl) k) Q :=
  mem_step (right_step (right_step (any_step (v := fun f => blk f g) fun f => load_core (m := pM) (r := (Rect.unit (s := S32x2x512) ![8 * g.val, 0, 0] S8x2x512.size inb).toLoadRect) (S := slots (grp g)) (Memref.setOn_subset_of_access_subset (c := th c) (by exact blk_sub (n := 8) inb Finset.univ)) (by exact blk_eq f g inb)))) (forall_intro h)

theorem step_stp (r : ℕ) (g : Fin 4) {A B X : sProp 𝕄} {Q : α → sProp 𝕄} {inb w hx hm} {k : PUnit → Prog (TpuEff nD τ sig (Elt F) Λ₀ .tc) α}
    (hw : w = k0_pay11 (blk (XG I r c) g) (I.w (r + 1) c) (I.wo (r + 1) c))
    (h : At I c O iprop(A ∗ B ∗ pPt c (grp g) (P I (r + 1) c)) X ⊢ W c (k ⟨⟩) Q) :
    At I c O iprop(A ∗ B ∗ ∃ f, pPt c (grp g) f) X
      ⊢ W c (.op (.store pM (Rect.unit (s := S32x2x512) ![8 * g.val, 0, 0] S8x2x512.size inb) w Finset.univ hx hm) k) Q :=
  mem_step (right_step (right_step (any_store fun f => store_core (m := pM) (r := (Rect.unit (s := S32x2x512) ![8 * g.val, 0, 0] S8x2x512.size inb)) (S := slots (grp g)) (blk_sub (n := 8) inb _) fun i hi => by
    subst hw
    have hi' := mem_iv.mp (mem_slots.mp hi)
    have hb := inBlk_group g i hi (by omega)
    refine (write_blk_p (n := 8) inb f _ i (by omega) hi'.1).trans ?_
    rw [hb.1, P_succ]; unfold mlp; rw [hb.2]))) h

theorem step_ldp0 {f : C32 F} {B X : sProp 𝕄} {Q : α → sProp 𝕄} {inb hl} {k : Vec F S1x2x512 .bf16 → Prog (TpuEff nD τ sig (Elt F) Λ₀ .tc) α}
    (h : At I c O iprop(pPt c {0} f ∗ B) X ⊢ W c (k (slot0 f)) Q) :
    At I c O iprop(pPt c {0} f ∗ B) X
      ⊢ W c (.op (.load pM (Rect.unit (s := S32x2x512) ![0, 0, 0] S1x2x512.size inb).toLoadRect hl) k) Q :=
  mem_step (left_step (load_core (m := pM) (r := (Rect.unit (s := S32x2x512) ![0, 0, 0] S1x2x512.size inb).toLoadRect) (S := slots {0}) (Memref.setOn_subset_of_access_subset (c := th c) (by rw [← iv_zero_one]; exact blk_sub (n := 1) inb Finset.univ)) (by exact slot0_eq f inb))) h

theorem step_ldrs0 {B X : sProp 𝕄} {Q : α → sProp 𝕄} {inb hl} {k : Vec F S1x2x512 .bf16 → Prog (TpuEff nD τ sig (Elt F) Λ₀ .tc) α}
    (h : ∀ v, At I c O iprop(B ∗ rsAny c 0) X ⊢ W c (k v) Q) :
    At I c O iprop(B ∗ rsAny c 0) X
      ⊢ W c (.op (.load rsM (Rect.unit (s := S32x2x512) ![0, 0, 0] S1x2x512.size inb).toLoadRect hl) k) Q :=
  mem_step (right_step (any_step (v := slot0) fun f => load_core (m := rsM) (r := (Rect.unit (s := S32x2x512) ![0, 0, 0] S1x2x512.size inb).toLoadRect) (S := slots {0}) (Memref.setOn_subset_of_access_subset (c := th c) (by rw [← iv_zero_one]; exact blk_sub (n := 1) inb Finset.univ))
    (by exact slot0_eq f inb))) (forall_intro h)

theorem step_strs0 {r : ℕ} {B X : sProp 𝕄} {Q : α → sProp 𝕄} {inb w hx hm} {k : PUnit → Prog (TpuEff nD τ sig (Elt F) Λ₀ .tc) α}
    (hw : w = k0_pay14 (slot0 (P I (r + 1) c))) (h : At I c O iprop(B ∗ rsPt c {0} (RS I (r + 1) c)) X ⊢ W c (k ⟨⟩) Q) :
    At I c O iprop(B ∗ rsAny c 0) X
      ⊢ W c (.op (.store rsM (Rect.unit (s := S32x2x512) ![0, 0, 0] S1x2x512.size inb) w Finset.univ hx hm) k) Q :=
  mem_step (right_step (any_store fun f => store_core (m := rsM) (r := (Rect.unit (s := S32x2x512) ![0, 0, 0] S1x2x512.size inb)) (S := slots {0}) (by rw [← iv_zero_one]; exact blk_sub (n := 1) inb _) fun i hi => by
    subst hw
    have h0 : hd i = 0 := mem_slot.mp hi
    refine (write_blk_rs (n := 1) inb f _ i (by rw [h0]; decide) (Nat.zero_le _)).trans ?_
    rw [inBlk_zero i hi, pay14_apply]
    have hd' : hd i = 0 := h0
    unfold RS gath; rw [hd', peer_zero, ng_zero]; rfl)) h

/-! ## The result -/

abbrev outPt (c : Fin 32) (f : S2x512.Idx → Elt F .f32) : sProp 𝕄 := ((th c).loc cc0_stg7_0) ↦[Finset.univ]{fullShare} f

theorem step_ldout {X : sProp 𝕄} {Q : α → sProp 𝕄} {inb hl} {k : Vec F S2x512 .f32 → Prog (TpuEff nD τ sig (Elt F) Λ₀ .tc) α}
    (h : ∀ v, At I c O iprop(∃ f, outPt c f) X ⊢ W c (k v) Q) :
    At I c O iprop(∃ f, outPt c f) X
      ⊢ W c (.op (.load (Memref.whole cc0_stg7_0) (Rect.unit (s := S2x512) ![0, 0] S2x512.size inb).toLoadRect hl) k) Q :=
  mem_step (any_step (v := fun f => f) fun f => load_core (m := (Memref.whole cc0_stg7_0)) (r := (Rect.unit (s := S2x512) ![0, 0] S2x512.size inb).toLoadRect) (S := Finset.univ) (Finset.subset_univ _)
    (Memref.readAt_unit_zero (Elt F) cc0_stg7_0 hz2 _ _)) (forall_intro h)

theorem step_stout {g : S2x512.Idx → Elt F .f32} {X : sProp 𝕄} {Q : α → sProp 𝕄} {inb w hx hm} {k : PUnit → Prog (TpuEff nD τ sig (Elt F) Λ₀ .tc) α}
    (hw : w = g) (h : At I c O (outPt c g) X ⊢ W c (k ⟨⟩) Q) :
    At I c O iprop(∃ f, outPt c f) X
      ⊢ W c (.op (.store (Memref.whole cc0_stg7_0) (Rect.unit (s := S2x512) ![0, 0] S2x512.size inb) w Finset.univ hx hm) k) Q :=
  mem_step (any_store fun f => store_core (m := (Memref.whole cc0_stg7_0)) (r := (Rect.unit (s := S2x512) ![0, 0] S2x512.size inb)) (S := Finset.univ) (Finset.subset_univ _) fun i _ => by
    subst hw
    exact congrFun (Memref.write_access_unit_zero_univ (Elt F) cc0_stg7_0 hz2 inb f _) i) h

end

end Cert.KernelIdeal.AllReduce
-- ==== Proof.Phases.lean ====
module

public import proofs.«01_k».proof.Proof.Memory
public import Idealize.ShloMosaic.Lib.Pipeline.Value

/-!
# From one phase to the next

Between phases what a device has is sorted anew: the slots of a buffer are put together or taken apart, and what each
place of the next phase needs is gathered. Nothing here runs a program.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

/-! ## Families over places -/

theorem zip2 {s : Finset (Fin 32)} {A B : Fin 32 → sProp 𝕄} : iprop(bigSep s A ∗ bigSep s B) ⊢ bigSep s (fun k => iprop(A k ∗ B k)) :=
  Entails.of_eq (bigSep_sep s A B).symm
theorem unzip2 {s : Finset (Fin 32)} {A B : Fin 32 → sProp 𝕄} : bigSep s (fun k => iprop(A k ∗ B k)) ⊢ iprop(bigSep s A ∗ bigSep s B) :=
  Entails.of_eq (bigSep_sep s A B)
theorem big_map {I : Inp F} {s : Finset (Fin 32)} {A B : Fin 32 → sProp 𝕄} (h : ∀ k ∈ s, iprop(Ctx I ∗ A k) ⊢ B k) :
    iprop(Ctx I ∗ bigSep s A) ⊢ bigSep s B := bigSep_with_persistent h
/-- Two families made into one, what is known at hand. -/
theorem big_map2 {I : Inp F} {s : Finset (Fin 32)} {A B C : Fin 32 → sProp 𝕄} (h : ∀ k ∈ s, iprop(Ctx I ∗ A k ∗ B k) ⊢ C k) :
    iprop(Ctx I ∗ bigSep s A ∗ bigSep s B) ⊢ bigSep s C :=
  (sep_mono_right zip2).trans (big_map h)

theorem big_mono {s : Finset (Fin 32)} {A B : Fin 32 → sProp 𝕄} (h : ∀ k ∈ s, A k ⊢ B k) : bigSep s A ⊢ bigSep s B := bigSep_mono h
theorem iv_neg : (iv 1 32).map ⟨ng, fun a b h => by rw [← ng_ng a, h, ng_ng]⟩ = iv 1 32 := by decide
/-- A family over the places but 0 in the other order. -/
theorem big_ng (A : Fin 32 → sProp 𝕄) : bigSep (iv 1 32) (fun k => A (ng k)) = bigSep (iv 1 32) A := by
  conv_rhs => rw [← iv_neg, bigSep_map]
  rfl
theorem big_univ (A : Fin 32 → sProp 𝕄) : bigSep Finset.univ A = iprop(A 0 ∗ bigSep (iv 1 32) A) := by
  rw [← iv_full]; exact bigSep_iv_cons (by decide) (by decide) A

/-- Slot 0, if it is in the group. -/
def z (g : Fin 4) (A : sProp 𝕄) : sProp 𝕄 := if g = 0 then A else iprop(emp)
/-- The first place of a group but 0, and the end of the group. -/
abbrev ga (g : Fin 4) : ℕ := max 1 (8 * g.val)
abbrev gb (g : Fin 4) : ℕ := 8 * g.val + 8
theorem big_grp (g : Fin 4) (A : Fin 32 → sProp 𝕄) : bigSep (grp g) A = iprop(z g (A 0) ∗ bigSep (iv (ga g) (gb g)) A) := by
  unfold z
  by_cases h : g = 0
  · subst h; rw [if_pos rfl]; exact bigSep_iv_cons (a := 0) (b := 8) (by decide) (by decide) A
  · rw [if_neg h, show ga g = 8 * g.val from max_eq_right (by have : g.val ≠ 0 := fun e => h (Fin.ext e); omega)]
    exact (equiv_iff.mp emp_sep).symm
theorem z_same (g : Fin 4) (A : sProp 𝕄) : A ⊢ iprop(z g A ∗ (z g A -∗ A)) := by
  unfold z
  split
  · iintro H; isplitl [H]; · iexact H
    iintro H; iexact H
  · iintro H; isplitr; · iempintro
    iintro -; iexact H
theorem z_if (g : Fin 4) (A B : sProp 𝕄) : (if g = 0 then A else B) ⊢ iprop(z g A ∗ (z g B -∗ B)) := by
  unfold z
  split
  · iintro H; isplitl [H]; · iexact H
    iintro H; iexact H
  · iintro H; isplitr; · iempintro
    iintro -; iexact H

/-! ## Slots taken apart and put together -/

theorem slots_pts (s : Finset (Fin 32)) : ∀ t ∈ s, ∀ t' ∈ s, t ≠ t' → Disjoint (slot t) (slot t') := fun _ _ _ _ h => slot_disjoint h
theorem slots_bi [DecidableEq S32x2x512.Idx] (s : Finset (Fin 32)) : slots s = s.biUnion slot := by ext i; simp [mem_slots]
theorem xg_split (c : Fin 32) (s : Finset (Fin 32)) (f : C32 F) : xgPt c s f = bigSep s fun k => xgPt c {k} f  :=
  (congrArg (fun S => ((th c).loc cc0_scratch0 ↦[S]{fullShare} f : sProp 𝕄)) (slots_bi s)).trans
    (pointsTo_biUnion (ℓ := (th c).loc cc0_scratch0) s slot (slots_pts s))
theorem p_split (c : Fin 32) (s : Finset (Fin 32)) (f : C32 F) : pPt c s f = bigSep s fun k => pPt c {k} f  :=
  (congrArg (fun S => ((th c).loc cc0_scratch1 ↦[S]{fullShare} f : sProp 𝕄)) (slots_bi s)).trans
    (pointsTo_biUnion (ℓ := (th c).loc cc0_scratch1) s slot (slots_pts s))
theorem rs_split (c : Fin 32) (s : Finset (Fin 32)) (f : C32 F) : rsPt c s f = bigSep s fun k => rsPt c {k} f  :=
  (congrArg (fun S => ((th c).loc cc0_scratch3 ↦[S]{fullShare} f : sProp 𝕄)) (slots_bi s)).trans
    (pointsTo_biUnion (ℓ := (th c).loc cc0_scratch3) s slot (slots_pts s))

abbrev pAny (c k : Fin 32) : sProp 𝕄 := iprop(∃ f, pPt (F := F) c {k} f)
instance : Nonempty (C32 F) := ⟨fun _ => FloatOps.ofBits .bf16 0⟩
theorem p_join (c : Fin 32) (s : Finset (Fin 32)) : bigSep s (pAny (F := F) c) ⊢ iprop(∃ f, pPt c s f) := by
  refine (bigSep_exists_pi s fun k f => pPt c {k} f).trans ?_
  iintro ⟨%fs, H⟩
  ihave H := (pointsTo_biUnion_join (ℓ := (th c).loc cc0_scratch1) s slot fs (fs 0) (slots_pts s)) $$ H
  icases H with ⟨%g, -, H⟩
  iexists g
  iapply (Entails.of_eq (congrArg (fun S => ((th c).loc cc0_scratch1 ↦[S]{fullShare} g : sProp 𝕄)) (slots_bi s)).symm)
  iexact H
theorem p_any (c k : Fin 32) (f : C32 F) : pPt c {k} f ⊢ pAny c k := by iintro H; iexists f; iexact H
theorem rs_any (c k : Fin 32) (f : C32 F) : rsPt c {k} f ⊢ rsAny c k := by iintro H; iexists f; iexact H
theorem xg_any (c k : Fin 32) (f : C32 F) : xgPt c {k} f ⊢ xgAny c k := by iintro H; iexists f; iexact H
theorem p_anys (c : Fin 32) : iprop(∃ f, pPt (F := F) c Finset.univ f) ⊢ iprop(pAny c 0 ∗ bigSep (iv 1 32) (pAny c)) := by
  iintro ⟨%f, H⟩
  iapply (Entails.of_eq (big_univ (pAny c)))
  iapply (big_mono (s := Finset.univ) (A := fun k => pPt c {k} f) (B := pAny c) fun k _ => p_any c k f)
  iapply (Entails.of_eq (p_split c Finset.univ f)); iexact H
theorem rs_anys (c : Fin 32) (f : C32 F) : rsPt c Finset.univ f ⊢ iprop(rsAny c 0 ∗ bigSep (iv 1 32) (rsAny c)) := by
  iintro H
  iapply (Entails.of_eq (big_univ (rsAny c)))
  iapply (big_mono (s := Finset.univ) (A := fun k => rsPt c {k} f) (B := rsAny c) fun k _ => rs_any c k f)
  iapply (Entails.of_eq (rs_split c Finset.univ f)); iexact H

theorem src_equiv (r : ℕ) (c : Fin 32) (A : Fin 32 → sProp 𝕄) : bigSep Finset.univ A = bigSep Finset.univ fun k => A (src r c k) := by
  cases r with
  | zero => exact bigSep_univ_equiv (peerEquiv c) A
  | succ r => rfl
/-- The partial products slot by slot, in the order in which they are sent. -/
theorem p_src (r : ℕ) (c : Fin 32) (f : C32 F) :
    pPt c Finset.univ f = iprop(pPt c {src r c 0} f ∗ bigSep (iv 1 32) fun k => pPt c {src r c k} f) := by
  rw [p_split, src_equiv r c, big_univ]
theorem red_leaves (c : Fin 32) (f : C2 F) :
    redPt c fullShare f = iprop(redPt c (leafQ 0) f ∗ bigSep (iv 1 32) fun k => redPt c (leafQ k) f) :=
  (ShareLeaves.pointsTo_leaves (ℓ := (th c).loc cc0_scratch2) Finset.univ f 5 fullShare).trans (big_univ fun k => redPt c (leafQ k) f)

/-! ## What is owed along the way -/

theorem due_done (f : Fin 32 → GSem nD τ sig) (r n : ℕ) (O : CellTallies nD τ sig ℕ) : due f r n (iv 32 32) + O = O := by
  rw [iv_self, due_empty, zero_add]
/-- What is owed once the partial products of layer `r + 1` for the places below `a` are sent. -/
abbrev O1 (c : Fin 32) (r a : ℕ) : CellTallies nD τ sig ℕ := due (toP1 c) (r + 1) N (iv a 32) + later c (2 * r + 3)
theorem later_even (c : Fin 32) {r : ℕ} (hr : r < 2) : later c (2 * r + 2) = O1 c r 1 := by
  match r, hr with
  | 0, _ => rfl
  | 1, _ => rfl
theorem later_odd (c : Fin 32) {l : ℕ} (hl : l < 2) : later c (2 * l + 1) = due (toP2 c) l N (iv 1 32) + later c (2 * l + 2) := by
  match l, hl with
  | 0, _ => rfl
  | 1, _ => rfl
theorem above_O1 {n r : ℕ} (c : Fin 32) {a : ℕ} (ha : 1 ≤ a) (hr : r < 2) (hn : n < 4 + 2 * r) : Above n (O1 c r a) :=
  above_add (above_p1 c ha (by omega) (by omega)) (above_later c (by omega))

/-! ## What a device has for each place -/

abbrev tok1 (r : ℕ) (c k : Fin 32) : sProp 𝕄 := iprop(dutyTok ER (cS1 c k) r 0 ∗ dutyTok ER (toP1 c k) r 0)
abbrev tok2 (r : ℕ) (c k : Fin 32) : sProp 𝕄 := iprop(dutyTok ER (cS2 c k) r 0 ∗ dutyTok ER (toP2 c k) r 0)
abbrev atS1 (r : ℕ) (c k : Fin 32) : sProp 𝕄 := atPos ER (cS1 c k) r ∅ 0
abbrev atS2 (r : ℕ) (c k : Fin 32) : sProp 𝕄 := atPos ER (cS2 c k) r ∅ 0
abbrev atP1 (r : ℕ) (c k : Fin 32) : sProp 𝕄 := atPos ER (cP1 c k) r ∅ 0
abbrev atP2 (r : ℕ) (c k : Fin 32) : sProp 𝕄 := atPos ER (cP2 c k) r ∅ 0

/-- What is kept for layer `l`'s sum and the layer after. -/
def fut (l : ℕ) (c k : Fin 32) : sProp 𝕄 :=
  iprop(tok2 (F := F) l c k ∗ cred (tallyAt (cP2 c k) l N) ∗ tok1 (F := F) (l + 1) c k ∗ cred (tallyAt (cP1 c k) (l + 1) N))
/-- What comes with layer `l`'s partial products: the slots the sums go to, or, at the end, a device's own slot. -/
def ex (l : ℕ) (c k : Fin 32) : sProp 𝕄 :=
  if l = 2 then xgAny (F := F) c k else iprop(xgAny (F := F) (peer c k) (ng k) ∗ reached ER (toP2 c k) l)
/-- What is had once layer `l`'s partial products have come and left. -/
def fin (l : ℕ) (c k : Fin 32) : sProp 𝕄 :=
  iprop((atS1 (F := F) (l + 1) c k ∗ reached ER (cS1 c k) (l + 1)) ∗ (atP1 (F := F) (l + 1) c k ∗ reached ER (cP1 c k) (l + 1))
    ∗ (atS2 (F := F) l c k ∗ reached ER (cS2 c k) l) ∗ atP2 (F := F) l c k ∗ ex (F := F) l c k)
/-- The state between layer `l`'s sum and its being kept. -/
def XE (I : Inp F) (l : ℕ) (c : Fin 32) (X : sProp 𝕄) : sProp 𝕄 :=
  iprop(rsPt c Finset.univ (RS I l c) ∗ (∃ f, pPt (F := F) c Finset.univ f) ∗ Args I c ∗ bigSep (iv 1 32) (fin l c) ∗ X)

def gin' (r : ℕ) (c k : Fin 32) : sProp 𝕄 := iprop(tok1 (F := F) (r + 1) c k ∗ reached ER (cS1 c k) (r + 1))
/-- What a place of the next layer starts from, -/
def gin (r : ℕ) (c k : Fin 32) : sProp 𝕄 := iprop(preW c (semP2 k) r ∗ gin' (F := F) r c k)
def layK (r : ℕ) (c k : Fin 32) : sProp 𝕄 :=
  iprop(atS1 (F := F) (r + 1) c k ∗ preW c (semS2 k) r ∗ preW c (semP1 k) (r + 1))
def lay (r : ℕ) (c k : Fin 32) : sProp 𝕄 :=
  iprop(gin (F := F) r c k ∗ atS1 (F := F) (r + 1) c k ∗ atS2 (F := F) r c k ∗ preW c (semP1 k) (r + 1))
/-- the slot of the activations, if it is not sent back, -/
def keepXG (r : ℕ) (c k : Fin 32) : sProp 𝕄 := if r = 0 then iprop(emp) else xgAny (F := F) c k
def gkeep (r : ℕ) (c k : Fin 32) : sProp 𝕄 := iprop(atP2 (F := F) (r + 1) c k ∗ keepXG (F := F) r c k)
/-- what it ends with, -/
def gout (r : ℕ) (c k : Fin 32) : sProp 𝕄 := iprop(post1 (F := F) (r + 1) c k ∗ gkeep (F := F) r c k)
/-- and what it has in between. -/
def gmid (r : ℕ) (c k : Fin 32) : sProp 𝕄 :=
  iprop(atP2 (F := F) (r + 1) c k ∗ reached ER (cP2 c k) (r + 1) ∗ rsAny (F := F) (peer c k) (ng k) ∗ reached ER (toP1 c k) (r + 1) ∗ gin' (F := F) r c k)

/-! ## A layer after the first -/

section Layer
variable {I : Inp F} {r : ℕ} {c : Fin 32}

/-- While the slot sums of layer `r` are sent. -/
def XL (I : Inp F) (r : ℕ) (c : Fin 32) (X : sProp 𝕄) : sProp 𝕄 :=
  iprop(xgPt c {0} (XG I r c) ∗ redPt c (leafQ 0) (RED I r c) ∗ rsAny (F := F) c 0 ∗ (∃ f, pPt (F := F) c Finset.univ f) ∗ Args I c
    ∗ bigSep (iv 1 32) (lay r c) ∗ X)
def XK (I : Inp F) (r : ℕ) (c : Fin 32) (X : sProp 𝕄) : sProp 𝕄 :=
  iprop(redPt c (leafQ 0) (RED I r c) ∗ rsAny (F := F) c 0 ∗ bigSep (iv 1 32) (layK r c) ∗ X)
/-- Between two groups: the places below `b` are done. -/
def GE (I : Inp F) (r : ℕ) (c : Fin 32) (b : ℕ) (p0 X : sProp 𝕄) : sProp 𝕄 :=
  iprop(Ctx I ∗ Ow c (O1 c r b) ∗ bigSep (iv b 32) (gin r c) ∗ bigSep (iv 1 b) (gout r c) ∗ bigSep (iv b 32) (pAny (F := F) c) ∗ p0
    ∗ xgPt c {0} (XG I r c) ∗ Args I c ∗ X)
/-- Slot 0 of the partial products between groups. -/
abbrev p0 (I : Inp F) (r : ℕ) (c : Fin 32) (g : Fin 4) : sProp 𝕄 := if g = 0 then pAny (F := F) c 0 else pPt c {0} (P I (r + 1) c)

theorem to_groups {X : sProp 𝕄} (hr : r < 2) :
    St I c (due (toP2 c) r N (iv 32 32) + later c (2 * r + 2)) (pre2 I r c) (post2 r c) 1 32 32 (XL I r c X) ⊢ GE I r c 1 (p0 I r c 0) (XK I r c X) := by
  unfold St XL GE XK
  rw [due_done, later_even c hr, iv_self, iv_self, bigSep_empty]
  show _ ⊢ iprop(Ctx I ∗ Ow c (O1 c r 1) ∗ bigSep (iv 1 32) (gin r c) ∗ emp ∗ bigSep (iv 1 32) (pAny (F := F) c) ∗ pAny c 0 ∗ _)
  iintro ⟨#HC, HO, -, Hp, Hxg, Hred, Hrs, HP, HA, HL, HX⟩
  ihave H := (big_map2 (I := I) (A := post2 r c)
      (B := lay r c) (C := fun k => iprop(gin r c k ∗ layK r c k)) fun k _ => by
    unfold post2 lay layK preW
    iintro ⟨-, H1, H2, H3, H4, H5⟩
    iframe) $$ [Hp HL]
  · isplitr; · iexact HC
    isplitl [Hp]; · iexact Hp
    iexact HL
  ihave H := unzip2 $$ H
  icases H with ⟨H1, H2⟩
  ihave HP := (p_anys c) $$ HP
  icases HP with ⟨Hp0, Hps⟩
  isplitr; · iexact HC
  iframe

/-- The state while a group's slots are waited for. -/
def XG1 (I : Inp F) (r : ℕ) (c : Fin 32) (g : Fin 4) (X : sProp 𝕄) : sProp 𝕄 :=
  iprop(bigSep (iv (ga g) (gb g)) (gin' r c) ∗ bigSep (iv (ga g) (gb g)) (pAny (F := F) c) ∗ bigSep (iv (gb g) 32) (gin r c) ∗ bigSep (iv (gb g) 32) (pAny (F := F) c)
    ∗ bigSep (iv 1 (ga g)) (gout r c) ∗ p0 I r c g ∗ xgPt c {0} (XG I r c) ∗ Args I c ∗ X)
theorem ga_le (g : Fin 4) : 1 ≤ ga g ∧ ga g ≤ gb g ∧ gb g ≤ 32 := by revert g; decide
theorem iv_cut (g : Fin 4) (A : Fin 32 → sProp 𝕄) : bigSep (iv (ga g) 32) A = iprop(bigSep (iv (ga g) (gb g)) A ∗ bigSep (iv (gb g) 32) A) := by
  rw [← iv_union (a := ga g) (b := gb g) (e := 32) (ga_le g).2.1 (ga_le g).2.2]
  exact bigSep_union (iv_disj (le_refl _))
theorem iv_cut' (g : Fin 4) (A : Fin 32 → sProp 𝕄) : bigSep (iv 1 (gb g)) A = iprop(bigSep (iv 1 (ga g)) A ∗ bigSep (iv (ga g) (gb g)) A) := by
  rw [← iv_union (a := 1) (b := ga g) (e := gb g) (ga_le g).1 (ga_le g).2.1]
  exact bigSep_union (iv_disj (le_refl _))

theorem group_wait (g : Fin 4) {X : sProp 𝕄} :
    GE I r c (ga g) (p0 I r c g) X ⊢ St I c (O1 c r (ga g)) (fun k => preW c (semP2 k) r) (fun k => postW c (semP2 k) r (payP2 I c k r))
      (ga g) (ga g) (gb g) (XG1 I r c g X) := by
  unfold GE St XG1
  rw [iv_cut, iv_cut, iv_self, bigSep_empty]
  iintro ⟨#HC, HO, ⟨H1, H1'⟩, H2, ⟨H3, H3'⟩, H4, H5, H6, H7⟩
  ihave H := ((Entails.of_eq rfl).trans (unzip2 (s := iv (ga g) (gb g)) (A := fun k => preW c (semP2 k) r) (B := gin' r c)) : bigSep (iv (ga g) (gb g)) (gin r c) ⊢ _) $$ H1
  icases H with ⟨Ha, Hb⟩
  isplitr; · iexact HC
  iframe
  iempintro

/-- The state at a group's products. -/
def XG2 (I : Inp F) (r : ℕ) (c : Fin 32) (g : Fin 4) (X : sProp 𝕄) : sProp 𝕄 :=
  iprop(bigSep (iv (ga g) (gb g)) (gmid r c) ∗ bigSep (iv (gb g) 32) (gin r c) ∗ bigSep (iv (gb g) 32) (pAny (F := F) c)
    ∗ bigSep (iv 1 (ga g)) (gout r c) ∗ (z g (pPt c {0} (P I (r + 1) c)) -∗ pPt c {0} (P I (r + 1) c))
    ∗ (z g (xgPt c {0} (XG I r c)) -∗ xgPt c {0} (XG I r c)) ∗ X)

theorem group_load (g : Fin 4) {X : sProp 𝕄} :
    St I c (O1 c r (ga g)) (fun k => preW c (semP2 k) r) (fun k => postW c (semP2 k) r (payP2 I c k r)) (ga g) (gb g) (gb g) (XG1 I r c g X)
      ⊢ At I c (O1 c r (ga g)) iprop(Args I c ∗ xgPt c (grp g) (XG I r c) ∗ ∃ f, pPt (F := F) c (grp g) f) (XG2 I r c g X) := by
  unfold At St XG1 XG2
  iintro ⟨#HC, HO, -, Hw, Hin, Hp, Hg1, Hg2, Hg3, Hp0, Hx0, HA, HX⟩
  ihave Hp0 := (z_if g (pAny c 0) (pPt c {0} (P I (r + 1) c))) $$ Hp0
  ihave Hx0 := (z_same g (xgPt c {0} (XG I r c))) $$ Hx0
  icases Hp0 with ⟨Hp0, Hpb⟩
  icases Hx0 with ⟨Hx0, Hxb⟩
  ihave H := (big_map2 (I := I) (A := fun k => postW c (semP2 k) r (payP2 I c k r))
      (B := gin' r c) (C := fun k => iprop(xgPt c {k} (XG I r c) ∗ gmid r c k)) fun k _ => by
    unfold postW payP2 gmid
    iintro ⟨-, ⟨H1, H2, H3, H4, H5⟩, H6⟩
    iframe) $$ [Hw Hin]
  · isplitr; · iexact HC
    isplitl [Hw]; · iexact Hw
    iexact Hin
  ihave H := unzip2 $$ H
  icases H with ⟨Hxs, Hm⟩
  isplitr; · iexact HC
  isplitl [HO]; · iexact HO
  isplitl [HA Hx0 Hxs Hp0 Hp]
  · isplitl [HA]; · iexact HA
    isplitl [Hx0 Hxs]
    · iapply (Entails.of_eq (xg_split c (grp g) (XG I r c)).symm)
      iapply (Entails.of_eq (big_grp g fun k => xgPt c {k} (XG I r c)).symm)
      isplitl [Hx0] <;> iassumption
    iapply (p_join c (grp g))
    iapply (Entails.of_eq (big_grp g (pAny c)).symm)
    isplitl [Hp0] <;> iassumption
  iframe

/-- The state while a group's partial products are sent. -/
def XG3 (I : Inp F) (r : ℕ) (c : Fin 32) (g : Fin 4) (X : sProp 𝕄) : sProp 𝕄 :=
  iprop(bigSep (iv (ga g) (gb g)) (gkeep r c) ∗ bigSep (iv (gb g) 32) (gin r c) ∗ bigSep (iv (gb g) 32) (pAny (F := F) c)
    ∗ bigSep (iv 1 (ga g)) (gout r c) ∗ pPt c {0} (P I (r + 1) c) ∗ xgPt c {0} (XG I r c) ∗ Args I c ∗ X)

theorem payS1_succ (I : Inp F) (c k : Fin 32) (r : ℕ) : payS1 I c k (r + 1) = pPt c {k} (P I (r + 1) c) := rfl
theorem ext_keep (hr : r < 2) (k : Fin 32) :
    iprop(xgAny (F := F) c k ∗ reached ER (cP2 c k) (r + 1)) ⊢ iprop(ext1 (F := F) (peer c k) (ng k) (r + 1) ∗ keepXG (F := F) r c k) := by
  unfold ext1 keepXG
  match r, hr with
  | 0, _ =>
    rw [if_pos rfl, if_pos rfl, peer_ng, ng_ng]
    iintro ⟨H1, H2⟩; iframe
  | 1, _ =>
    rw [if_neg (by decide), if_neg (by decide)]
    iintro ⟨H1, H2⟩; iframe

theorem group_send (g : Fin 4) (hr : r < 2) {X : sProp 𝕄} :
    At I c (O1 c r (ga g)) iprop(Args I c ∗ xgPt c (grp g) (XG I r c) ∗ pPt c (grp g) (P I (r + 1) c)) (XG2 I r c g X)
      ⊢ St I c (O1 c r (ga g)) (pre1 I (r + 1) c) (post1 (r + 1) c) (ga g) (ga g) (gb g) (XG3 I r c g X) := by
  unfold At St XG2 XG3
  rw [iv_self, bigSep_empty]
  iintro ⟨#HC, HO, ⟨HA, Hx, Hp⟩, Hm, Hg1, Hg2, Hg3, Hpb, Hxb, HX⟩
  ihave Hx := (Entails.of_eq (xg_split c (grp g) (XG I r c))) $$ Hx
  ihave Hx := (Entails.of_eq (big_grp g fun k => xgPt c {k} (XG I r c))) $$ Hx
  icases Hx with ⟨Hx0, Hxs⟩
  ihave Hp := (Entails.of_eq (p_split c (grp g) (P I (r + 1) c))) $$ Hp
  ihave Hp := (Entails.of_eq (big_grp g fun k => pPt c {k} (P I (r + 1) c))) $$ Hp
  icases Hp with ⟨Hp0, Hps⟩
  ihave Hx0 := Hxb $$ Hx0
  ihave Hp0 := Hpb $$ Hp0
  ihave Hxp := zip2 $$ [Hxs Hps]
  · isplitl [Hxs]; · iexact Hxs
    iexact Hps
  ihave H := (big_map2 (I := I) (s := iv (ga g) (gb g)) (A := gmid r c)
      (B := fun k => iprop(xgPt c {k} (XG I r c) ∗ pPt c {k} (P I (r + 1) c))) (C := fun k => iprop(pre1 I (r + 1) c k ∗ gkeep r c k)) fun k _ => by
    unfold gmid gin' pre1 gkeep
    iintro ⟨-, ⟨H1, H2, H3, H4, ⟨H5, H5'⟩, H6⟩, H7, H8⟩
    ihave H7 := (xg_any c k (XG I r c)) $$ H7
    ihave H := (ext_keep hr k) $$ [H7 H2]
    · isplitl [H7]; · iexact H7
      iexact H2
    icases H with ⟨H9, H10⟩
    iframe
    iapply (Entails.of_eq (payS1_succ I c k r).symm); iexact H8) $$ [Hm Hxp]
  · isplitr; · iexact HC
    isplitl [Hm]; · iexact Hm
    iexact Hxp
  ihave H := unzip2 $$ H
  icases H with ⟨Hpre, Hk⟩
  isplitr; · iexact HC
  iframe
  iempintro

theorem group_end (g : Fin 4) {X : sProp 𝕄} :
    St I c (O1 c r (gb g)) (pre1 I (r + 1) c) (post1 (r + 1) c) (ga g) (gb g) (gb g) (XG3 I r c g X)
      ⊢ GE I r c (gb g) (pPt c {0} (P I (r + 1) c)) X := by
  unfold GE St XG3
  rw [iv_cut' g (gout r c)]
  iintro ⟨#HC, HO, -, Hpost, Hk, Hg1, Hg2, Hg3, Hp0, Hx0, HA, HX⟩
  ihave H := (zip2 (A := post1 (r + 1) c) (B := gkeep r c)) $$ [Hpost Hk]
  · isplitl [Hpost]; · iexact Hpost
    iexact Hk
  isplitr; · iexact HC
  iframe
  iexact H

/-- After the groups: the device's own partial product goes to the slots it adds up. -/
def XR1 (I : Inp F) (r : ℕ) (c : Fin 32) (X : sProp 𝕄) : sProp 𝕄 :=
  iprop(bigSep (iv 1 32) (gout r c) ∗ xgPt c {0} (XG I r c) ∗ Args I c ∗ redPt c (leafQ 0) (RED I r c) ∗ bigSep (iv 1 32) (layK r c) ∗ X)
theorem groups_done {X : sProp 𝕄} :
    GE I r c 32 (pPt c {0} (P I (r + 1) c)) (XK I r c X)
      ⊢ At I c (later c (2 * r + 3)) iprop(pPt c {0} (P I (r + 1) c) ∗ rsAny (F := F) c 0) (XR1 I r c X) := by
  unfold GE At XK XR1
  rw [show O1 c r 32 = later c (2 * r + 3) from due_done _ _ _ _, iv_self, bigSep_empty, bigSep_empty]
  iintro ⟨#HC, HO, -, H1, -, H2, H3, H4, H5, H6, H7, H8⟩
  isplitr; · iexact HC
  iframe

def XR2 (I : Inp F) (r : ℕ) (c : Fin 32) (X : sProp 𝕄) : sProp 𝕄 :=
  iprop((pPt c {0} (P I (r + 1) c) ∗ rsPt c {0} (RS I (r + 1) c)) ∗ bigSep (iv 1 32) (gout r c) ∗ xgPt c {0} (XG I r c) ∗ Args I c ∗ redPt c (leafQ 0) (RED I r c)
    ∗ bigSep (iv 1 32) (fun k => iprop(atS1 (F := F) (r + 1) c k ∗ preW c (semP1 k) (r + 1))) ∗ X)
theorem to_s2 {X : sProp 𝕄} :
    At I c (later c (2 * r + 3)) iprop(pPt c {0} (P I (r + 1) c) ∗ rsPt c {0} (RS I (r + 1) c)) (XR1 I r c X)
      ⊢ St I c (later c (2 * r + 3)) (fun k => preW c (semS2 k) r) (fun k => postW c (semS2 k) r (payS2 I c k r)) 1 1 32 (XR2 I r c X) := by
  unfold At St XR1 XR2
  rw [iv_self, bigSep_empty]
  iintro ⟨#HC, HO, HM, H1, H2, H3, H4, H5, H6⟩
  ihave H := (big_map (I := I) (A := layK r c)
      (B := fun k => iprop(preW c (semS2 k) r ∗ atS1 (F := F) (r + 1) c k ∗ preW c (semP1 k) (r + 1))) fun k _ => by
    unfold layK
    iintro ⟨-, H1, H2, H3⟩
    iframe) $$ [H5]
  · isplitr; · iexact HC
    iexact H5
  ihave H := unzip2 $$ H
  icases H with ⟨Ha, Hb⟩
  isplitr; · iexact HC
  iframe
  iempintro

def XR3 (I : Inp F) (r : ℕ) (c : Fin 32) (X : sProp 𝕄) : sProp 𝕄 :=
  iprop(bigSep (iv 1 32) (fun k => iprop((atS2 (F := F) (r + 1) c k ∗ reached ER (cS2 c k) (r + 1)) ∗ atS1 (F := F) (r + 1) c k)) ∗ redPt c fullShare (RED I r c)
    ∗ (pPt c {0} (P I (r + 1) c) ∗ rsPt c {0} (RS I (r + 1) c)) ∗ bigSep (iv 1 32) (gout r c) ∗ xgPt c {0} (XG I r c) ∗ Args I c ∗ X)
theorem to_p1 {X : sProp 𝕄} :
    St I c (later c (2 * r + 3)) (fun k => preW c (semS2 k) r) (fun k => postW c (semS2 k) r (payS2 I c k r)) 1 32 32 (XR2 I r c X)
      ⊢ St I c (later c (2 * r + 3)) (fun k => preW c (semP1 (ng k)) (r + 1)) (fun k => postW c (semP1 (ng k)) (r + 1) (payP1 I c (ng k) (r + 1)))
          1 1 32 (XR3 I r c X) := by
  unfold St XR2 XR3
  rw [iv_self, bigSep_empty, iv_self, bigSep_empty, big_ng fun k => preW c (semP1 k) (r + 1), red_leaves]
  iintro ⟨#HC, HO, -, Hw, HM, H1, H2, H3, H4, H5, H6⟩
  ihave H := (big_map2 (I := I) (A := fun k => postW c (semS2 k) r (payS2 I c k r))
      (B := fun k => iprop(atS1 (F := F) (r + 1) c k ∗ preW c (semP1 k) (r + 1))) (C := fun k => iprop(preW c (semP1 k) (r + 1) ∗ redPt c (leafQ k) (RED I r c)
      ∗ (atS2 (F := F) (r + 1) c k ∗ reached ER (cS2 c k) (r + 1)) ∗ atS1 (F := F) (r + 1) c k)) fun k _ => by
    unfold postW payS2
    iintro ⟨-, ⟨H1, H2, H3⟩, H4, H5⟩
    iframe) $$ [Hw H5]
  · isplitr; · iexact HC
    isplitl [Hw]; · iexact Hw
    iexact H5
  ihave H := unzip2 $$ H
  icases H with ⟨Ha, H⟩
  ihave H := unzip2 $$ H
  icases H with ⟨Hb, Hd⟩
  isplitr; · iexact HC
  iframe
  iempintro

def XR4 (I : Inp F) (r : ℕ) (c : Fin 32) (X : sProp 𝕄) : sProp 𝕄 :=
  iprop(bigSep (iv 1 32) (fun k => iprop((atP1 (F := F) (r + 2) c k ∗ reached ER (cP1 c k) (r + 2) ∗ ext1 (F := F) c k (r + 1))
      ∗ (atS2 (F := F) (r + 1) c k ∗ reached ER (cS2 c k) (r + 1)) ∗ atS1 (F := F) (r + 1) c k)) ∗ redPt c fullShare (RED I r c)
    ∗ pPt c {0} (P I (r + 1) c) ∗ bigSep (iv 1 32) (gout r c) ∗ xgPt c {0} (XG I r c) ∗ Args I c ∗ X)
theorem to_sum {X : sProp 𝕄} :
    St I c (later c (2 * r + 3)) (fun k => preW c (semP1 (ng k)) (r + 1)) (fun k => postW c (semP1 (ng k)) (r + 1) (payP1 I c (ng k) (r + 1)))
          1 32 32 (XR3 I r c X)
      ⊢ At I c (later c (2 * r + 3)) (rsPt c Finset.univ (RS I (r + 1) c)) (XR4 I r c X) := by
  unfold St At XR3 XR4
  rw [iv_self, bigSep_empty, big_ng fun k => postW c (semP1 k) (r + 1) (payP1 I c k (r + 1)), rs_split c Finset.univ, big_univ]
  iintro ⟨#HC, HO, -, Hw, H1, H2, ⟨H3, Hr0⟩, H4, H5, H6, H7⟩
  ihave H := (big_map2 (I := I) (A := fun k => postW c (semP1 k) (r + 1) (payP1 I c k (r + 1)))
      (B := fun k => iprop((atS2 (F := F) (r + 1) c k ∗ reached ER (cS2 c k) (r + 1)) ∗ atS1 (F := F) (r + 1) c k)) (C := fun k => iprop(rsPt c {k} (RS I (r + 1) c)
      ∗ (atP1 (F := F) (r + 2) c k ∗ reached ER (cP1 c k) (r + 2) ∗ ext1 (F := F) c k (r + 1))
      ∗ (atS2 (F := F) (r + 1) c k ∗ reached ER (cS2 c k) (r + 1)) ∗ atS1 (F := F) (r + 1) c k)) fun k _ => by
    unfold postW payP1
    iintro ⟨-, ⟨H1, H2, H3, H4⟩, H5, H6⟩
    iframe) $$ [Hw H1]
  · isplitr; · iexact HC
    isplitl [Hw]; · iexact Hw
    iexact H1
  ihave H := unzip2 $$ H
  icases H with ⟨Ha, Hb⟩
  isplitr; · iexact HC
  iframe

def XR5 (I : Inp F) (r : ℕ) (c : Fin 32) (X : sProp 𝕄) : sProp 𝕄 :=
  iprop(bigSep (iv 1 32) (fun k => iprop((atP1 (F := F) (r + 2) c k ∗ reached ER (cP1 c k) (r + 2) ∗ ext1 (F := F) c k (r + 1))
      ∗ (atS2 (F := F) (r + 1) c k ∗ reached ER (cS2 c k) (r + 1)) ∗ gkeep r c k)) ∗ redPt c fullShare (RED I r c)
    ∗ pPt c {0} (P I (r + 1) c) ∗ xgPt c {0} (XG I r c) ∗ Args I c ∗ rsPt c Finset.univ (RS I (r + 1) c) ∗ X)
theorem to_s1 {X : sProp 𝕄} :
    At I c (later c (2 * r + 3)) (rsPt c Finset.univ (RS I (r + 1) c)) (XR4 I r c X)
      ⊢ St I c (later c (2 * r + 3)) (fun k => preW c (semS1 k) (r + 1)) (fun k => postW c (semS1 k) (r + 1) (payS1 I c k (r + 1))) 1 1 32 (XR5 I r c X) := by
  unfold St At XR4 XR5
  rw [iv_self, bigSep_empty]
  iintro ⟨#HC, HO, Hrs, H1, H2, H3, H4, H5, H6, H7⟩
  ihave H := (big_map2 (I := I) (A := fun k => iprop((atP1 (F := F) (r + 2) c k ∗ reached ER (cP1 c k) (r + 2) ∗ ext1 (F := F) c k (r + 1)) ∗ (atS2 (F := F) (r + 1) c k ∗ reached ER (cS2 c k) (r + 1)) ∗ atS1 (F := F) (r + 1) c k))
      (B := gout r c) (C := fun k => iprop(preW c (semS1 k) (r + 1)
      ∗ (atP1 (F := F) (r + 2) c k ∗ reached ER (cP1 c k) (r + 2) ∗ ext1 (F := F) c k (r + 1))
      ∗ (atS2 (F := F) (r + 1) c k ∗ reached ER (cS2 c k) (r + 1)) ∗ gkeep r c k)) fun k _ => by
    unfold gout post1 preW
    iintro ⟨-, ⟨H1, H2, H3⟩, H4, H5⟩
    iframe) $$ [H1 H4]
  · isplitr; · iexact HC
    isplitl [H1]; · iexact H1
    iexact H4
  ihave H := unzip2 $$ H
  icases H with ⟨Ha, Hb⟩
  isplitr; · iexact HC
  iframe
  iempintro

theorem ex_of (hr : r < 2) (k : Fin 32) : iprop(ext1 (F := F) c k (r + 1) ∗ keepXG (F := F) r c k) ⊢ ex (F := F) (r + 1) c k := by
  unfold ext1 keepXG ex
  match r, hr with
  | 0, _ =>
    rw [if_pos rfl, if_pos rfl, if_neg (by decide)]
    iintro ⟨H1, -⟩; iexact H1
  | 1, _ =>
    rw [if_neg (by decide), if_neg (by decide), if_pos rfl]
    iintro ⟨-, H1⟩; iexact H1
theorem layer_end (hr : r < 2) {X : sProp 𝕄} :
    St I c (later c (2 * r + 3)) (fun k => preW c (semS1 k) (r + 1)) (fun k => postW c (semS1 k) (r + 1) (payS1 I c k (r + 1))) 1 32 32 (XR5 I r c X)
      ⊢ At I c (later c (2 * r + 3)) iprop((∃ f, redPt (F := F) c fullShare f) ∗ xgAny (F := F) c 0) (XE I (r + 1) c X) := by
  unfold St At XR5 XE
  iintro ⟨#HC, HO, -, Hw, H1, H2, H3, H4, H5, H6, H7⟩
  ihave H := (big_map2 (I := I) (s := iv 1 32) (A := fun k => postW c (semS1 k) (r + 1) (payS1 I c k (r + 1)))
      (B := fun k => iprop((atP1 (F := F) (r + 2) c k ∗ reached ER (cP1 c k) (r + 2) ∗ ext1 (F := F) c k (r + 1)) ∗ (atS2 (F := F) (r + 1) c k ∗ reached ER (cS2 c k) (r + 1)) ∗ gkeep r c k)) (C := fun k => iprop(pPt c {src (r + 1) c k} (P I (r + 1) c) ∗ fin (r + 1) c k)) fun k _ => by
    unfold postW payS1 fin gkeep
    iintro ⟨-, ⟨H1, H2, H3⟩, ⟨H4, H5, H6⟩, ⟨H7, H8⟩, H9, H10⟩
    ihave H := (ex_of hr k) $$ [H6 H10]
    · isplitl [H6]; · iexact H6
      iexact H10
    iframe) $$ [Hw H1]
  · isplitr; · iexact HC
    isplitl [Hw]; · iexact Hw
    iexact H1
  ihave H := unzip2 $$ H
  icases H with ⟨Ha, Hb⟩
  isplitr; · iexact HC
  isplitl [HO]; · iexact HO
  isplitl [H2 H4]
  · isplitl [H2]; · iexists _; iexact H2
    iexists _; iexact H4
  isplitl [H6]; · iexact H6
  isplitl [H3 Ha]
  · iexists (P I (r + 1) c)
    iapply (Entails.of_eq (p_src (r + 1) c (P I (r + 1) c)).symm)
    isplitl [H3]; · iexact H3
    iexact Ha
  iframe

/-- A layer's sum is kept, and its slots are ready to be sent. -/
theorem to_send2 {l : ℕ} (hl : l < 2) {X : sProp 𝕄} :
    At I c (later c (2 * l + 1)) iprop(redPt c fullShare (RED I l c) ∗ xgPt c {0} (XG I l c)) (XE I l c iprop(bigSep (iv 1 32) (fut l c) ∗ X))
      ⊢ St I c (due (toP2 c) l N (iv 1 32) + later c (2 * l + 2)) (pre2 I l c) (post2 l c) 1 1 32 (XL I l c X) := by
  unfold St At XE XL
  rw [later_odd c hl, iv_self, bigSep_empty, red_leaves]
  iintro ⟨#HC, HO, ⟨⟨Hr0, Hrl⟩, Hx0⟩, Hrs, Hp, HA, Hfin, Hfut, HX⟩
  ihave Hrs := (rs_anys c (RS I l c)) $$ Hrs
  icases Hrs with ⟨Hrs0, Hrs⟩
  ihave Hz := zip2 $$ [Hrl Hrs]
  · isplitl [Hrl]; · iexact Hrl
    iexact Hrs
  ihave Hz := zip2 $$ [Hz Hfut]
  · isplitl [Hz]; · iexact Hz
    iexact Hfut
  ihave H := (big_map2 (I := I) (A := fin l c)
      (B := fun k => iprop((redPt c (leafQ k) (RED I l c) ∗ rsAny (F := F) c k) ∗ fut l c k)) (C := fun k => iprop(pre2 I l c k ∗ lay l c k)) fun k _ => by
    unfold fin fut ex
    rw [if_neg (by omega)]
    unfold pre2 payS2 lay gin gin' preW
    iintro ⟨-, ⟨⟨Ha1, #Ha2⟩, ⟨Hb1, #Hb2⟩, ⟨Hd1, #Hd2⟩, He, Hf1, #Hf2⟩, ⟨Hg, Hh⟩, Hi, Hj, Hk, Hl⟩
    iframe
    iframe #) $$ [Hfin Hz]
  · isplitr; · iexact HC
    isplitl [Hfin]; · iexact Hfin
    iexact Hz
  ihave H := unzip2 $$ H
  icases H with ⟨Ha, Hb⟩
  isplitr; · iexact HC
  iframe
  iempintro
end Layer

end Cert.KernelIdeal.AllReduce
-- ==== Proof.Opening.lean ====
module

public import proofs.«01_k».proof.Proof.Phases
public import Idealize.ShloMosaic.Lib.Pipeline.Value

/-!
# The first layer and the end

What a device has at the start, the handshake, the first layer's phases, the local copy, and what is left at the end.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

/-! ## What a device starts with -/

/-- What it has for each place in the first layer, -/
def ini (c k : Fin 32) : sProp 𝕄 := iprop(tok1 (F := F) 0 c k ∗ preW c (semP1 k) 0 ∗ atS1 (F := F) 0 c k ∗ atS2 (F := F) 0 c k ∗ atP2 (F := F) 0 c k)
/-- for the handshake, -/
def bar0 (c : Fin 32) : sProp 𝕄 := iprop(atPos ER (cBar c) 0 ∅ 0 ∗ cred (tallyAt (cBar c) 0 31))
/-- and for the local copy. -/
def loc0 (c : Fin 32) : sProp 𝕄 := iprop(dutyTok ER (cLoc c) 0 0 ∗ atPos ER (cLoc c) 0 ∅ 0)
/-- What the first layer leaves alone. -/
def XF (c : Fin 32) (X : sProp 𝕄) : sProp 𝕄 :=
  iprop((∃ f, redPt (F := F) c fullShare f) ∗ xgAny (F := F) c 0 ∗ bigSep (iv 1 32) (fut 0 c) ∗ bigSep (iv 1 32) (fut 1 c) ∗ X)
def XS (I : Inp F) (c : Fin 32) (X : sProp 𝕄) : sProp 𝕄 :=
  iprop(bigSep (iv 1 32) (ini c) ∗ loc0 c ∗ rsAny (F := F) c 0 ∗ (∃ f, pPt (F := F) c Finset.univ f) ∗ Args I c ∗ XF c X)

/-- The handshake's signals are sent. -/
theorem to_wait {X : sProp 𝕄} :
    St I c (due (toBar c) 0 1 (iv 32 32) + later c 0) (preSig c) (fun _ => iprop(emp)) 1 32 32 iprop(bar0 c ∗ X) ⊢ At I c (later c 0) (bar0 c) X := by
  unfold St At
  rw [due_done, iv_self, bigSep_empty]
  iintro ⟨#HC, HO, -, -, HM, HX⟩
  isplitr; · iexact HC
  iframe

theorem step_bar {X : sProp 𝕄} {α : Type} {k : PUnit → Prog (TpuEff nD τ sig (Elt F) Λ₀ .tc) α} {Q : α → sProp 𝕄}
    (h : At I c (later c 0) iprop(atPos ER (cBar c) 1 ∅ 0 ∗ bigSep (iv 1 32) (payBar c)) X ⊢ W c (k ⟨⟩) Q) :
    At I c (later c 0) (bar0 c) X ⊢ W c (.op (.semWait semBar 31) k) Q := by
  unfold At bar0 Ow at *
  iintro ⟨#HC, ⟨%W0, HO⟩, ⟨Hat, Hc⟩, HX⟩
  ihave H := (ctx_bar I c) $$ HC
  icases H with ⟨HI, -⟩
  unfold Inv
  icases HI with ⟨%κ, HI⟩
  iapply (Rounds.wp_wait_rest_token Variants.none ER (Sc I) (th c) none (κ := κ) (fun K => wpE_semWait_eq Variants.none (th c) none Set.univ K)
      (Set.mem_univ κ) 0 (O := later c 0) (W := W0) (R := 0) (m := 0) (T := ∅) (by rw [Nat.zero_add]; exact (expect_bar I c).symm)) $$ [HI HO Hat Hc]
  · isplitl [HI]; · iexact HI
    isplitl [Hc]; · iexact Hc
    isplitl [HO]; · iexact HO
    isplitr
    · unfold Ctx
      icases HC with ⟨-, HL⟩
      iapply (mayWait (n := 1) c _ (by decide) (by rfl) (above_later c (by decide))); iexact HL
    iexact Hat
  iintro ⟨HO, Hat, -, Hpay⟩
  iapply h
  isplitr; · iexact HC
  isplitl [HO]; · iexists _; iexact HO
  isplitl [Hat Hpay]
  · isplitl [Hat]; · iexact Hat
    have e : bigSep ((Sc I).duties (cBar c) 0 \ ∅) (fun d => (Sc I).payload (cBar c) 0 d) = bigSep (iv 1 32) (payBar (F := F) c) := by
      rw [Finset.sdiff_empty, duties_bar, show (Finset.univ.filter (· ≠ 0) : Finset (Fin 32)) = iv 1 32 from by decide]; rfl
    iapply (Entails.of_eq e); iexact Hpay
  iexact HX

/-! ## The first layer -/

/-- Beside the products of the first layer. -/
def X0 (c : Fin 32) (X : sProp 𝕄) : sProp 𝕄 :=
  iprop(bigSep (iv 1 32) (payBar (F := F) c) ∗ bigSep (iv 1 32) (ini c) ∗ loc0 c ∗ rsAny (F := F) c 0 ∗ XF c iprop(atPos ER (cBar c) 1 ∅ 0 ∗ X))
theorem to_mlp {X : sProp 𝕄} :
    At I c (later c 0) iprop(atPos ER (cBar c) 1 ∅ 0 ∗ bigSep (iv 1 32) (payBar c)) (XS I c X)
      ⊢ At I c (later c 0) iprop(Args I c ∗ ∃ f, pPt (F := F) c Finset.univ f) (X0 c X) := by
  unfold At XS X0 XF
  iintro ⟨#HC, HO, ⟨Hat, Hpay⟩, H1, H2, H3, H4, H5, H6, H7, H8, H9, HX⟩
  isplitr; · iexact HC
  iframe

/-- What is kept for each place while the first layer's partial products are sent. -/
def mid0 (c k : Fin 32) : sProp 𝕄 := iprop(preW c (semP1 k) 0 ∗ atS1 (F := F) 0 c k ∗ atS2 (F := F) 0 c k ∗ atP2 (F := F) 0 c k ∗ xgAny (F := F) (peer c k) (ng k))
def X1 (I : Inp F) (c : Fin 32) (X : sProp 𝕄) : sProp 𝕄 :=
  iprop(bigSep (iv 1 32) (mid0 c) ∗ (pPt c {c} (P I 0 c) ∗ rsAny (F := F) c 0) ∗ loc0 c ∗ Args I c ∗ XF c iprop(atPos ER (cBar c) 1 ∅ 0 ∗ X))
theorem to_send1 {X : sProp 𝕄} :
    At I c (later c 0) iprop(Args I c ∗ pPt c Finset.univ (P I 0 c)) (X0 c X)
      ⊢ St I c (due (toP1 c) 0 N (iv 1 32) + later c 1) (pre1 I 0 c) (post1 0 c) 1 1 32 (X1 I c X) := by
  unfold At St X0 X1
  rw [iv_self, bigSep_empty, p_src 0, show src 0 c 0 = c from peer_zero c]
  iintro ⟨#HC, HO, ⟨HA, Hp0, Hps⟩, Hbar, Hini, Hloc, Hrs, HX⟩
  ihave Hz := zip2 $$ [Hbar Hps]
  · isplitl [Hbar]; · iexact Hbar
    iexact Hps
  ihave H := (big_map2 (I := I) (s := iv 1 32) (A := ini c) (B := fun k => iprop(payBar (F := F) c k ∗ pPt c {src 0 c k} (P I 0 c)))
      (C := fun k => iprop(pre1 I 0 c k ∗ mid0 c k)) fun k hk => by
    have h0 := ne_zero_of_iv (le_refl 1) hk
    unfold ini payBar pre1 mid0 payS1 ext1
    rw [if_neg (by decide)]
    iintro ⟨#HC, ⟨⟨H1, H1'⟩, H2, H3, H4, H5⟩, ⟨H6, H7⟩, H8⟩
    ihave Ha := (ctx_dma I c (semS1 k) (semS1_ge h0)) $$ HC
    ihave Hb := (ctx_dma I (peer c k) (semP1 (ng k)) (semP1_ge _)) $$ HC
    icases Ha with ⟨-, Ha⟩
    icases Hb with ⟨-, Hb⟩
    isplitr [H2 H3 H4 H5 H7]
    · isplitl [H1 H1']; · isplitl [H1] <;> iassumption
      isplitr
      · isplitr; · iexact Ha
        iexact Hb
      isplitl [H6]; · iexact H6
      isplitl [H8]; · iexact H8
      iempintro
    iframe) $$ [Hini Hz]
  · isplitr; · iexact HC
    isplitl [Hini]; · iexact Hini
    iexact Hz
  ihave H := unzip2 $$ H
  icases H with ⟨Ha, Hb⟩
  isplitr; · iexact HC
  iframe
  isplitl [HO]; · iexact HO
  iempintro

/-- The partial products are sent; the device's own is copied. -/
def X2 (I : Inp F) (c : Fin 32) (X : sProp 𝕄) : sProp 𝕄 :=
  iprop(bigSep (iv 1 32) (post1 0 c) ∗ bigSep (iv 1 32) (mid0 c) ∗ Args I c ∗ XF c iprop(atPos ER (cBar c) 1 ∅ 0 ∗ X))
theorem to_copy {X : sProp 𝕄} :
    St I c (due (toP1 c) 0 N (iv 32 32) + later c 1) (pre1 I 0 c) (post1 0 c) 1 32 32 (X1 I c X)
      ⊢ At I c (later c 1) iprop((pPt c {c} (P I 0 c) ∗ rsAny (F := F) c 0) ∗ loc0 c) (X2 I c X) := by
  unfold At St X1 X2
  rw [due_done, iv_self, bigSep_empty]
  iintro ⟨#HC, HO, -, H1, H2, H3, H4, H5, H6⟩
  isplitr; · iexact HC
  iframe

theorem step_copy {X : sProp 𝕄} {α : Type} {K : PUnit → Prog (TpuEff nD τ sig (Elt F) Λ₀ .tc) α} {Q : α → sProp 𝕄}
    {sM : Memref sig .tc .vmem S2x512 .bf16} {dM : Memref sig (th c).2.kind .vmem S2x512 .bf16} (hsM : sM = slotM pM c) (hdM : dM = slotM rsM 0)
    {h1 : sM.view.WordExact} {h2 : dM.view.WordExact} {h3 : DmaTarget.Typed (nD := nD) .vmem (.dma semLoc) (.here dM)}
    (h : At I c (later c 1) (preW c semLoc 0) X ⊢ W c (K ⟨⟩) Q) :
    At I c (later c 1) iprop((pPt c {c} (P I 0 c) ∗ rsAny (F := F) c 0) ∗ loc0 c) X ⊢ W c (.op (.enqueueDma sM (.here dM) (.dma semLoc) h1 h2 h3) K) Q := by
  subst hsM; subst hdM
  unfold At loc0 preW at *
  iintro ⟨#HC, HO, ⟨⟨Hp, ⟨%fd, Hrs⟩⟩, Ht, Hat⟩, HX⟩
  ihave H := (ctx_dma I c semLoc (by decide)) $$ HC
  icases H with ⟨HI, HR⟩
  unfold Inv
  icases HI with ⟨%κ, HI⟩
  iapply (Rounds.wp_copy_pointsTo Variants.none ER (Sc I) (th c) none (src := slotM pM c) (dst := slotM rsM 0) (κ := κ) (r := 0) (d := 0)
      (q := fullShare) (fs := P I 0 c) (fd := fd)
      (by rw [duties_loc]; exact Finset.mem_singleton_self _) 0 N rfl (amount_loc I c 0 0)
      (by
        rw [payload_loc, set_p, set_rs]
        unfold payLoc
        refine sep_comm.trans (sep_mono_right (Entails.of_eq (pointsTo_congr fun i hi => ?_)))
        rw [write_rs _ _ _ hi]
        refine (read_p _ _ _).trans ?_
        unfold RS gath
        rw [mem_slot.mp hi, peer_zero, show ng 0 = 0 from by decide, show src 0 c 0 = c from peer_zero c])) $$ [HI Hp Hrs Ht HR]
  · isplitl [HI]; · iexact HI
    isplitl [Hp]; · rw [set_p]; iexact Hp
    isplitl [Hrs]; · rw [set_rs]; iexact Hrs
    isplitl [Ht]; · iexact Ht
    iexact HR
  iintro Hc
  iapply h
  isplitr; · iexact HC
  iframe

theorem step_loc {X : sProp 𝕄} {q : DmaSem sig} (hq : q = semLoc)
    {sp sp' : Space} {s s' : Shape} {e e' : EltTy} {src : Memref sig .tc sp' s' e'} {dst : Memref sig .tc sp s e}
    (hcr : dst.view.dmaCredit = N) {h1 : src.view.WordExact} {h2 : dst.view.WordExact}
    {α : Type} {k : PUnit → Prog (TpuEff nD τ sig (Elt F) Λ₀ .tc) α} {Q : α → sProp 𝕄}
    (h : At I c (later c 1) (postW c semLoc 0 (payLoc I c)) X ⊢ W c (k ⟨⟩) Q) :
    At I c (later c 1) (preW c semLoc 0) X ⊢ W c (.op (.waitDma2 q src dst h1 h2) k) Q := by
  subst hq
  unfold At at *
  iintro ⟨#HC, HO, HM, HX⟩
  iapply (wait_core (I := I) (O := later c 1) (q := semLoc) (n := 0) (r := 0) (pay := payLoc I c) (by decide) (duties_loc I c) (amount_loc I c 0 0)
    (payload_loc I c 0 0) (by decide) (by show lvK (kd _) 0 ≤ 0; rw [kd_loc]; exact le_refl 0) (above_later c (by decide)) hcr) $$ [HO HM]
  · isplitr; · iexact HC
    isplitl [HO] <;> iassumption
  iintro ⟨HO, HM⟩
  iapply h
  isplitr; · iexact HC
  iframe

def X3 (I : Inp F) (c : Fin 32) (X : sProp 𝕄) : sProp 𝕄 :=
  iprop(payLoc I c ∗ bigSep (iv 1 32) (fun k => iprop((atS1 (F := F) 0 c k ∗ post1 (F := F) 0 c k) ∗ atS2 (F := F) 0 c k ∗ atP2 (F := F) 0 c k ∗ xgAny (F := F) (peer c k) (ng k)))
    ∗ Args I c ∗ XF c iprop(atPos ER (cLoc c) 1 ∅ 0 ∗ atPos ER (cBar c) 1 ∅ 0 ∗ X))
theorem to_p1_0 {X : sProp 𝕄} :
    At I c (later c 1) (postW c semLoc 0 (payLoc I c)) (X2 I c X)
      ⊢ St I c (later c 1) (fun k => preW c (semP1 (ng k)) 0) (fun k => postW c (semP1 (ng k)) 0 (payP1 I c (ng k) 0)) 1 1 32 (X3 I c X) := by
  unfold At St X2 X3 postW XF
  rw [iv_self, bigSep_empty, big_ng fun k => preW c (semP1 k) 0]
  iintro ⟨#HC, HO, ⟨Hat, -, Hpay⟩, H1, H2, H3, H4, H5, H6, H7, H8, HX⟩
  ihave H := (big_map2 (I := I) (A := post1 0 c) (B := mid0 c) (C := fun k => iprop(preW c (semP1 k) 0 ∗
      ((atS1 (F := F) 0 c k ∗ post1 (F := F) 0 c k) ∗ atS2 (F := F) 0 c k ∗ atP2 (F := F) 0 c k ∗ xgAny (F := F) (peer c k) (ng k)))) fun k _ => by
    unfold mid0
    iintro ⟨-, H1, H2, H3, H4, H5, H6⟩
    iframe) $$ [H1 H2]
  · isplitr; · iexact HC
    isplitl [H1]; · iexact H1
    iexact H2
  ihave H := unzip2 $$ H
  icases H with ⟨Ha, Hb⟩
  isplitr; · iexact HC
  iframe
  iempintro

def X4 (I : Inp F) (c : Fin 32) (X : sProp 𝕄) : sProp 𝕄 :=
  iprop(pPt c {c} (P I 0 c) ∗ bigSep (iv 1 32) (fun k => iprop((atP1 (F := F) 1 c k ∗ reached ER (cP1 c k) 1)
      ∗ (atS1 (F := F) 0 c k ∗ post1 (F := F) 0 c k) ∗ atS2 (F := F) 0 c k ∗ atP2 (F := F) 0 c k ∗ xgAny (F := F) (peer c k) (ng k)))
    ∗ Args I c ∗ XF c iprop(atPos ER (cLoc c) 1 ∅ 0 ∗ atPos ER (cBar c) 1 ∅ 0 ∗ X))
theorem to_sum_0 {X : sProp 𝕄} :
    St I c (later c 1) (fun k => preW c (semP1 (ng k)) 0) (fun k => postW c (semP1 (ng k)) 0 (payP1 I c (ng k) 0)) 1 32 32 (X3 I c X)
      ⊢ At I c (later c 1) (rsPt c Finset.univ (RS I 0 c)) (X4 I c X) := by
  unfold At St X3 X4 payLoc
  rw [iv_self, bigSep_empty, big_ng fun k => postW c (semP1 k) 0 (payP1 I c k 0), rs_split c Finset.univ, big_univ]
  iintro ⟨#HC, HO, -, Hw, ⟨Hp0, Hr0⟩, Hb, HX⟩
  ihave H := (big_map2 (I := I) (A := fun k => postW c (semP1 k) 0 (payP1 I c k 0))
      (B := fun k => iprop((atS1 (F := F) 0 c k ∗ post1 (F := F) 0 c k) ∗ atS2 (F := F) 0 c k ∗ atP2 (F := F) 0 c k ∗ xgAny (F := F) (peer c k) (ng k)))
      (C := fun k => iprop(rsPt c {k} (RS I 0 c) ∗ (atP1 (F := F) 1 c k ∗ reached ER (cP1 c k) 1)
      ∗ (atS1 (F := F) 0 c k ∗ post1 (F := F) 0 c k) ∗ atS2 (F := F) 0 c k ∗ atP2 (F := F) 0 c k ∗ xgAny (F := F) (peer c k) (ng k))) fun k _ => by
    unfold postW payP1
    iintro ⟨-, ⟨H1, H2, H3, -⟩, H5, H6⟩
    iframe) $$ [Hw Hb]
  · isplitr; · iexact HC
    isplitl [Hw]; · iexact Hw
    iexact Hb
  ihave H := unzip2 $$ H
  icases H with ⟨Ha, Hb⟩
  isplitr; · iexact HC
  iframe

def X5 (I : Inp F) (c : Fin 32) (X : sProp 𝕄) : sProp 𝕄 :=
  iprop(rsPt c Finset.univ (RS I 0 c) ∗ pPt c {c} (P I 0 c) ∗ bigSep (iv 1 32) (fun k => iprop((atP1 (F := F) 1 c k ∗ reached ER (cP1 c k) 1)
      ∗ atS2 (F := F) 0 c k ∗ atP2 (F := F) 0 c k ∗ xgAny (F := F) (peer c k) (ng k)))
    ∗ Args I c ∗ XF c iprop(atPos ER (cLoc c) 1 ∅ 0 ∗ atPos ER (cBar c) 1 ∅ 0 ∗ X))
theorem to_s1_0 {X : sProp 𝕄} :
    At I c (later c 1) (rsPt c Finset.univ (RS I 0 c)) (X4 I c X)
      ⊢ St I c (later c 1) (fun k => preW c (semS1 k) 0) (fun k => postW c (semS1 k) 0 (payS1 I c k 0)) 1 1 32 (X5 I c X) := by
  unfold At St X4 X5
  rw [iv_self, bigSep_empty]
  iintro ⟨#HC, HO, Hrs, Hp0, Hb, HX⟩
  ihave H := (big_map (I := I) (B := fun k => iprop(preW c (semS1 k) 0 ∗ (atP1 (F := F) 1 c k ∗ reached ER (cP1 c k) 1)
      ∗ atS2 (F := F) 0 c k ∗ atP2 (F := F) 0 c k ∗ xgAny (F := F) (peer c k) (ng k)))
      (A := fun k => iprop((atP1 (F := F) 1 c k ∗ reached ER (cP1 c k) 1)
      ∗ (atS1 (F := F) 0 c k ∗ post1 (F := F) 0 c k) ∗ atS2 (F := F) 0 c k ∗ atP2 (F := F) 0 c k ∗ xgAny (F := F) (peer c k) (ng k))) fun k _ => by
    unfold preW post1
    iintro ⟨-, H1, H2, H3⟩
    iframe) $$ [Hb]
  · isplitr; · iexact HC
    iexact Hb
  ihave H := unzip2 $$ H
  icases H with ⟨Ha, Hb⟩
  isplitr; · iexact HC
  iframe
  iempintro

theorem layer0_end {X : sProp 𝕄} :
    St I c (later c 1) (fun k => preW c (semS1 k) 0) (fun k => postW c (semS1 k) 0 (payS1 I c k 0)) 1 32 32 (X5 I c X)
      ⊢ At I c (later c 1) iprop((∃ f, redPt (F := F) c fullShare f) ∗ xgAny (F := F) c 0)
          (XE I 0 c iprop(bigSep (iv 1 32) (fut 0 c) ∗ bigSep (iv 1 32) (fut 1 c) ∗ atPos ER (cLoc c) 1 ∅ 0 ∗ atPos ER (cBar c) 1 ∅ 0 ∗ X)) := by
  unfold At St X5 XE XF
  iintro ⟨#HC, HO, -, Hw, Hrs, Hp0, Hb, HA, H1, H2, H3, H4, H5, H6, HX⟩
  ihave H := (big_map2 (I := I) (A := fun k => postW c (semS1 k) 0 (payS1 I c k 0))
      (B := fun k => iprop((atP1 (F := F) 1 c k ∗ reached ER (cP1 c k) 1)
      ∗ atS2 (F := F) 0 c k ∗ atP2 (F := F) 0 c k ∗ xgAny (F := F) (peer c k) (ng k)))
      (C := fun k => iprop(pPt c {src 0 c k} (P I 0 c) ∗ fin 0 c k)) fun k hk => by
    unfold postW payS1 fin ex
    rw [if_neg (by decide)]
    iintro ⟨#HC, ⟨H1, H2, H3⟩, H4, H5, H6, H7⟩
    ihave Ha := (ctx_dma I c (semS2 k) (semS2_ge k)) $$ HC
    ihave Hb := (ctx_dma I (peer c k) (semP2 (ng k)) (semP2_ge _)) $$ HC
    icases Ha with ⟨-, Ha⟩
    icases Hb with ⟨-, Hb⟩
    iframe
    iframe #) $$ [Hw Hb]
  · isplitr; · iexact HC
    isplitl [Hw]; · iexact Hw
    iexact Hb
  ihave H := unzip2 $$ H
  icases H with ⟨Ha, Hb⟩
  isplitr; · iexact HC
  isplitl [HO]; · iexact HO
  isplitl [H1 H2]
  · isplitl [H1]; · iexact H1
    iexact H2
  isplitl [Hrs]; · iexact Hrs
  isplitl [Hp0 Ha]
  · iexists (P I 0 c)
    iapply (Entails.of_eq (p_src 0 c (P I 0 c)).symm)
    rw [show src 0 c 0 = c from peer_zero c]
    isplitl [Hp0]; · iexact Hp0
    iexact Ha
  iframe

/-! ## The end -/

/-- What is left when the kernel is done. -/
def XZ (I : Inp F) (c : Fin 32) : sProp 𝕄 :=
  iprop(((∃ f, redPt (F := F) c fullShare f) ∗ xgAny (F := F) c 0) ∗ rsPt c Finset.univ (RS I 2 c) ∗ (∃ f, pPt (F := F) c Finset.univ f) ∗ Args I c
    ∗ bigSep (iv 1 32) (fin 2 c) ∗ atPos ER (cLoc c) 1 ∅ 0 ∗ atPos ER (cBar c) 1 ∅ 0)
theorem to_out :
    At I c (later c 5) iprop((∃ f, redPt (F := F) c fullShare f) ∗ xgAny (F := F) c 0)
        (XE I 2 c iprop(atPos ER (cLoc c) 1 ∅ 0 ∗ atPos ER (cBar c) 1 ∅ 0 ∗ ∃ f, outPt (F := F) c f))
      ⊢ At I c (later c 5) iprop(∃ f, outPt (F := F) c f) (XZ I c) := by
  unfold At XE XZ
  iintro ⟨#HC, HO, HM, H1, H2, H3, H4, H5, H6, HX⟩
  isplitr; · iexact HC
  iframe

end Cert.KernelIdeal.AllReduce
-- ==== Proof.Deal.lean ====
module

public import proofs.«01_k».proof.Proof.Opening

/-!
# What the launch deals

The cells of every device, in the order the proof numbers them; the tokens of the payments, minted with the cells
they pay and dealt to the devices that pay them; the credit for what is owed at the start.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ

/-! ## The cells of a device -/

/-- The numbers of the four families of cells, by place. -/
def i1 : Fin 32 ↪ Fin 128 := ⟨fun k => ⟨(k.val + 127) % 128, Nat.mod_lt _ (by decide)⟩, by decide⟩
def i2 : Fin 32 ↪ Fin 128 := ⟨fun k => ⟨30 + k.val, by omega⟩, by decide⟩
def i3 : Fin 32 ↪ Fin 128 := ⟨fun k => ⟨62 + k.val, by omega⟩, by decide⟩
def i4 : Fin 32 ↪ Fin 128 := ⟨fun k => ⟨94 + k.val, by omega⟩, by decide⟩

theorem csem_i1 : ∀ k : Fin 32, k ≠ 0 → csem (i1 k) = .dma (semS1 k) := by decide
theorem csem_i2 : ∀ k : Fin 32, csem (i2 k) = .dma (semS2 k) := by decide
theorem csem_i3 : ∀ k : Fin 32, csem (i3 k) = .dma (semP1 k) := by decide
theorem csem_i4 : ∀ k : Fin 32, csem (i4 k) = .dma (semP2 k) := by decide
theorem csem_loc : csem 126 = .dma semLoc := by decide

/-- The cells no transfer uses. -/
abbrev cOff1 (c : Fin 32) : GSem nD τ sig := cP1 c 0
abbrev cOff2 (c : Fin 32) : GSem nD τ sig := cP2 c 0

theorem numbers_eq : (Finset.univ : Finset (Fin 128))
    = (iv 1 32).map i1 ∪ ((iv 1 32).map i2 ∪ (Finset.univ.map i3 ∪ (Finset.univ.map i4 ∪ ({126} ∪ {127})))) := by decide
theorem numbers_disj : Disjoint ((iv 1 32).map i1) ((iv 1 32).map i2 ∪ (Finset.univ.map i3 ∪ (Finset.univ.map i4 ∪ ({126} ∪ {127}))))
    ∧ Disjoint ((iv 1 32).map i2) (Finset.univ.map i3 ∪ (Finset.univ.map i4 ∪ ({126} ∪ {127})))
    ∧ Disjoint (Finset.univ.map i3) (Finset.univ.map i4 ∪ ({126} ∪ {127})) ∧ Disjoint (Finset.univ.map i4) ({126} ∪ {127} : Finset (Fin 128))
    ∧ Disjoint ({126} : Finset (Fin 128)) {127} := by decide

/-- A family over a device's cells, family by family. -/
def fam (A : GSem nD τ sig → sProp 𝕄) (c : Fin 32) : sProp 𝕄 :=
  iprop(bigSep (iv 1 32) (fun k => A (cS1 c k)) ∗ bigSep (iv 1 32) (fun k => A (cS2 c k)) ∗ (A (cOff1 c) ∗ bigSep (iv 1 32) (fun k => A (cP1 c k)))
    ∗ (A (cOff2 c) ∗ bigSep (iv 1 32) (fun k => A (cP2 c k))) ∗ A (cLoc c) ∗ A (cBar c))
theorem fam_eq (A : GSem nD τ sig → sProp 𝕄) (c : Fin 32) : bigSep Finset.univ (fun i => A (kcell (c, i))) = fam A c := by
  unfold fam
  rw [← big_univ (fun k => A (cP1 c k)), ← big_univ (fun k => A (cP2 c k))]
  obtain ⟨h1, h2, h3, h4, h5⟩ := numbers_disj
  rw [numbers_eq, bigSep_union h1, bigSep_union h2, bigSep_union h3, bigSep_union h4, bigSep_union h5, bigSep_map, bigSep_map, bigSep_map, bigSep_map,
    bigSep_singleton, bigSep_singleton]
  rw [bigSep_congr (s := iv 1 32) fun k hk => show A (kcell (c, i1 k)) = A (cS1 c k) by unfold kcell; rw [csem_i1 k (ne_zero_of_iv (le_refl 1) hk)],
    bigSep_congr (s := iv 1 32) fun k _ => show A (kcell (c, i2 k)) = A (cS2 c k) by unfold kcell; rw [csem_i2 k],
    bigSep_congr (s := Finset.univ) fun k _ => show A (kcell (c, i3 k)) = A (cP1 c k) by unfold kcell; rw [csem_i3 k],
    bigSep_congr (s := Finset.univ) fun k _ => show A (kcell (c, i4 k)) = A (cP2 c k) by unfold kcell; rw [csem_i4 k],
    show kcell (c, 126) = cLoc c by unfold kcell; rw [csem_loc], kcell_bar]
  rfl

theorem csem_injective : Function.Injective csem := by decide +kernel
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-! ## Tokens -/

/-- Every cell the launch sets up, -/
def allCells : Finset (GSem nD τ sig) := Finset.univ.map ⟨kcell, kcell_injective⟩
/-- and a token for each payment any of them may have in a round the kernel comes to. -/
def tokAt (x : (Fin 32 × Fin 128) × (Fin 3 × Fin 32)) : GSem nD τ sig × ℕ × Fin 32 := (kcell x.1, x.2.1.val, x.2.2)
theorem tokAt_injective : Function.Injective tokAt := by
  rintro ⟨x, r, d⟩ ⟨x', r', d'⟩ h
  have h1 : x = x' := kcell_injective (congrArg Prod.fst h)
  have h2 : r = r' := Fin.ext (congrArg (fun y : GSem nD τ sig × ℕ × Fin 32 => y.2.1) h)
  have h3 : d = d' := congrArg (fun y : GSem nD τ sig × ℕ × Fin 32 => y.2.2) h
  rw [h1, h2, h3]
def allToks : Finset (GSem nD τ sig × ℕ × Fin 32) := Finset.univ.map ⟨tokAt, tokAt_injective⟩

/-- A cell's tokens. -/
def tks (g : GSem nD τ sig) : sProp 𝕄 :=
  bigSep (Finset.univ : Finset (Fin 3 × Fin 32)) fun x => dutyTok ER g x.1.val x.2
theorem tks_three (g : GSem nD τ sig) : tks (F := F) g ⊢ iprop(dutyTok ER g 0 0 ∗ dutyTok ER g 1 0 ∗ dutyTok ER g 2 0) := by
  unfold tks
  refine (bigSep_subset (t := {((0 : Fin 3), (0 : Fin 32)), (1, 0), (2, 0)}) (Finset.subset_univ _)).trans ?_
  rw [bigSep_insert (by decide), bigSep_insert (by decide), bigSep_singleton]
  exact BI.Entails.refl _
theorem tks_two (g : GSem nD τ sig) : tks (F := F) g ⊢ iprop(dutyTok ER g 0 0 ∗ dutyTok ER g 1 0) := by
  refine (tks_three g).trans ?_
  iintro ⟨H1, H2, -⟩
  isplitl [H1] <;> iassumption
theorem tks_one (g : GSem nD τ sig) : tks (F := F) g ⊢ dutyTok ER g 0 0 := by
  refine (tks_three g).trans ?_
  iintro ⟨H, -⟩; iexact H
theorem tks_bar (g : GSem nD τ sig) : tks (F := F) g ⊢ bigSep (iv 1 32) fun k => dutyTok ER g 0 k := by
  unfold tks
  rw [bigSep_univ_prod]
  exact (bigSep_elim (Φ := fun r : Fin 3 => bigSep Finset.univ fun d : Fin 32 => (dutyTok ER g r.val d : sProp 𝕄)) (Finset.mem_univ 0)).trans
    (bigSep_subset (Finset.subset_univ _))

/-- The tokens of the payments a device makes to itself, for one place, -/
def own (c k : Fin 32) : sProp 𝕄 :=
  iprop((dutyTok ER (cS1 c k) 0 0 ∗ dutyTok ER (cS1 c k) 1 0 ∗ dutyTok ER (cS1 c k) 2 0) ∗ (dutyTok ER (cS2 c k) 0 0 ∗ dutyTok ER (cS2 c k) 1 0))
/-- and of those made to it from there. -/
def inn (x : Fin 32 × Fin 32) : sProp 𝕄 :=
  iprop(dutyTok ER (cBar x.1) 0 x.2 ∗ (dutyTok ER (cP1 x.1 x.2) 0 0 ∗ dutyTok ER (cP1 x.1 x.2) 1 0 ∗ dutyTok ER (cP1 x.1 x.2) 2 0)
    ∗ (dutyTok ER (cP2 x.1 x.2) 0 0 ∗ dutyTok ER (cP2 x.1 x.2) 1 0))
theorem toks_own (c : Fin 32) :
    fam (F := F) tks c ⊢ iprop(bigSep (iv 1 32) (fun k => inn (c, k)) ∗ bigSep (iv 1 32) (own c) ∗ dutyTok ER (cLoc c) 0 0) := by
  unfold fam inn own
  iintro ⟨H1, H2, ⟨-, H3⟩, ⟨-, H4⟩, H5, H6⟩
  ihave H1 := (big_mono (s := iv 1 32) (A := fun k => tks (cS1 c k)) fun k _ => tks_three (F := F) (cS1 c k)) $$ H1
  ihave H2 := (big_mono (s := iv 1 32) (A := fun k => tks (cS2 c k)) fun k _ => tks_two (F := F) (cS2 c k)) $$ H2
  ihave H3 := (big_mono (s := iv 1 32) (A := fun k => tks (cP1 c k)) fun k _ => tks_three (F := F) (cP1 c k)) $$ H3
  ihave H4 := (big_mono (s := iv 1 32) (A := fun k => tks (cP2 c k)) fun k _ => tks_two (F := F) (cP2 c k)) $$ H4
  ihave H5 := (tks_one (F := F) (cLoc c)) $$ H5
  ihave H6 := (tks_bar (F := F) (cBar c)) $$ H6
  isplitl [H3 H4 H6]
  · iapply zip2
    isplitl [H6]; · iexact H6
    iapply zip2
    isplitl [H3]; · iexact H3
    iexact H4
  isplitl [H1 H2]
  · iapply zip2
    isplitl [H1]; · iexact H1
    iexact H2
  iexact H5

/-- A family over devices and places but 0, each pair seen from the other device. -/
theorem around (A : Fin 32 × Fin 32 → sProp 𝕄) :
    (bigSep Finset.univ fun c : Fin 32 => bigSep (iv 1 32) fun k => A (c, k))
      = bigSep Finset.univ fun c : Fin 32 => bigSep (iv 1 32) fun k => A (peer c k, ng k) := by
  have h : ∀ B : Fin 32 × Fin 32 → sProp 𝕄, (bigSep Finset.univ fun c : Fin 32 => bigSep (iv 1 32) fun k => B (c, k))
      = bigSep Finset.univ fun x : Fin 32 × Fin 32 => if x.2 = 0 then iprop(emp) else B x := fun B => by
    rw [bigSep_univ_prod]
    refine bigSep_congr fun c _ => ?_
    rw [big_univ, if_pos rfl, bigSep_congr (s := iv 1 32) fun k hk => if_neg (ne_zero_of_iv (le_refl 1) hk)]
    exact (equiv_iff.mp emp_sep).symm
  rw [h, bigSep_univ_equiv flip, h fun x => A (peer x.1 x.2, ng x.2)]
  refine bigSep_congr fun x _ => ?_
  show (if ng x.2 = 0 then _ else _) = _
  by_cases h0 : x.2 = 0
  · rw [if_pos h0, h0, ng_zero, if_pos rfl]
  · rw [if_neg h0, if_neg (ng_ne h0)]; rfl

/-- What a device has for a place from the launch, but credit. -/
def gk (c k : Fin 32) : sProp 𝕄 :=
  iprop(dutyTok ER (cBar (peer c k)) 0 (ng k) ∗ (tok1 (F := F) 0 c k ∗ tok1 (F := F) 1 c k ∗ tok1 (F := F) 2 c k) ∗ (tok2 (F := F) 0 c k ∗ tok2 (F := F) 1 c k)
    ∗ atS1 (F := F) 0 c k ∗ atS2 (F := F) 0 c k ∗ atP1 (F := F) 0 c k ∗ atP2 (F := F) 0 c k)
/-- What it has beside what every device knows. -/
def Gh (c : Fin 32) : sProp 𝕄 :=
  iprop(bigSep (iv 1 32) (gk c) ∗ loc0 c ∗ atPos ER (cBar c) 0 ∅ 0 ∗ atPos ER (cOff1 c) 0 ∅ 0 ∗ atPos ER (cOff2 c) 0 ∅ 0)

theorem gh_intro (c : Fin 32) :
    iprop(fam (F := F) (fun g => atPos ER g 0 ∅ 0) c ∗ bigSep (iv 1 32) (fun k => inn (peer c k, ng k)) ∗ bigSep (iv 1 32) (own c) ∗ dutyTok ER (cLoc c) 0 0) ⊢ Gh c := by
  unfold fam Gh loc0
  iintro ⟨⟨H1, H2, ⟨H3, H4⟩, ⟨H5, H6⟩, H7, H8⟩, Hi, Ho, Hl⟩
  isplitl [H1 H2 H4 H6 Hi Ho]
  · ihave H := zip2 $$ [Hi Ho]
    · isplitl [Hi] <;> iassumption
    ihave H46 := zip2 $$ [H4 H6]
    · isplitl [H4]; · iexact H4
      iexact H6
    ihave H2 := zip2 $$ [H2 H46]
    · isplitl [H2]; · iexact H2
      iexact H46
    ihave H1 := zip2 $$ [H1 H2]
    · isplitl [H1]; · iexact H1
      iexact H2
    ihave H := zip2 $$ [H H1]
    · isplitl [H]; · iexact H
      iexact H1
    iapply (big_mono (s := iv 1 32) (A := fun k => iprop((inn (peer c k, ng k) ∗ own c k) ∗ atPos ER (cS1 c k) 0 ∅ 0 ∗ atPos ER (cS2 c k) 0 ∅ 0
      ∗ atPos ER (cP1 c k) 0 ∅ 0 ∗ atPos ER (cP2 c k) 0 ∅ 0)) (B := gk c) fun k _ => by
        unfold inn own gk
        iintro ⟨⟨⟨A1, ⟨A2, A3, A4⟩, A5, A6⟩, ⟨B2, B3, B4⟩, B5, B6⟩, C1, C2, C3, C4⟩
        isplitl [A1]; · iexact A1
        isplitl [A2 A3 A4 B2 B3 B4]
        · isplitl [B2 A2]; · isplitl [B2] <;> iassumption
          isplitl [B3 A3]; · isplitl [B3] <;> iassumption
          isplitl [B4] <;> iassumption
        isplitl [A5 A6 B5 B6]
        · isplitl [B5 A5]; · isplitl [B5] <;> iassumption
          isplitl [B6] <;> iassumption
        iframe)
    iexact H
  isplitl [Hl H7]
  · isplitl [Hl] <;> iassumption
  isplitl [H8]; · iexact H8
  isplitl [H3]; · iexact H3
  iexact H5

/-! ## From the launch's element -/

/-- What the launch deals a device: its cells' states, its positions, the tokens of its cells. -/
def G (I : Inp F) (c : Fin 32) : sProp 𝕄 :=
  iprop((bigSep Finset.univ fun i => roundState ER (Sc I) (kcell (c, i)) 0)
    ∗ (bigSep Finset.univ fun i => reached ER (kcell (c, i)) 0) ∗ fam (fun g => atPos ER g 0 ∅ 0) c ∗ fam tks c)
/-- What it has once the cells' invariants are there. -/
def G' (I : Inp F) (c : Fin 32) : sProp 𝕄 := iprop(Rec I ∗ Gh c)

theorem fund_all (I : Inp F) : BI.own (ER (initOf allCells allToks)) ⊢ (|==> bigSep Finset.univ (G I) : sProp 𝕄) := by
  have hX (Φ : GSem nD τ sig → sProp 𝕄) : bigSep allCells Φ = bigSep Finset.univ fun c : Fin 32 => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Fin 32 => fam tks c := by
    unfold allToks; rw [bigSep_map, bigSep_univ_prod, bigSep_univ_prod]
    exact bigSep_congr fun c _ => fam_eq tks c
  iintro HX
  imod (Rounds.fund ER (Sc I) allCells allToks) $$ HX with ⟨Hst, Hr, Hat, Htok⟩
  imodintro
  ihave Hst' := (Entails.of_eq (hX fun g => roundState ER (Sc I) g 0)) $$ Hst
  ihave Hat' := (Entails.of_eq ((hX fun g => atPos ER g 0 ∅ 0).trans (bigSep_congr fun c _ => fam_eq (fun g => atPos ER g 0 ∅ 0) c))) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- The kernel's own semaphores: all but the handshake's. -/
abbrev osem (i : Fin 127) : SemLoc sig := .dma ⟨8 + i.val, by show _ < 135; omega⟩
theorem ownSemFacts : Pipeline.OwnSemFacts cfg0.spec osem := by decide +kernel

theorem numbers_last : (Finset.univ : Finset (Fin 128)) = insert 127 (Finset.univ.map (Fin.castSuccEmb (n := 127))) := by decide
theorem csem_cast : ∀ i : Fin 127, csem (Fin.castSuccEmb i) = osem i := by decide
theorem sems_eq (c : Fin 32) :
    (bigSep Finset.univ fun i => (semVal (kcell (c, i)) 0 : sProp 𝕄))
      = iprop(unscopedSems0 (c : Dev nD) ∗ Pipeline.ownSems0 (Ix := ℕ) (Name := ℕ) (U := UU) (Lvl := ℕ) (Val := Elt F) (τ := τ) osem (c : Dev nD)) := by
  rw [numbers_last, bigSep_insert (by decide), bigSep_map, kcell_bar]
  unfold unscopedSems0 Pipeline.ownSems0
  rw [bigSep_eq_bigSepL_of_eq [SemLoc.reg semBar] (by decide) (by decide),
    bigSep_congr (s := Finset.univ) fun i _ => show (semVal (kcell (c, Fin.castSuccEmb i)) 0 : sProp 𝕄) = semVal ((Dev.tc c : Thread nD τ), osem i) 0 by
      unfold kcell; rw [csem_cast]]
  rfl

theorem core_alloc (I : Inp F) (c : Fin 32) :
    iprop(Pipeline.ownSems0 (Ix := ℕ) (Name := ℕ) (U := UU) (Lvl := ℕ) (Val := Elt F) (τ := τ) osem (c : Dev nD) ∗ unscopedSems0 (c : Dev nD) ∗ G I c)
      ⊢ |={Set.univ}=> iprop((bigSep Finset.univ fun i => iprop(Inv I (kcell (c, i)) ∗ reached ER (kcell (c, i)) 0))
          ∗ fam (fun g => atPos ER g 0 ∅ 0) c ∗ fam tks c) := by
  unfold G
  iintro ⟨Hos, Hus, Hst, Hr, Hat, Htok⟩
  ihave Hv := (Entails.of_eq (sems_eq (F := F) c).symm) $$ [Hos Hus]
  · isplitl [Hus] <;> iassumption
  imod (show iprop((bigSep Finset.univ fun i : Fin 128 => semVal (kcell (c, i)) 0) ∗ bigSep Finset.univ fun i : Fin 128 => roundState ER (Sc I) (kcell (c, i)) 0)
      ⊢ (|={Set.univ}=> bigSep Finset.univ fun i => Inv I (kcell (c, i)) : sProp 𝕄) from by
        rw [← bigSep_sep']
        exact (bigSep_mono fun i _ => (Rounds.body_intro ER (Sc I) (kcell (c, i))).trans inv_alloc).trans (bigSep_fupd _ _)) $$ [Hv Hst] with Hinv
  · isplitl [Hv] <;> iassumption
  imodintro
  rw [bigSep_sep']
  isplitl [Hinv Hr]
  · isplitl [Hinv] <;> iassumption
  isplitl [Hat]; · iexact Hat
  iexact Htok

theorem regroup (I : Inp F) :
    (bigSep Finset.univ fun c : Fin 32 => iprop((bigSep Finset.univ fun i => iprop(Inv I (kcell (c, i)) ∗ reached ER (kcell (c, i)) 0))
          ∗ fam (fun g => atPos ER g 0 ∅ 0) c ∗ fam tks c) : sProp 𝕄)
      ⊢ bigSep Finset.univ (G' I) := by
  rw [bigSep_sep', bigSep_sep', ← bigSep_univ_prod (fun ck : Fin 32 × Fin 128 => iprop(Inv I (kcell ck) ∗ reached ER (kcell ck) 0))]
  iintro ⟨#HR, Hat, Htok⟩
  ihave Htok := (big_mono (s := Finset.univ) (A := fam tks) fun c _ => toks_own (F := F) c) $$ Htok
  ihave Htok := (Entails.of_eq (bigSep_sep' Finset.univ (fun c : Fin 32 => bigSep (iv 1 32) (fun k => inn (F := F) (c, k)))
    (fun c => iprop(bigSep (iv 1 32) (own c) ∗ dutyTok ER (cLoc c) 0 0)))) $$ Htok
  icases Htok with ⟨Hi, Ho⟩
  ihave Hi := (Entails.of_eq (around (F := F) inn)) $$ Hi
  ihave H := zip2 $$ [Hi Ho]
  · isplitl [Hi] <;> iassumption
  ihave H := zip2 $$ [Hat H]
  · isplitl [Hat]; · iexact Hat
    iexact H
  ihave H := (big_mono (s := Finset.univ) fun c _ => gh_intro (F := F) c) $$ H
  unfold G'
  iapply (bigSep_with_persistent (R := Rec I) (Φ := Gh) fun c _ => BI.Entails.refl _)
  isplitr
  · unfold Rec; iexact HR
  iexact H

/-- The invariants are allocated for every device at once, and the tokens dealt. -/
theorem glob (I : Inp F) : (bigSep Finset.univ fun c => iprop(Pipeline.ownSems0 (Ix := ℕ) (Name := ℕ) (U := UU) (Lvl := ℕ) (Val := Elt F) (τ := τ) osem (c : Dev nD) ∗ unscopedSems0 (c : Dev nD) ∗ G I c) : sProp 𝕄)
    ⊢ |={Set.univ}=> bigSep Finset.univ (G' I) :=
  ((bigSep_mono fun c _ => core_alloc I c).trans (bigSep_fupd _ _)).trans (BI.fupd_mono (regroup I))

end Cert.KernelIdeal.AllReduce
-- ==== Proof.Credit.lean ====
module

public import proofs.«01_k».proof.Proof.Deal

/-!
# The credit at the start

What is owed to a cell at the start, over all devices, is the credit its device has for it.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ

/-- The cells of the family `s`, seen from the device `k` places before each. -/
abbrev toS (s : Fin 32 → SemLoc sig) (d : Fin 32) : Fin 32 → GSem nD τ sig := fun k => (th (peer d k), s (ng k))

theorem th_inj {c d : Fin 32} (h : th c = th d) : c = d := congrArg (fun t : Thread nD τ => t.1) h

/-- What all devices owe a cell of device `c`. -/
theorem owed_sum (s : Fin 32 → SemLoc sig) (r n : ℕ) (c : Fin 32) (sm : SemLoc sig) (i : ℕ) :
    ∑ d : Fin 32, due (toS s d) r n (iv 1 32) (th c, sm) i = ∑ k ∈ iv 1 32, if s (ng k) = sm ∧ i = r then n else 0 := by
  have h : ∀ d : Fin 32, due (toS s d) r n (iv 1 32) (th c, sm) i
      = ∑ k ∈ iv 1 32, if d = peer c (ng k) then (if s (ng k) = sm ∧ i = r then n else 0) else 0 := fun d => by
    unfold due
    rw [Finset.sum_apply, Finsupp.finsetSum_apply]
    refine Finset.sum_congr rfl fun k _ => ?_
    rw [tallyAt_apply]
    by_cases hd : d = peer c (ng k)
    · subst hd
      rw [if_pos rfl]
      refine if_congr ?_ rfl rfl
      rw [toS, peer_ng']
      exact ⟨fun h => ⟨(congrArg Prod.snd h.1).symm, h.2⟩, fun h => ⟨by rw [h.1], h.2⟩⟩
    · rw [if_neg hd, if_neg]
      rintro ⟨h, -⟩
      exact hd (by rw [th_inj (congrArg Prod.fst h), peer_ng])
  rw [Finset.sum_congr rfl fun d _ => h d, Finset.sum_comm]
  refine Finset.sum_congr rfl fun k _ => ?_
  rw [Finset.sum_ite_eq' Finset.univ (peer c (ng k)), if_pos (Finset.mem_univ _)]

/-- The credit of a family of cells, one for each place. -/
theorem cred_fam (s : Fin 32 → SemLoc sig) (hs : Function.Injective s) (r : ℕ) (c : Fin 32) :
    (Pipeline.launchCred (fun d : Dev nD => due (toS s d) r N (iv 1 32)) (c : Dev nD) : sProp 𝕄)
      ⊢ bigSep (iv 1 32) fun k => cred (tallyAt (th c, s k) r N) := by
  unfold Pipeline.launchCred
  refine (bigSep_subset (t := (iv 1 32).map ⟨s, hs⟩) (Finset.subset_univ _)).trans ?_
  rw [bigSep_map]
  refine big_mono fun k hk => Entails.of_eq ?_
  show cred (tallyOn (th c, s k) (launchCredit _ 0 (th c, s k))) = _
  congr 1
  unfold tallyAt
  congr 1
  ext i
  rw [Pipeline.launchCredit_owing, owed_sum s r N c (s k) i, Finset.sum_eq_single (ng k)]
  · rw [ng_ng, Finsupp.single_apply]
    exact if_congr ⟨fun h => h.2.symm, fun h => ⟨rfl, h.symm⟩⟩ rfl rfl
  · intro b _ hb
    rw [if_neg]
    rintro ⟨h, -⟩
    exact hb (by rw [← hs h, ng_ng])
  · intro h
    exact absurd (by rw [iv_ne] at hk ⊢; exact Finset.mem_filter.mpr ⟨Finset.mem_univ _, ng_ne (Finset.mem_filter.mp hk).2⟩) h

/-- The handshake's credit: a unit from each other device. -/
theorem cred_bar (c : Fin 32) :
    (Pipeline.launchCred (fun d : Dev nD => due (toBar d) 0 1 (iv 1 32)) (c : Dev nD) : sProp 𝕄) ⊢ cred (tallyAt (cBar c) 0 31) := by
  unfold Pipeline.launchCred
  refine BI.Entails.trans (bigSep_elim (Finset.mem_univ (SemLoc.reg semBar))) ?_
  show cred (tallyOn (cBar c) (launchCredit _ 0 (cBar c))) ⊢ _
  refine Entails.of_eq ?_
  congr 1
  unfold tallyAt
  congr 1
  ext i
  rw [Pipeline.launchCredit_owing, owed_sum (fun _ => .reg semBar) 0 1 c (.reg semBar) i, Finsupp.single_apply]
  by_cases h : i = 0
  · subst h
    rw [if_pos rfl, Finset.sum_congr rfl fun k _ => if_pos ⟨rfl, rfl⟩, Finset.sum_const, smul_eq_mul]
    decide
  · rw [if_neg (c := 0 = i) (fun e => h e.symm)]
    exact Finset.sum_eq_zero fun k _ => if_neg fun e => h e.2

theorem semP1_inj : Function.Injective fun k : Fin 32 => (SemLoc.dma (semP1 k) : SemLoc sig) := by decide
theorem semP2_inj : Function.Injective fun k : Fin 32 => (SemLoc.dma (semP2 k) : SemLoc sig) := by decide

/-- The credit a device has for each place. -/
def ck (c k : Fin 32) : sProp 𝕄 :=
  iprop(cred (tallyAt (cP1 c k) 0 N) ∗ cred (tallyAt (cP2 c k) 0 N) ∗ cred (tallyAt (cP1 c k) 1 N) ∗ cred (tallyAt (cP2 c k) 1 N) ∗ cred (tallyAt (cP1 c k) 2 N))

theorem creds (c : Fin 32) :
    (Pipeline.launchCred (fun d : Dev nD => O₀ d) (c : Dev nD) : sProp 𝕄) ⊢ iprop(cred (tallyAt (cBar c) 0 31) ∗ bigSep (iv 1 32) (ck c)) := by
  show (Pipeline.launchCred (fun d : Dev nD => due (toBar d) 0 1 (iv 1 32) + (due (toP1 d) 0 N (iv 1 32) + (due (toP2 d) 0 N (iv 1 32)
    + (due (toP1 d) 1 N (iv 1 32) + (due (toP2 d) 1 N (iv 1 32) + (due (toP1 d) 2 N (iv 1 32) + 0)))))) (c : Dev nD) : sProp 𝕄) ⊢ _
  rw [Pipeline.launchCred_add, Pipeline.launchCred_add, Pipeline.launchCred_add, Pipeline.launchCred_add, Pipeline.launchCred_add, Pipeline.launchCred_add]
  iintro ⟨H0, H1, H2, H3, H4, H5, -⟩
  ihave H0 := (cred_bar (F := F) c) $$ H0
  ihave H1 := (cred_fam (F := F) (fun k => .dma (semP1 k)) semP1_inj 0 c) $$ H1
  ihave H2 := (cred_fam (F := F) (fun k => .dma (semP2 k)) semP2_inj 0 c) $$ H2
  ihave H3 := (cred_fam (F := F) (fun k => .dma (semP1 k)) semP1_inj 1 c) $$ H3
  ihave H4 := (cred_fam (F := F) (fun k => .dma (semP2 k)) semP2_inj 1 c) $$ H4
  ihave H5 := (cred_fam (F := F) (fun k => .dma (semP1 k)) semP1_inj 2 c) $$ H5
  isplitl [H0]; · iexact H0
  unfold ck
  iapply zip2
  isplitl [H1]; · iexact H1
  iapply zip2
  isplitl [H2]; · iexact H2
  iapply zip2
  isplitl [H3]; · iexact H3
  iapply zip2
  isplitl [H4]; · iexact H4
  iexact H5

end Cert.KernelIdeal.AllReduce
-- ==== Proof.First.lean ====
module

public import proofs.«01_k».proof.Proof.Opening
public import Idealize.ShloMosaic.Lib.Pipeline.Value

/-!
# The kernel's first quarter

The handshake and the first layer, to the middle of sending its sum.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

theorem W_ret {α : Type} (v : α) (Q : α → sProp 𝕄) : Q v ⊢ W c (.ret v) Q := by
  rw [W, wp_ret]
  iintro H
  imodintro
  iexact H
/-- Where a device's partial product for the place `k` lies. -/
theorem off1_eq : ∀ c k : Fin 32, k ≠ 0 → k0_off1 c (BitVec.ofNat 32 k.val) = ![(peer c k).val, 0, 0] := by decide +kernel

set_option maxRecDepth 100000 in
set_option maxHeartbeats 4000000 in
theorem part193 {X : sProp 𝕄} {Q : _ → sProp 𝕄} (h : ∀ v : (Σ' (d0 : Dev nD), _), v.1 = c →
      St I c (due (toP2 c) 0 N (iv 17 32) + later c 2) (pre2 I 0 c) (post2 0 c) 1 17 32
        (XL I 0 c iprop(bigSep (iv 1 32) (fut 1 c) ∗ atPos ER (cLoc c) 1 ∅ 0 ∗ atPos ER (cBar c) 1 ∅ 0 ∗ X)) ⊢ Q v) :
    St I c (due (toBar c) 0 1 (iv 1 32) + later c 0) (preSig c) (fun _ => iprop(emp)) 1 1 32 iprop(bar0 c ∗ XS I c X)
      ⊢ W c (k0_part193_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q := by
  unfold k0_part193_skel
  show _ ⊢ W c (Prog.op .deviceId _) Q
  rw [W, wp_deviceId]
  iterate 31 refine step_signal _ (by decide) rfl ?_
  refine to_wait.trans ?_
  refine step_bar ?_
  refine to_mlp.trans ?_
  refine step_x ?_
  refine step_w0 ?_
  refine step_wo0 ?_
  refine step_ldp_whole fun _ => ?_
  refine step_stp_whole rfl ?_
  refine to_send1.trans ?_
  iterate 31 refine step_send1 0 (by decide) (by decide) rfl (slotM_of_off pM _ _ (off1_eq c _ (by decide)) _) rfl rfl rfl ?_
  refine to_copy.trans ?_
  refine step_copy (slotM_of_off pM _ _ (k0_off2_eq c) _) rfl ?_
  refine step_loc (by rfl) (by rfl) ?_
  refine to_p1_0.trans ?_
  iterate 31 refine step_p1 0 (by decide) rfl rfl (by decide) (above_later c (by decide)) ?_
  refine to_sum_0.trans ?_
  refine step_ldrs ?_
  refine to_s1_0.trans ?_
  iterate 31 refine step_s1 0 (by decide) rfl rfl (by decide) (above_later c (by decide)) ?_
  refine layer0_end.trans ?_
  refine step_ldred_any fun _ => ?_
  refine step_stred rfl ?_
  refine step_ldred ?_
  refine step_ldxg0 fun _ => ?_
  refine step_stxg0 rfl ?_
  refine (to_send2 (l := 0) (by decide)).trans ?_
  iterate 16 refine step_send2 0 (by decide) (by decide) rfl rfl rfl rfl ?_
  refine .trans ?_ (W_ret _ _)
  exact h _ rfl

end Cert.KernelIdeal.AllReduce
-- ==== Proof.Second.lean ====
module

public import proofs.«01_k».proof.Proof.First
public import Idealize.ShloMosaic.Lib.Pipeline.Value

/-!
# The kernel's second quarter

The second layer, to the middle of the waits after it.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

set_option maxRecDepth 100000 in
set_option maxHeartbeats 4000000 in
theorem part194 {X : sProp 𝕄} {Q : _ → sProp 𝕄} (v2 v1537 v1556 v1575 v1594 v1613 v1632 v1651 v1670 v1689 v1708 v1727 v1746 v1765 v1784 v1803 v1822 v1841 : BitVec 32)
    (h : St I c (later c 3) (fun k => preW c (semS1 k) 1) (fun k => postW c (semS1 k) 1 (payS1 I c k 1)) 1 26 32 (XR5 I 0 c X) ⊢ Q (k0_pay15 (RS I 1 c))) :
    St I c (due (toP2 c) 0 N (iv 17 32) + later c 2) (pre2 I 0 c) (post2 0 c) 1 17 32 (XL I 0 c X)
      ⊢ W c (k0_part194_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1537 v1556 v1575 v1594 v1613 v1632 v1651 v1670 v1689 v1708 v1727 v1746 v1765 v1784 v1803 v1822 v1841) Q := by
  unfold k0_part194_skel
  iterate 15 refine step_send2 0 (by decide) (by decide) rfl rfl rfl rfl ?_
  refine (to_groups (r := 0) (by decide)).trans ?_
  refine (show GE I 0 c 1 _ _ ⊢ St I c (O1 c 0 1) _ _ 1 1 8 _ from group_wait 0).trans ?_
  iterate 7 refine step_p2 0 (by decide) rfl rfl (by decide) (above_O1 c (by decide) (by decide) (by decide)) ?_
  refine (group_load 0).trans ?_
  refine step_ldxg 0 ?_
  refine step_w1 ?_
  refine step_wo1 ?_
  refine step_ldp 0 fun _ => ?_
  refine step_stp 0 0 rfl ?_
  refine (show _ ⊢ St I c (O1 c 0 1) (pre1 I 1 c) (post1 1 c) 1 1 8 _ from group_send 0 (by decide)).trans ?_
  iterate 7 refine step_send1 1 (by decide) (by decide) rfl rfl rfl rfl rfl ?_
  refine (show _ ⊢ GE I 0 c 8 _ _ from group_end 0).trans ?_
  refine (show GE I 0 c 8 _ _ ⊢ St I c (O1 c 0 8) _ _ 8 8 16 _ from group_wait 1).trans ?_
  iterate 8 refine step_p2 0 (by decide) rfl rfl (by decide) (above_O1 c (by decide) (by decide) (by decide)) ?_
  refine (group_load 1).trans ?_
  refine step_ldxg 1 ?_
  refine step_w1 ?_
  refine step_wo1 ?_
  refine step_ldp 1 fun _ => ?_
  refine step_stp 0 1 rfl ?_
  refine (show _ ⊢ St I c (O1 c 0 8) (pre1 I 1 c) (post1 1 c) 8 8 16 _ from group_send 1 (by decide)).trans ?_
  iterate 8 refine step_send1 1 (by decide) (by decide) rfl rfl rfl rfl rfl ?_
  refine (show _ ⊢ GE I 0 c 16 _ _ from group_end 1).trans ?_
  refine (show GE I 0 c 16 _ _ ⊢ St I c (O1 c 0 16) _ _ 16 16 24 _ from group_wait 2).trans ?_
  iterate 8 refine step_p2 0 (by decide) rfl rfl (by decide) (above_O1 c (by decide) (by decide) (by decide)) ?_
  refine (group_load 2).trans ?_
  refine step_ldxg 2 ?_
  refine step_w1 ?_
  refine step_wo1 ?_
  refine step_ldp 2 fun _ => ?_
  refine step_stp 0 2 rfl ?_
  refine (show _ ⊢ St I c (O1 c 0 16) (pre1 I 1 c) (post1 1 c) 16 16 24 _ from group_send 2 (by decide)).trans ?_
  iterate 8 refine step_send1 1 (by decide) (by decide) rfl rfl rfl rfl rfl ?_
  refine (show _ ⊢ GE I 0 c 24 _ _ from group_end 2).trans ?_
  refine (show GE I 0 c 24 _ _ ⊢ St I c (O1 c 0 24) _ _ 24 24 32 _ from group_wait 3).trans ?_
  iterate 8 refine step_p2 0 (by decide) rfl rfl (by decide) (above_O1 c (by decide) (by decide) (by decide)) ?_
  refine (group_load 3).trans ?_
  refine step_ldxg 3 ?_
  refine step_w1 ?_
  refine step_wo1 ?_
  refine step_ldp 3 fun _ => ?_
  refine step_stp 0 3 rfl ?_
  refine (show _ ⊢ St I c (O1 c 0 24) (pre1 I 1 c) (post1 1 c) 24 24 32 _ from group_send 3 (by decide)).trans ?_
  iterate 8 refine step_send1 1 (by decide) (by decide) rfl rfl rfl rfl rfl ?_
  refine (show _ ⊢ GE I 0 c 32 _ _ from group_end 3).trans ?_
  refine groups_done.trans ?_
  refine step_ldp0 ?_
  refine step_ldrs0 fun _ => ?_
  refine step_strs0 rfl ?_
  refine to_s2.trans ?_
  iterate 31 refine step_s2 0 (by decide) rfl rfl (by decide) (above_later c (by decide)) ?_
  refine to_p1.trans ?_
  iterate 31 refine step_p1 1 (by decide) rfl rfl (by decide) (above_later c (by decide)) ?_
  refine to_sum.trans ?_
  refine step_ldrs ?_
  refine to_s1.trans ?_
  iterate 25 refine step_s1 1 (by decide) rfl rfl (by decide) (above_later c (by decide)) ?_
  refine .trans ?_ (W_ret _ _)
  exact h

end Cert.KernelIdeal.AllReduce
-- ==== Proof.Third.lean ====
module

public import proofs.«01_k».proof.Proof.First
public import Idealize.ShloMosaic.Lib.Pipeline.Value

/-!
# The kernel's third quarter

The third layer, to the middle of the waits after it.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

set_option maxRecDepth 100000 in
set_option maxHeartbeats 4000000 in
theorem part195 {X : sProp 𝕄} {Q : _ → sProp 𝕄} (v2 : BitVec 32)
    (h : ∀ v, St I c (later c 5) (fun k => preW c (semP1 (ng k)) 2) (fun k => postW c (semP1 (ng k)) 2 (payP1 I c (ng k) 2)) 1 18 32 (XR3 I 1 c X) ⊢ Q v) :
    St I c (later c 3) (fun k => preW c (semS1 k) 1) (fun k => postW c (semS1 k) 1 (payS1 I c k 1)) 1 26 32 (XR5 I 0 c iprop(bigSep (iv 1 32) (fut 1 c) ∗ X))
      ⊢ W c (k0_part195_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (k0_pay15 (RS I 1 c))) Q := by
  unfold k0_part195_skel
  iterate 6 refine step_s1 1 (by decide) rfl rfl (by decide) (above_later c (by decide)) ?_
  refine (layer_end (r := 0) (by decide)).trans ?_
  refine step_ldred_any fun _ => ?_
  refine step_stred rfl ?_
  refine step_ldred ?_
  refine step_ldxg0 fun _ => ?_
  refine step_stxg0 rfl ?_
  refine (to_send2 (l := 1) (by decide)).trans ?_
  iterate 31 refine step_send2 1 (by decide) (by decide) rfl rfl rfl rfl ?_
  refine (to_groups (r := 1) (by decide)).trans ?_
  refine (show GE I 1 c 1 _ _ ⊢ St I c (O1 c 1 1) _ _ 1 1 8 _ from group_wait 0).trans ?_
  iterate 7 refine step_p2 1 (by decide) rfl rfl (by decide) (above_O1 c (by decide) (by decide) (by decide)) ?_
  refine (group_load 0).trans ?_
  refine step_ldxg 0 ?_
  refine step_w2 ?_
  refine step_wo2 ?_
  refine step_ldp 0 fun _ => ?_
  refine step_stp 1 0 rfl ?_
  refine (show _ ⊢ St I c (O1 c 1 1) (pre1 I 2 c) (post1 2 c) 1 1 8 _ from group_send 0 (by decide)).trans ?_
  iterate 7 refine step_send1 2 (by decide) (by decide) rfl rfl rfl rfl rfl ?_
  refine (show _ ⊢ GE I 1 c 8 _ _ from group_end 0).trans ?_
  refine (show GE I 1 c 8 _ _ ⊢ St I c (O1 c 1 8) _ _ 8 8 16 _ from group_wait 1).trans ?_
  iterate 8 refine step_p2 1 (by decide) rfl rfl (by decide) (above_O1 c (by decide) (by decide) (by decide)) ?_
  refine (group_load 1).trans ?_
  refine step_ldxg 1 ?_
  refine step_w2 ?_
  refine step_wo2 ?_
  refine step_ldp 1 fun _ => ?_
  refine step_stp 1 1 rfl ?_
  refine (show _ ⊢ St I c (O1 c 1 8) (pre1 I 2 c) (post1 2 c) 8 8 16 _ from group_send 1 (by decide)).trans ?_
  iterate 8 refine step_send1 2 (by decide) (by decide) rfl rfl rfl rfl rfl ?_
  refine (show _ ⊢ GE I 1 c 16 _ _ from group_end 1).trans ?_
  refine (show GE I 1 c 16 _ _ ⊢ St I c (O1 c 1 16) _ _ 16 16 24 _ from group_wait 2).trans ?_
  iterate 8 refine step_p2 1 (by decide) rfl rfl (by decide) (above_O1 c (by decide) (by decide) (by decide)) ?_
  refine (group_load 2).trans ?_
  refine step_ldxg 2 ?_
  refine step_w2 ?_
  refine step_wo2 ?_
  refine step_ldp 2 fun _ => ?_
  refine step_stp 1 2 rfl ?_
  refine (show _ ⊢ St I c (O1 c 1 16) (pre1 I 2 c) (post1 2 c) 16 16 24 _ from group_send 2 (by decide)).trans ?_
  iterate 8 refine step_send1 2 (by decide) (by decide) rfl rfl rfl rfl rfl ?_
  refine (show _ ⊢ GE I 1 c 24 _ _ from group_end 2).trans ?_
  refine (show GE I 1 c 24 _ _ ⊢ St I c (O1 c 1 24) _ _ 24 24 32 _ from group_wait 3).trans ?_
  iterate 8 refine step_p2 1 (by decide) rfl rfl (by decide) (above_O1 c (by decide) (by decide) (by decide)) ?_
  refine (group_load 3).trans ?_
  refine step_ldxg 3 ?_
  refine step_w2 ?_
  refine step_wo2 ?_
  refine step_ldp 3 fun _ => ?_
  refine step_stp 1 3 rfl ?_
  refine (show _ ⊢ St I c (O1 c 1 24) (pre1 I 2 c) (post1 2 c) 24 24 32 _ from group_send 3 (by decide)).trans ?_
  iterate 8 refine step_send1 2 (by decide) (by decide) rfl rfl rfl rfl rfl ?_
  refine (show _ ⊢ GE I 1 c 32 _ _ from group_end 3).trans ?_
  refine groups_done.trans ?_
  refine step_ldp0 ?_
  refine step_ldrs0 fun _ => ?_
  refine step_strs0 rfl ?_
  refine to_s2.trans ?_
  iterate 31 refine step_s2 1 (by decide) rfl rfl (by decide) (above_later c (by decide)) ?_
  refine to_p1.trans ?_
  iterate 17 refine step_p1 2 (by decide) rfl rfl (by decide) (above_later c (by decide)) ?_
  refine .trans ?_ (W_ret _ _)
  exact h _

end Cert.KernelIdeal.AllReduce
-- ==== Proof.Fourth.lean ====
module

public import proofs.«01_k».proof.Proof.First
public import Idealize.ShloMosaic.Lib.Pipeline.Value

/-!
# The kernel's last quarter

The last waits, the last sum, and the result.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

set_option maxRecDepth 100000 in
set_option maxHeartbeats 4000000 in
theorem part196 {X : sProp 𝕄} {Q : _ → sProp 𝕄} (v4733 v4754 v4775 v4796 v4817 v4838 v4923 v4944 v4965 v4986 v5007 v5028 v5049 v5070 : BitVec 32)
    (h : St I c (later c 5) (fun k => preW c (semS1 k) 2) (fun k => postW c (semS1 k) 2 (payS1 I c k 2)) 1 31 32 (XR5 I 1 c X) ⊢ Q (k0_pay24 (RS I 2 c))) :
    St I c (later c 5) (fun k => preW c (semP1 (ng k)) 2) (fun k => postW c (semP1 (ng k)) 2 (payP1 I c (ng k) 2)) 1 18 32 (XR3 I 1 c X)
      ⊢ W c (k0_part196_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v4733 v4754 v4775 v4796 v4817 v4838 v4923 v4944 v4965 v4986 v5007 v5028 v5049 v5070) Q := by
  unfold k0_part196_skel
  iterate 14 refine step_p1 2 (by decide) rfl rfl (by decide) (above_later c (by decide)) ?_
  refine (to_sum (r := 1)).trans ?_
  refine step_ldrs ?_
  refine (to_s1 (r := 1)).trans ?_
  iterate 30 refine step_s1 2 (by decide) rfl rfl (by decide) (above_later c (by decide)) ?_
  refine .trans ?_ (W_ret _ _)
  exact h

end Cert.KernelIdeal.AllReduce
-- ==== Proof.Body.lean ====
module

public import proofs.«01_k».proof.Proof.Second
public import proofs.«01_k».proof.Proof.Third
public import proofs.«01_k».proof.Proof.Fourth
public import Idealize.ShloMosaic.Lib.Pipeline.Value

/-!
# The kernel on one device

Its four quarters one after the other, and the store of the result.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable {I : Inp F} {c : Fin 32}

set_option maxRecDepth 100000 in
set_option maxHeartbeats 4000000 in
/-- The kernel run on device `c`, from what it has at the start to its result and what is left. -/
theorem body_wp :
    St I c (O₀ c) (preSig c) (fun _ => iprop(emp)) 1 1 32 iprop(bar0 c ∗ XS I c iprop(∃ f, outPt (F := F) c f))
      ⊢ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => At I c 0 (outPt c (OUT I c)) (XZ I c)) := by
  rw [cc0_body_eq_skeleton]
  unfold cc0_body_skel
  show _ ⊢ W c (_ >>= _) _
  rw [W, wp_bind, k0_part193_eq_skeleton]
  refine part193 fun v hv => ?_
  obtain ⟨d0, v2, v1537, v1556, v1575, v1594, v1613, v1632, v1651, v1670, v1689, v1708, v1727, v1746, v1765, v1784, v1803, v1822, v1841⟩ := v
  obtain rfl : d0 = c := hv
  show _ ⊢ W d0 (_ >>= _) _
  rw [W, wp_bind, k0_part194_eq_skeleton]
  refine part194 _ _ _ _ _ _ _ _ _ _ _ _ _ _ _ _ _ _ ?_
  show _ ⊢ W d0 (_ >>= _) _
  rw [W, wp_bind, k0_part195_eq_skeleton]
  refine part195 _ fun v => ?_
  obtain ⟨v4733, v4754, v4775, v4796, v4817, v4838, v4923, v4944, v4965, v4986, v5007, v5028, v5049, v5070⟩ := v
  show _ ⊢ W d0 (_ >>= _) _
  rw [W, wp_bind, k0_part196_eq_skeleton]
  refine part196 _ _ _ _ _ _ _ _ _ _ _ _ _ _ ?_
  refine step_s1 2 (by decide) rfl rfl (by decide) (above_later d0 (by decide)) ?_
  refine (layer_end (r := 1) (by decide)).trans ?_
  refine to_out.trans ?_
  refine step_ldout fun _ => ?_
  refine step_stout rfl ?_
  exact W_ret (c := d0) PUnit.unit (fun _ => At I d0 0 (outPt d0 (OUT I d0)) (XZ I d0))

end Cert.KernelIdeal.AllReduce
-- ==== Proof.Launch.lean ====
module

public import proofs.«01_k».proof.Proof.Credit
public import proofs.«01_k».proof.Proof.Body
public import proofs.«01_k».proof.Proof.Gen.KernelIdeal.Points
public import Idealize.ShloMosaic.Lib.Pipeline.CollectiveSegs

/-!
# The run

The pipeline's data for the kernel's one point, the kernel from what the launch deals to what the exit asks for, and
the run of the whole program.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ

variable (m : (ℓ : Loc nD τ sig) → Buf (Elt F) ℓ) (ρ : Dev nD → PrngReg)

/-- The memory at the start. -/
def s₀ : MemSt nD τ sig (Elt F) := ⟨m, fun _ => 0, ρ⟩

/-- The arguments every device starts with. -/
def inp : Inp F where
  x c := (win0_0.blk (0 : Fin 1)).view.read (Elt F) (m ((th c).loc main_arg0))
  w r c := match r with
    | 0 => (win0_1.blk (0 : Fin 1)).view.read (Elt F) (m ((th c).loc main_arg1))
    | 1 => (win0_3.blk (0 : Fin 1)).view.read (Elt F) (m ((th c).loc main_arg2))
    | _ => (win0_5.blk (0 : Fin 1)).view.read (Elt F) (m ((th c).loc main_arg3))
  wo r c := match r with
    | 0 => (win0_2.blk (0 : Fin 1)).view.read (Elt F) (m ((th c).loc main_arg4))
    | 1 => (win0_4.blk (0 : Fin 1)).view.read (Elt F) (m ((th c).loc main_arg5))
    | _ => (win0_6.blk (0 : Fin 1)).view.read (Elt F) (m ((th c).loc main_arg6))

/-! ## The pipeline's data -/

/-- The four scratch buffers, at any contents. -/
def scr (c : Fin 32) : sProp 𝕄 :=
  iprop((∃ f, ((th c).loc cc0_scratch0) ↦[Finset.univ]{fullShare} f) ∗ (∃ f, ((th c).loc cc0_scratch1) ↦[Finset.univ]{fullShare} f)
    ∗ (∃ f, ((th c).loc cc0_scratch2) ↦[Finset.univ]{fullShare} f) ∗ (∃ f, ((th c).loc cc0_scratch3) ↦[Finset.univ]{fullShare} f))
theorem scr_eq (c : Fin 32) : scr (F := F) c
    = iprop((∃ f, xgPt c Finset.univ f) ∗ (∃ f, pPt c Finset.univ f) ∗ (∃ f, redPt c fullShare f) ∗ (∃ f, rsPt c Finset.univ f)) := by
  unfold scr xgPt pPt redPt rsPt; rw [slots_univ]; rfl

/-- What a device starts with. -/
def start (c : Fin 32) : sProp 𝕄 :=
  iprop(G' (inp m) c ∗ (cred (tallyAt (cBar c) 0 31) ∗ bigSep (iv 1 32) (ck c)) ∗ levAts L lv)
/-- Before the point: that and the scratch buffers; -/
def Φ₀ (c : Fin 32) : sProp 𝕄 := iprop(start m c ∗ scr c)
/-- after it: the scratch buffers, and every counter at zero. -/
def Φ₁ (c : Fin 32) : sProp 𝕄 := iprop(scr c ∗ bigSep Finset.univ fun i => semVal (kcell (c, i)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).w 0 c
    | ⟨2, _⟩ => (inp m).wo 0 c
    | ⟨3, _⟩ => (inp m).w 1 c
    | ⟨4, _⟩ => (inp m).wo 1 c
    | ⟨5, _⟩ => (inp m).w 2 c
    | ⟨6, _⟩ => (inp m).wo 2 c
    | ⟨7, _⟩ => OUT (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Fin 32) (b : Ref sig .tc) (X : b.ty.Contents (Elt F)) :
    (owns (Ix := ℕ) (Name := ℕ) (U := UU) (Lvl := ℕ) (th c) (Memref.whole b) fullShare X : sProp 𝕄)
      = iprop(∃ f : Buf (Elt F) ((th c).loc b), ⌜f = X⌝ ∗ (((th c).loc b) ↦{fullShare} f)) := by
  unfold owns; simp only [Memref.view_whole, View.read_whole, View.set_whole]
abbrev stg (c : Fin 32) (b : Ref sig .tc) (X : b.ty.Contents (Elt F)) : sProp 𝕄 :=
  iprop(∃ f : Buf (Elt F) ((th c).loc b), ⌜f = X⌝ ∗ (((th c).loc b) ↦{fullShare} f))

theorem stg_of (c : Fin 32) (b : Ref sig .tc) (X : b.ty.Contents (Elt F)) :
    (((th c).loc b) ↦[Finset.univ]{fullShare} (X : Buf (Elt F) ((th c).loc b)) : sProp 𝕄) ⊢ stg c b X := by
  iintro H
  iexists X
  isplitr; · (ipureintro; rfl)
  iexact H
theorem stg_to (c : Fin 32) (b : Ref sig .tc) {X : b.ty.Contents (Elt F)} (Y : b.ty.Contents (Elt F)) (h : X = Y) :
    stg c b X ⊢ (((th c).loc b) ↦[Finset.univ]{fullShare} (Y : Buf (Elt F) ((th c).loc b)) : sProp 𝕄) := by
  subst h
  iintro ⟨%f, %h, H⟩
  subst h
  iexact H

/-! ## Into the kernel and out of it -/

/-- What the launch deals for a place, sorted by when it is used. -/
theorem gk_split (c k : Fin 32) :
    iprop((gk (F := F) c k ∗ ck c k) ∗ rsAny (F := F) c k ∗ xgAny (F := F) c k) ⊢ iprop(preSig c k ∗ ini c k ∗ fut 0 c k ∗ fut 1 c k) := by
  unfold gk ck preSig ini fut preW
  iintro ⟨⟨⟨A, ⟨B0, B1, B2⟩, ⟨C0, C1⟩, D1, D2, D3, D4⟩, E0, F0, E1, F1, E2⟩, H1, H2⟩
  isplitl [A H1 H2]; · iframe
  isplitl [B0 D1 D2 D3 D4 E0]
  · isplitl [B0]; · iexact B0
    isplitl [D3 E0]; · isplitl [D3] <;> iassumption
    iframe
  isplitl [C0 F0 B1 E1]
  · isplitl [C0]; · iexact C0
    isplitl [F0]; · iexact F0
    isplitl [B1]; · iexact B1
    iexact E1
  isplitl [C1]; · iexact C1
  isplitl [F1]; · iexact F1
  isplitl [B2]; · iexact B2
  iexact E2

theorem xg_anys (c : Fin 32) (f : C32 F) : xgPt c Finset.univ f ⊢ iprop(xgAny c 0 ∗ bigSep (iv 1 32) (xgAny c)) := by
  iintro H
  iapply (Entails.of_eq (big_univ (xgAny c)))
  iapply (big_mono (s := Finset.univ) (A := fun k => xgPt c {k} f) (B := xgAny c) fun k _ => xg_any c k f)
  iapply (Entails.of_eq (xg_split c Finset.univ f)); iexact H
theorem xg_join (c : Fin 32) (s : Finset (Fin 32)) : bigSep s (xgAny (F := F) c) ⊢ iprop(∃ f, xgPt c s f) := by
  refine (bigSep_exists_pi s fun k f => xgPt c {k} f).trans ?_
  iintro ⟨%fs, H⟩
  ihave H := (pointsTo_biUnion_join (ℓ := (th c).loc cc0_scratch0) s slot fs (fs 0) (slots_pts s)) $$ H
  icases H with ⟨%g, -, H⟩
  iexists g
  iapply (Entails.of_eq (congrArg (fun S => ((th c).loc cc0_scratch0 ↦[S]{fullShare} g : sProp 𝕄)) (slots_bi s)).symm)
  iexact H

theorem to_start (I : Inp F) (c : Fin 32) :
    iprop((Rec I ∗ levAts L lv) ∗ Ow c (O₀ c) ∗ Gh c ∗ (cred (tallyAt (cBar c) 0 31) ∗ bigSep (iv 1 32) (ck c)) ∗ scr c ∗ Args I c ∗ ∃ f, outPt (F := F) c f)
      ⊢ iprop(St I c (O₀ c) (preSig c) (fun _ => iprop(emp)) 1 1 32 iprop(bar0 c ∗ XS I c iprop(∃ f, outPt (F := F) c f))
          ∗ atPos ER (cOff1 c) 0 ∅ 0 ∗ atPos ER (cOff2 c) 0 ∅ 0) := by
  rw [scr_eq]
  unfold St Ctx Gh bar0 XS XF
  rw [iv_self, bigSep_empty]
  iintro ⟨HC, HO, ⟨Hg, Hl, Hb, Ho1, Ho2⟩, ⟨Hcb, Hck⟩, ⟨⟨%f0, Hx⟩, Hp, Hr, ⟨%f3, Hs⟩⟩, HA, Hout⟩
  ihave Hx := (xg_anys c f0) $$ Hx
  icases Hx with ⟨Hx0, Hx⟩
  ihave Hs := (rs_anys c f3) $$ Hs
  icases Hs with ⟨Hs0, Hs⟩
  ihave H1 := zip2 $$ [Hg Hck]
  · isplitl [Hg] <;> iassumption
  ihave H2 := zip2 $$ [Hs Hx]
  · isplitl [Hs] <;> iassumption
  ihave H := zip2 $$ [H1 H2]
  · isplitl [H1]; · iexact H1
    iexact H2
  ihave H := (big_mono (s := iv 1 32) (B := fun k => iprop(preSig c k ∗ ini c k ∗ fut 0 c k ∗ fut 1 c k)) fun k _ => gk_split (F := F) c k) $$ H
  ihave H := unzip2 $$ H
  icases H with ⟨Ha, H⟩
  ihave H := unzip2 $$ H
  icases H with ⟨Hi, H⟩
  ihave H := unzip2 $$ H
  icases H with ⟨Hf, Hg⟩
  isplitr [Ho1 Ho2]
  · isplitl [HC]; · iexact HC
    isplitl [HO]; · iexact HO
    isplitl [Ha]; · iexact Ha
    isplitr; · iempintro
    isplitl [Hb Hcb]; · isplitl [Hb] <;> iassumption
    isplitl [Hi]; · iexact Hi
    isplitl [Hl]; · iexact Hl
    isplitl [Hs0]; · iexact Hs0
    isplitl [Hp]; · iexact Hp
    isplitl [HA]; · iexact HA
    isplitl [Hr]; · iexact Hr
    isplitl [Hx0]; · iexact Hx0
    isplitl [Hf]; · iexact Hf
    isplitl [Hg]; · iexact Hg
    iexact Hout
  isplitl [Ho1] <;> iassumption

/-- A cell with nothing more due is closed: its counter is zero. -/
theorem close_one (I : Inp F) (i : Fin 128) (c : Fin 32) (R : ℕ) (hR : ∀ r, R ≤ r → (Sc I).duties (kcell (c, i)) r = ∅) :
    iprop(Ctx I ∗ atPos ER (kcell (c, i)) R ∅ 0) ⊢ (|={Set.univ}=> semVal (kcell (c, i)) 0 : sProp 𝕄) := by
  iintro ⟨HC, Hat⟩
  ihave H := (ctx_cell I (c, i)) $$ HC
  icases H with ⟨HI, -⟩
  unfold Inv
  icases HI with ⟨%κ, HI⟩
  iapply (Rounds.cell_close ER (Sc I) (Set.mem_univ κ) (fun h => h) (R := R) hR)
  isplitl [HI]; · iexact HI
  iexact Hat

/-- The round at which a cell is closed. -/
def endK : Kd → ℕ
  | .off => 0
  | .bar | .loc => 1
  | .s1 _ | .p1 _ => 3
  | .s2 _ | .p2 _ => 2
theorem duties_end (I : Inp F) (g : GSem nD τ sig) (r : ℕ) (h : endK (kd g.2) ≤ r) : (Sc I).duties g r = ∅ := by
  show dutiesK (kd g.2) r = ∅
  revert h
  cases kd g.2 <;> intro h <;> simp only [endK] at h <;> simp only [dutiesK] <;> first | rfl | exact if_neg (by omega)

theorem fam_end (c : Fin 32) :
    iprop(bigSep (iv 1 32) (fin (F := F) 2 c) ∗ atPos ER (cLoc c) 1 ∅ 0 ∗ atPos ER (cBar c) 1 ∅ 0 ∗ atPos ER (cOff1 c) 0 ∅ 0 ∗ atPos ER (cOff2 c) 0 ∅ 0)
      ⊢ iprop(fam (fun g => atPos ER g (endK (kd g.2)) ∅ 0) c ∗ bigSep (iv 1 32) (xgAny (F := F) c)) := by
  unfold fam
  rw [bigSep_congr (s := iv 1 32) fun k hk => show (atPos ER (cS1 c k) (endK (kd (cS1 c k).2)) ∅ 0 : sProp 𝕄) = atPos ER (cS1 c k) 3 ∅ 0 by
      rw [kd_s1 k (ne_zero_of_iv (le_refl 1) hk)]; rfl,
    bigSep_congr (s := iv 1 32) fun k hk => show (atPos ER (cS2 c k) (endK (kd (cS2 c k).2)) ∅ 0 : sProp 𝕄) = atPos ER (cS2 c k) 2 ∅ 0 by
      rw [kd_s2 k (ne_zero_of_iv (le_refl 1) hk)]; rfl,
    bigSep_congr (s := iv 1 32) fun k hk => show (atPos ER (cP1 c k) (endK (kd (cP1 c k).2)) ∅ 0 : sProp 𝕄) = atPos ER (cP1 c k) 3 ∅ 0 by
      rw [kd_p1 k (ne_zero_of_iv (le_refl 1) hk)]; rfl,
    bigSep_congr (s := iv 1 32) fun k hk => show (atPos ER (cP2 c k) (endK (kd (cP2 c k).2)) ∅ 0 : sProp 𝕄) = atPos ER (cP2 c k) 2 ∅ 0 by
      rw [kd_p2 k (ne_zero_of_iv (le_refl 1) hk)]; rfl,
    show (fun g : GSem nD τ sig => (atPos ER g (endK (kd g.2)) ∅ 0 : sProp 𝕄)) (cOff1 c) = atPos ER (cOff1 c) 0 ∅ 0 by
      show atPos ER (cOff1 c) (endK (kd (cOff1 c).2)) ∅ 0 = _; rw [show kd (cOff1 c).2 = .off from rfl]; rfl,
    show (fun g : GSem nD τ sig => (atPos ER g (endK (kd g.2)) ∅ 0 : sProp 𝕄)) (cOff2 c) = atPos ER (cOff2 c) 0 ∅ 0 by
      show atPos ER (cOff2 c) (endK (kd (cOff2 c).2)) ∅ 0 = _; rw [show kd (cOff2 c).2 = .off from rfl]; rfl,
    show (fun g : GSem nD τ sig => (atPos ER g (endK (kd g.2)) ∅ 0 : sProp 𝕄)) (cLoc c) = atPos ER (cLoc c) 1 ∅ 0 by
      show atPos ER (cLoc c) (endK (kd (.dma semLoc))) ∅ 0 = _; rw [kd_loc]; rfl,
    show (fun g : GSem nD τ sig => (atPos ER g (endK (kd g.2)) ∅ 0 : sProp 𝕄)) (cBar c) = atPos ER (cBar c) 1 ∅ 0 from rfl]
  iintro ⟨H, Hl, Hb, Ho1, Ho2⟩
  ihave H := (big_mono (s := iv 1 32) (A := fin 2 c) (B := fun k => iprop(atPos ER (cS1 c k) 3 ∅ 0 ∗ atPos ER (cS2 c k) 2 ∅ 0 ∗ atPos ER (cP1 c k) 3 ∅ 0
      ∗ atPos ER (cP2 c k) 2 ∅ 0 ∗ xgAny (F := F) c k)) fun k _ => by
    unfold fin ex
    rw [if_pos rfl]
    iintro ⟨⟨H1, -⟩, ⟨H2, -⟩, ⟨H3, -⟩, H4, H5⟩
    iframe) $$ H
  ihave H := unzip2 $$ H
  icases H with ⟨H1, H⟩
  ihave H := unzip2 $$ H
  icases H with ⟨H2, H⟩
  ihave H := unzip2 $$ H
  icases H with ⟨H3, H⟩
  ihave H := unzip2 $$ H
  icases H with ⟨H4, H5⟩
  isplitr [H5]
  · isplitl [H1]; · iexact H1
    isplitl [H2]; · iexact H2
    isplitl [Ho1 H3]; · isplitl [Ho1] <;> iassumption
    isplitl [Ho2 H4]; · isplitl [Ho2] <;> iassumption
    isplitl [Hl]; · iexact Hl
    iexact Hb
  iexact H5

theorem close_all (I : Inp F) (c : Fin 32) :
    iprop(Ctx I ∗ fam (fun g => atPos ER g (endK (kd g.2)) ∅ 0) c) ⊢ (|={Set.univ}=> bigSep Finset.univ fun i => semVal (kcell (c, i)) 0 : sProp 𝕄) := by
  rw [← fam_eq (fun g => atPos ER g (endK (kd g.2)) ∅ 0) c]
  exact (bigSep_with_persistent (R := Ctx I) fun i _ => close_one I i c _ fun r h => duties_end I _ r h).trans (bigSep_fupd _ _)

/-- After the kernel: the result, the arguments, the scratch buffers, every counter at zero. -/
theorem to_end (I : Inp F) (c : Fin 32) :
    iprop(At I c 0 (outPt c (OUT I c)) (XZ I c) ∗ atPos ER (cOff1 c) 0 ∅ 0 ∗ atPos ER (cOff2 c) 0 ∅ 0)
      ⊢ (|={Set.univ}=> iprop(Φ₁ c ∗ Ow c 0 ∗ Args I c ∗ outPt c (OUT I c)) : sProp 𝕄) := by
  unfold At XZ Φ₁
  rw [scr_eq]
  iintro ⟨⟨HC, HO, Hout, ⟨Hr, Hx0⟩, Hs, Hp, HA, Hf, Hl, Hb⟩, Ho1, Ho2⟩
  ihave H := (fam_end (F := F) c) $$ [Hf Hl Hb Ho1 Ho2]
  · iframe
  icases H with ⟨Hat, Hx⟩
  imod (close_all I c) $$ [HC Hat] with Hz
  · isplitl [HC] <;> iassumption
  imodintro
  isplitr [HO HA Hout]
  · isplitr [Hz]
    · isplitl [Hx0 Hx]
      · iapply (xg_join c Finset.univ)
        iapply (Entails.of_eq (big_univ (xgAny c)).symm)
        isplitl [Hx0] <;> iassumption
      isplitl [Hp]; · iexact Hp
      isplitl [Hr]; · iexact Hr
      iexists _; iexact Hs
    iexact Hz
  isplitl [HO]; · iexact HO
  isplitl [HA] <;> iassumption

/-! ## The pipeline's obligation -/

/-- A window of an argument holds what its array holds. -/
theorem before_in (c : Dev nD) (w : Fin 8) (h : w.val < 7) (d : ((cfg0.win w).block.Idx → Elt F (cfg0.win w).elt)) :
    (dats m ρ 0 c).before w t0_0 d = (dats m ρ 0 c).after w t0_0 := by
  unfold Dat.before
  match w, h with
  | 0, _ => rw [if_pos (fetch0_0 t0_0)]; rfl
  | 1, _ => rw [if_pos (fetch0_1 t0_0)]; rfl
  | 2, _ => rw [if_pos (fetch0_2 t0_0)]; rfl
  | 3, _ => rw [if_pos (fetch0_3 t0_0)]; rfl
  | 4, _ => rw [if_pos (fetch0_4 t0_0)]; rfl
  | 5, _ => rw [if_pos (fetch0_5 t0_0)]; rfl
  | 6, _ => rw [if_pos (fetch0_6 t0_0)]; rfl

def bodyPre (c : Fin 32) : sProp 𝕄 :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
def bodyPost (c : Fin 32) : sProp 𝕄 :=
  iprop(Φ₁ c ∗ (dats m ρ 0 c).owesAt 0 t0_0.succ ∗ stg c cc0_stg0_0 ((inp m).x c) ∗ stg c cc0_stg1_0 ((inp m).w 0 c) ∗ stg c cc0_stg2_0 ((inp m).wo 0 c) ∗ stg c cc0_stg3_0 ((inp m).w 1 c) ∗ stg c cc0_stg4_0 ((inp m).wo 1 c) ∗ stg c cc0_stg5_0 ((inp m).w 2 c) ∗ stg c cc0_stg6_0 ((inp m).wo 2 c) ∗ stg c cc0_stg7_0 (OUT (inp m) c))

theorem body_pre (c : Fin 32) :
    bodyPre m ρ c ⊢ iprop((Rec (inp m) ∗ levAts L lv) ∗ Ow c (O₀ c) ∗ Gh c ∗ (cred (tallyAt (cBar c) 0 31) ∗ bigSep (iv 1 32) (ck c)) ∗ scr c
      ∗ Args (inp m) c ∗ ∃ f, outPt (F := F) c f) := by
  unfold bodyPre Φ₀ start G' Args Ow Dat.owesAt Pipeline.owesWithin
  rw [show (dats m ρ 0 c).owed t0_0.castSucc = O₀ c from rfl]
  iintro ⟨⟨⟨⟨HR, HG⟩, Hc, HL⟩, Hs⟩, ⟨%W0, -, HO⟩, ⟨%d0, H0⟩, ⟨%d1, H1⟩, ⟨%d2, H2⟩, ⟨%d3, H3⟩, ⟨%d4, H4⟩, ⟨%d5, H5⟩, ⟨%d6, H6⟩, ⟨%d7, %f7, -, H7⟩⟩
  ihave H0 := (stg_to c cc0_stg0_0 (X := (dats m ρ 0 c).before (0 : Fin 8) t0_0 d0) ((inp m).x c) (before_in m ρ c 0 (by decide) d0)) $$ H0
  ihave H1 := (stg_to c cc0_stg1_0 (X := (dats m ρ 0 c).before (1 : Fin 8) t0_0 d1) ((inp m).w 0 c) (before_in m ρ c 1 (by decide) d1)) $$ H1
  ihave H2 := (stg_to c cc0_stg2_0 (X := (dats m ρ 0 c).before (2 : Fin 8) t0_0 d2) ((inp m).wo 0 c) (before_in m ρ c 2 (by decide) d2)) $$ H2
  ihave H3 := (stg_to c cc0_stg3_0 (X := (dats m ρ 0 c).before (3 : Fin 8) t0_0 d3) ((inp m).w 1 c) (before_in m ρ c 3 (by decide) d3)) $$ H3
  ihave H4 := (stg_to c cc0_stg4_0 (X := (dats m ρ 0 c).before (4 : Fin 8) t0_0 d4) ((inp m).wo 1 c) (before_in m ρ c 4 (by decide) d4)) $$ H4
  ihave H5 := (stg_to c cc0_stg5_0 (X := (dats m ρ 0 c).before (5 : Fin 8) t0_0 d5) ((inp m).w 2 c) (before_in m ρ c 5 (by decide) d5)) $$ H5
  ihave H6 := (stg_to c cc0_stg6_0 (X := (dats m ρ 0 c).before (6 : Fin 8) t0_0 d6) ((inp m).wo 2 c) (before_in m ρ c 6 (by decide) d6)) $$ H6
  isplitl [HR HL]; · isplitl [HR] <;> iassumption
  isplitl [HO]; · iexists W0; iexact HO
  isplitl [HG]; · iexact HG
  isplitl [Hc]; · iexact Hc
  isplitl [Hs]; · iexact Hs
  isplitr [H7]
  · isplitl [H0]; · iexact H0
    isplitl [H1]; · iexact H1
    isplitl [H2]; · iexact H2
    isplitl [H3]; · iexact H3
    isplitl [H4]; · iexact H4
    isplitl [H5]; · iexact H5
    iexact H6
  iexists f7; iexact H7

theorem body_post (c : Fin 32) : iprop(Φ₁ c ∗ Ow c 0 ∗ Args (inp m) c ∗ outPt c (OUT (inp m) c)) ⊢ bodyPost m ρ c := by
  unfold bodyPost Args Ow Dat.owesAt Pipeline.owesWithin
  rw [show (dats m ρ 0 c).owed t0_0.succ = 0 from rfl]
  iintro ⟨HP, ⟨%W0, HO⟩, ⟨A0, A1, A2, A3, A4, A5, A6⟩, A7⟩
  isplitl [HP]; · iexact HP
  isplitl [HO]
  · iexists W0
    isplitr; · ipureintro; exact fun _ _ => Or.inl trivial
    iexact HO
  isplitl [A0]; · iapply (stg_of c cc0_stg0_0); iexact A0
  isplitl [A1]; · iapply (stg_of c cc0_stg1_0); iexact A1
  isplitl [A2]; · iapply (stg_of c cc0_stg2_0); iexact A2
  isplitl [A3]; · iapply (stg_of c cc0_stg3_0); iexact A3
  isplitl [A4]; · iapply (stg_of c cc0_stg4_0); iexact A4
  isplitl [A5]; · iapply (stg_of c cc0_stg5_0); iexact A5
  isplitl [A6]; · iapply (stg_of c cc0_stg6_0); iexact A6
  iapply (stg_of c cc0_stg7_0); iexact A7

/-- What is kept beside a run may be closed after it under an update. -/
theorem W_exit (c : Fin 32) (p : Prog (TpuEff nD τ sig (Elt F) Λ₀ .tc) Unit) {A R B : sProp 𝕄} (h : iprop(A ∗ R) ⊢ |={Set.univ}=> B) :
    iprop(W c p (fun _ => A) ∗ R) ⊢ W c p (fun _ => B) := by
  have h1 : iprop(W c p (fun _ => A) ∗ R) ⊢ W c p (fun _ => iprop(A ∗ R)) := wp_frame_r _ _ _
  have h2 : W c p (fun _ => iprop(A ∗ R)) ⊢ W c p (fun _ => iprop(|={Set.univ}=> B)) := wp_mono _ _ _ fun _ => h
  have h3 : W c p (fun _ => iprop(|={Set.univ}=> B)) ⊢ W c p (fun _ => B) := wp_fupd _ _ _ _ _
  exact (h1.trans h2).trans h3

set_option maxRecDepth 100000 in
/-- The kernel from the pipeline's entry to its exit. -/
theorem sound_body (c : Fin 32) :
    bodyPre m ρ c ⊢ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => bodyPost m ρ c) := by
  refine ((body_pre m ρ c).trans (to_start (inp m) c)).trans ?_
  refine (sep_mono_left (body_wp (I := inp m) (c := c))).trans ?_
  exact W_exit c _ ((to_end (inp m) c).trans (BI.fupd_mono (body_post m ρ c)))

set_option maxRecDepth 100000 in
theorem body_obligation (c : Dev nD) : BodyObligation (dats m ρ 0 c) (defs₀ (F := F)) Variants.none 0 Set.univ := fun t => by
  rw [fin_N0 t]
  rw [bigSep_W0, bigSep_W0]
  simp only [owns_whole_eq]
  exact sound_body m ρ c

/-! ## The launch's conditions -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred (fun d : Dev nD => O₀ d) c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = scr (F := F) c from scopedRest0_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = scr (F := F) c from scopedRest0_eq c]
  unfold Φ₁
  rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t => by
    refine mayWait (n := 0) c _ (by decide) ?_ ?_
    · revert w s; exact (by decide : ∀ (w : Fin 8) (s : Fin (spec0 w).nbuf), lv (th 0, .dma ((spec0 w).sem s)) 0 ≤ 0)
    · rcases t with ⟨_ | _, ht⟩
      · exact above_O₀ c
      · exact above_zero 0

/-! ## The run -/

/-- What the array of a window holds after the run. -/
def finalA (c : Dev nD) (w : Fin cfg0.W) : Buf (Elt F) ((cfg0.win w).arr.view.loc (c : Thread nD τ)) := (dats m ρ 0 c).arrAt w cfg0.N

set_option maxRecDepth 100000 in
/-- On 32 devices, for any float values, from any memory with zero counters: every weakly fair execution of the program
    terminates, with each window's array at the computed contents and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := fun d : Dev nD => O₀ d) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AllReduce
-- ==== Proof.Frames.lean ====
module

public import proofs.«01_k».proof.Proof.Launch
public import Idealize.ShloMosaic.Lib.Pipeline.ValueKit

/-!
# What the run leaves

Each device's result and arguments after the run.
-/

@[expose] public section
noncomputable section
namespace Cert.KernelIdeal.AllReduce
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ

variable (m : (ℓ : Loc nD τ sig) → Buf (Elt F) ℓ) (ρ : Dev nD → PrngReg)

/-- What a device's arguments hold, whole. -/
theorem inp_x (c : Fin 32) : (inp m).x c = m ((th c).loc main_arg0) := by
  funext i; show m ((th c).loc main_arg0) ((win0_0.blk (0 : Fin 1)).view.emb i) = _; congr 1; funext a; apply Fin.ext; blk_simp; fin_cases a <;> exact Nat.zero_add _
theorem inp_w0 (c : Fin 32) : (inp m).w 0 c = m ((th c).loc main_arg1) := by
  funext i; show m ((th c).loc main_arg1) ((win0_1.blk (0 : Fin 1)).view.emb i) = _; congr 1; funext a; apply Fin.ext; blk_simp; fin_cases a <;> exact Nat.zero_add _
theorem inp_w1 (c : Fin 32) : (inp m).w 1 c = m ((th c).loc main_arg2) := by
  funext i; show m ((th c).loc main_arg2) ((win0_3.blk (0 : Fin 1)).view.emb i) = _; congr 1; funext a; apply Fin.ext; blk_simp; fin_cases a <;> exact Nat.zero_add _
theorem inp_w2 (c : Fin 32) : (inp m).w 2 c = m ((th c).loc main_arg3) := by
  funext i; show m ((th c).loc main_arg3) ((win0_5.blk (0 : Fin 1)).view.emb i) = _; congr 1; funext a; apply Fin.ext; blk_simp; fin_cases a <;> exact Nat.zero_add _
theorem inp_wo0 (c : Fin 32) : (inp m).wo 0 c = m ((th c).loc main_arg4) := by
  funext i; show m ((th c).loc main_arg4) ((win0_2.blk (0 : Fin 1)).view.emb i) = _; congr 1; funext a; apply Fin.ext; blk_simp; fin_cases a <;> exact Nat.zero_add _
theorem inp_wo1 (c : Fin 32) : (inp m).wo 1 c = m ((th c).loc main_arg5) := by
  funext i; show m ((th c).loc main_arg5) ((win0_4.blk (0 : Fin 1)).view.emb i) = _; congr 1; funext a; apply Fin.ext; blk_simp; fin_cases a <;> exact Nat.zero_add _
theorem inp_wo2 (c : Fin 32) : (inp m).wo 2 c = m ((th c).loc main_arg6) := by
  funext i; show m ((th c).loc main_arg6) ((win0_6.blk (0 : Fin 1)).view.emb i) = _; congr 1; funext a; apply Fin.ext; blk_simp; fin_cases a <;> exact Nat.zero_add _

/-- The result's array ends at what the kernel stored. -/
theorem final_out (c : Fin 32) : finalA m ρ c (7 : Fin 8) = OUT (inp m) c := by
  refine (dats m ρ 0 c).arrAt_eq_of_after_last (7 : Fin 8) t0_0 (by decide +kernel) _ fun j => ?_
  blk_simp
  rfl

/-- Every execution ends with each device's result at what the kernel stored, its arguments unchanged and every
    counter at zero. -/
theorem run_values : θ_run defs (onTc (τ := τ) (main (F := F))) (s₀ m ρ) (fun r => (∀ c : Dev nD,
    r.2.mem ((c.tc : Thread nD τ).loc main_v1) = OUT (inp m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ h => ⟨fun c => ⟨(h.1 c (7 : Fin 8)).trans (final_out m ρ c), (h.1 c (0 : Fin 8)).trans ((dats m ρ 0 c).arrAt_in (0 : Fin 8) rfl _), (h.1 c (1 : Fin 8)).trans ((dats m ρ 0 c).arrAt_in (1 : Fin 8) rfl _), (h.1 c (3 : Fin 8)).trans ((dats m ρ 0 c).arrAt_in (3 : Fin 8) rfl _), (h.1 c (5 : Fin 8)).trans ((dats m ρ 0 c).arrAt_in (5 : Fin 8) rfl _), (h.1 c (2 : Fin 8)).trans ((dats m ρ 0 c).arrAt_in (2 : Fin 8) rfl _), (h.1 c (4 : Fin 8)).trans ((dats m ρ 0 c).arrAt_in (4 : Fin 8) rfl _), (h.1 c (6 : Fin 8)).trans ((dats m ρ 0 c).arrAt_in (6 : Fin 8) rfl _)⟩, h.2⟩)
    (run_main m ρ)

end Cert.KernelIdeal.AllReduce
-- ==== Proof.Reference.lean ====
module

public import proofs.«01_k».proof.Proof.Gen.ReferenceIdeal.Run
public import Idealize.ShloMosaic.Lib.Pointwise

/-!
# The reference, at the ideal floats

The reference's result is three layers of plain products.
-/

@[expose] public section
noncomputable section
namespace Cert.ReferenceIdeal.Value
open Cert.ReferenceIdeal Cert.ReferenceIdeal.Gen
open Idealize.ShloMosaic Idealize.ShloMosaic.TcCoe Idealize.SL.Sem

/-- One layer's plain products, row by row. -/
def layer (X : Fin 64 → Fin 512 → EReal) (W : S512x32768.Idx → EReal) (V : S32768x512.Idx → EReal) (i : Fin 64) (j : Fin 512) : EReal :=
  ∑ h : Fin 32768, max (∑ d : Fin 512, X i d * W (ix2 d h)) 0 * V (ix2 h j)

/-- A matrix by its rows and columns. -/
abbrev mat (x : S64x512.Idx → EReal) : Fin 64 → Fin 512 → EReal := fun i d => x (ix2 i d)

/-- The reference's operations of one layer. -/
def hostLayer (x : FVec Ideal S64x512 .bf16) (W : FVec Ideal S512x32768 .bf16) (V : FVec Ideal S32768x512 .bf16) : FVec Ideal S64x512 .f32 :=
  Host.dotGeneral dot_S64x32768_S32768x512_S64x512_1_0_0_1_n_n none (extf .f32 (maximumf (truncf .bf16 (Host.dotGeneral dot_S64x512_S512x32768_S64x32768_1_0_0_1_n_n none (extf .f32 x bitsLt_bf16_f32) (extf .f32 W bitsLt_bf16_f32)) bitsLt_bf16_f32) (broadcastInDim S64x32768 ![] bcast_S_S64x32768 (constant S_ .bf16 0x0000#16))) bitsLt_bf16_f32) (extf .f32 V bitsLt_bf16_f32)

theorem hostLayer_apply (x : FVec Ideal S64x512 .bf16) (W : FVec Ideal S512x32768 .bf16) (V : FVec Ideal S32768x512 .bf16) (i : S64x512.Idx) :
    hostLayer x W V i = layer (mat x) W V (i 0) (i 1) := by
  unfold hostLayer layer
  pointwise

theorem mat_hostLayer (x : FVec Ideal S64x512 .bf16) (W : FVec Ideal S512x32768 .bf16) (V : FVec Ideal S32768x512 .bf16) :
    mat (truncf (F := Ideal) .bf16 (hostLayer x W V) bitsLt_bf16_f32) = layer (mat x) W V := by
  funext i d
  exact hostLayer_apply x W V (ix2 i d)

/-- The reference's result from its arguments. -/
def result (x : S64x512.Idx → EReal) (W0 W1 W2 : S512x32768.Idx → EReal) (V0 V1 V2 : S32768x512.Idx → EReal) : S64x512.Idx → EReal := fun i =>
  layer (layer (layer (mat x) W0 V0) W1 V1) W2 V2 (i 0) (i 1)

theorem hostLayer3 (x : FVec Ideal S64x512 .bf16) (W0 W1 W2 : FVec Ideal S512x32768 .bf16) (V0 V1 V2 : FVec Ideal S32768x512 .bf16) :
    hostLayer (truncf (F := Ideal) .bf16 (hostLayer (truncf (F := Ideal) .bf16 (hostLayer x W0 V0) bitsLt_bf16_f32) W1 V1) bitsLt_bf16_f32) W2 V2
      = result x W0 W1 W2 V0 V1 V2 := by
  funext i
  rw [hostLayer_apply, mat_hostLayer, mat_hostLayer]
  rfl

/-- The reference's run at the ideal floats: its result, and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (hostLayer3 ..), (h c).2⟩) (run (F := Ideal) m ρ)

end Cert.ReferenceIdeal.Value
-- ==== Proof.Value.lean ====
module

public import proofs.«01_k».proof.Proof.Frames
public import proofs.«01_k».proof.Proof.Reference
public import Idealize.ShloMosaic.Lib.Pointwise
public import Idealize.ShloMosaic.Lib.Layout

/-!
# The result, at the ideal floats

The kernel's result on each device is its block of the three layers' plain products.
-/

@[expose] public section
noncomputable section
namespace Cert.KernelIdeal.AllReduce
open Cert.KernelIdeal Cert.KernelIdeal.Gen
open Idealize.ShloMosaic
open Idealize.ShloMosaic.TcCoe

/-! ## What the kernel's steps compute -/

/-- One row through a layer's two products on a share of the weights. -/
def part (X : Fin 512 → EReal) (w : Vec Ideal S512x1024 .bf16) (wo : Vec Ideal S1024x512 .bf16) (j : Fin 512) : EReal :=
  ∑ h : Fin 1024, max (∑ d : Fin 512, X d * w (ix2 d h)) 0 * wo (ix2 h j)

/-- The row of the whole batch that a slot's row is. -/
def row (c : Fin 32) (i : Fin 2) : Fin 64 := ⟨c.val * 2 + i.val, by omega⟩

theorem idx_ix3 (k : Fin 32) (j : S2x512.Idx) : (ix3 k (j 0) (j 1) : S32x2x512.Idx) = sIdx k j := by
  funext a; fin_cases a <;> rfl

/-- The last step sums the slots; -/
theorem pay24_apply (f : Vec Ideal S32x2x512 .bf16) (j : S2x512.Idx) : k0_pay24 f j = ∑ k : Fin 32, f (sIdx k j) := by
  unfold k0_pay24
  pointwise
  exact Finset.sum_congr rfl fun k _ => congrArg f (idx_ix3 k j)

/-- so does each layer's. -/
theorem redOf_apply (f : Vec Ideal S32x2x512 .bf16) (j : S2x512.Idx) : redOf f j = ∑ k : Fin 32, f (sIdx k j) := by
  unfold redOf k0_pay4 k0_pay3
  pointwise
  exact Finset.sum_congr rfl fun k _ => congrArg f (idx_ix3 k j)

/-- A group of eight slots through a layer's products, row by row; -/
theorem pay11_apply (b : Vec Ideal S8x2x512 .bf16) (w : Vec Ideal S512x1024 .bf16) (wo : Vec Ideal S1024x512 .bf16) (i : S8x2x512.Idx) :
    k0_pay11 b w wo i = part (fun d => b (ix3 (i 0) (i 1) d)) w wo (i 2) := by
  unfold k0_pay11 part
  pointwise

/-- the whole batch through the first layer's; -/
theorem pay1_apply (x : Vec Ideal S64x512 .bf16) (w : Vec Ideal S512x1024 .bf16) (wo : Vec Ideal S1024x512 .bf16) (i : S32x2x512.Idx) :
    k0_pay2 (k0_pay1 x w wo) i = part (fun d => x (ix2 (row (hd i) (tl i 0)) d)) w wo (tl i 1) := by
  unfold k0_pay1 k0_pay2 part
  pointwise
  rfl

/-- and thirty-two slots through a later layer's. -/
theorem mlp_apply (X : C32 Ideal) (w : Vec Ideal S512x1024 .bf16) (wo : Vec Ideal S1024x512 .bf16) (i : S32x2x512.Idx) :
    mlp X w wo i = part (fun d => X (sIdx (hd i) (ix2 (tl i 0) d))) w wo (tl i 1) := by
  unfold mlp
  rw [pay11_apply]
  refine congrFun (congrFun (congrFun (congrArg part (funext fun d => ?_)) _) _) _
  unfold blk
  congr 1
  funext a
  have h := Nat.div_add_mod (hd i).val 8
  fin_cases a
  · exact Fin.ext h
  · rfl
  · rfl

/-! ## The three layers -/

open Cert.ReferenceIdeal.Value (layer mat result)

/-- The column of the whole weights that a column of a device's share is. -/
def col (c : Fin 32) (h : Fin 1024) : Fin 32768 := ⟨c.val * 1024 + h.val, by omega⟩

/-- A sum over the devices' shares is the sum over the whole. -/
theorem sum_col (f : Fin 32768 → EReal) : ∑ c : Fin 32, ∑ h : Fin 1024, f (col c h) = ∑ h : Fin 32768, f h := by
  rw [← Fintype.sum_prod_type' fun c h => f (col c h)]
  refine (Fintype.sum_equiv (finProdFinEquiv (m := 32) (n := 1024)) _ _ fun p => congrArg f (Fin.ext ?_) : _ = ∑ h : Fin (32 * 1024), f h)
  show p.1.val * 1024 + p.2.val = p.2.val + 1024 * p.1.val
  omega

section Layers
variable (I : Inp Ideal) (x : Cert.ReferenceIdeal.S64x512.Idx → EReal) (W : ℕ → Cert.ReferenceIdeal.S512x32768.Idx → EReal)
  (V : ℕ → Cert.ReferenceIdeal.S32768x512.Idx → EReal)

/-- Every device has the whole batch and its share of the weights. -/
structure Shares : Prop where
  x : ∀ c i d, I.x c (ix2 i d) = x (ix2 i d)
  w : ∀ r c d h, I.w r c (ix2 d h) = W r (ix2 d (col c h))
  wo : ∀ r c h j, I.wo r c (ix2 h j) = V r (ix2 (col c h) j)

/-- The activations before layer `r`. -/
def act : ℕ → Fin 64 → Fin 512 → EReal
  | 0 => mat x
  | r + 1 => layer (act r) (W r) (V r)

/-- The device that a slot of the partial products of layer `r` on device `c` is for. -/
def dest : ℕ → Fin 32 → Fin 32 → Fin 32
  | 0, _, k => k
  | _ + 1, c, k => peer c k

theorem dest_src (r : ℕ) (c k : Fin 32) : dest r (peer c k) (src r (peer c k) (ng k)) = c := by
  cases r <;> exact peer_ng c k

variable {I x W V} (S : Shares I x W V)
include S

/-- A row's parts on the devices add up to the row through the whole layer. -/
theorem sum_part (r : ℕ) (i : Fin 64) (j : Fin 512) :
    ∑ c : Fin 32, part (act x W V r i) (I.w r c) (I.wo r c) j = act x W V (r + 1) i j := by
  unfold part
  simp only [S.w, S.wo]
  exact sum_col fun h => max (∑ d : Fin 512, act x W V r i d * W r (ix2 d h)) 0 * V r (ix2 h j)

/-- If the partial products of a layer are the rows' parts, then the slots a device gathers add up to its rows after
    the layer. -/
theorem sum_RS {r : ℕ}
    (hP : ∀ c i, P I r c i = part (act x W V r (row (dest r c (hd i)) (tl i 0))) (I.w r c) (I.wo r c) (tl i 1)) (c : Fin 32) (j : S2x512.Idx) :
    ∑ k : Fin 32, RS I r c (sIdx k j) = act x W V (r + 1) (row c (j 0)) (j 1) := by
  refine Eq.trans ?_ (sum_part S r (row c (j 0)) (j 1))
  refine Eq.trans (Finset.sum_congr rfl fun k _ => ?_) ((peerEquiv c).sum_comp fun e => part (act x W V r (row c (j 0))) (I.w r e) (I.wo r e) (j 1))
  show P I r (peer c k) (sIdx (src r (peer c k) (ng k)) j) = part (act x W V r (row c (j 0))) (I.w r (peer c k)) (I.wo r (peer c k)) (j 1)
  rw [hP, hd_sIdx, dest_src, tl_sIdx]

/-- The partial products of every layer are the rows' parts. -/
theorem P_apply (r : ℕ) : ∀ c i, P I r c i = part (act x W V r (row (dest r c (hd i)) (tl i 0))) (I.w r c) (I.wo r c) (tl i 1) := by
  induction r with
  | zero =>
    intro c i
    refine (pay1_apply _ _ _ i).trans ?_
    refine congrFun (congrFun (congrFun (congrArg part (funext fun d => ?_)) _) _) _
    exact S.x _ _ _
  | succ r ih =>
    intro c i
    rw [P_succ, mlp_apply]
    refine congrFun (congrFun (congrFun (congrArg part (funext fun d => ?_)) _) _) _
    show redOf (RS I r (peer c (hd i))) (ix2 (tl i 0) d) = _
    rw [redOf_apply, sum_RS S ih]
    rfl

/-- A device's result is its rows after the three layers. -/
theorem OUT_apply (c : Fin 32) (j : S2x512.Idx) : OUT I c j = act x W V 3 (row c (j 0)) (j 1) :=
  (pay24_apply _ j).trans (sum_RS S (P_apply S 2) c j)

/-- A device's result is its block of the reference's. -/
theorem OUT_block (c : Fin 32) :
    OUT I c = Layout.block ⟨2, ![2, 512]⟩ ⟨2, ![64, 512]⟩ 0 32 c (result x (W 0) (W 1) (W 2) (V 0) (V 1) (V 2)) := by
  funext j
  rw [OUT_apply S]
  rfl

end Layers

/-- What the memory's devices hold are the whole arrays' shares. -/
theorem shares (m : (ℓ : Loc nD τ sig) → Buf (Elt Ideal) ℓ) (x : Cert.ReferenceIdeal.S64x512.Idx → EReal)
    (W0 W1 W2 : Cert.ReferenceIdeal.S512x32768.Idx → EReal) (V0 V1 V2 : Cert.ReferenceIdeal.S32768x512.Idx → EReal)
    (h : ∀ c : Dev nD, m ((th c).loc main_arg0) = x
      ∧ m ((th c).loc main_arg1) = Layout.block ⟨2, ![512, 1024]⟩ ⟨2, ![512, 32768]⟩ 1 32 c W0
      ∧ m ((th c).loc main_arg2) = Layout.block ⟨2, ![512, 1024]⟩ ⟨2, ![512, 32768]⟩ 1 32 c W1
      ∧ m ((th c).loc main_arg3) = Layout.block ⟨2, ![512, 1024]⟩ ⟨2, ![512, 32768]⟩ 1 32 c W2
      ∧ m ((th c).loc main_arg4) = Layout.block ⟨2, ![1024, 512]⟩ ⟨2, ![32768, 512]⟩ 0 32 c V0
      ∧ m ((th c).loc main_arg5) = Layout.block ⟨2, ![1024, 512]⟩ ⟨2, ![32768, 512]⟩ 0 32 c V1
      ∧ m ((th c).loc main_arg6) = Layout.block ⟨2, ![1024, 512]⟩ ⟨2, ![32768, 512]⟩ 0 32 c V2) :
    Shares (inp m) x (fun | 0 => W0 | 1 => W1 | _ => W2) (fun | 0 => V0 | 1 => V1 | _ => V2) where
  x c i d := congrFun ((inp_x m c).trans (h c).1) _
  w r c d k := by
    have hi : ∀ W : Cert.ReferenceIdeal.S512x32768.Idx → EReal,
        (Layout.block ⟨2, ![512, 1024]⟩ ⟨2, ![512, 32768]⟩ 1 32 c W) (ix2 d k) = W (ix2 d (col c k)) := fun W =>
      congrArg W (by funext a; fin_cases a <;> rfl)
    match r with
    | 0 => exact (congrFun ((inp_w0 m c).trans (h c).2.1) _).trans (hi W0)
    | 1 => exact (congrFun ((inp_w1 m c).trans (h c).2.2.1) _).trans (hi W1)
    | _ + 2 => exact (congrFun ((inp_w2 m c).trans (h c).2.2.2.1) _).trans (hi W2)
  wo r c k j := by
    have hi : ∀ V : Cert.ReferenceIdeal.S32768x512.Idx → EReal,
        (Layout.block ⟨2, ![1024, 512]⟩ ⟨2, ![32768, 512]⟩ 0 32 c V) (ix2 k j) = V (ix2 (col c k) j) := fun V =>
      congrArg V (by funext a; fin_cases a <;> rfl)
    match r with
    | 0 => exact (congrFun ((inp_wo0 m c).trans (h c).2.2.2.2.1) _).trans (hi V0)
    | 1 => exact (congrFun ((inp_wo1 m c).trans (h c).2.2.2.2.2.1) _).trans (hi V1)
    | _ + 2 => exact (congrFun ((inp_wo2 m c).trans (h c).2.2.2.2.2.2) _).trans (hi V2)

end Cert.KernelIdeal.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's table of bodies is the ideal kernel's: the two texts are the same. -/
theorem defs₀_eq : Cert.Kernel.defs₀ (F := Bits) = Cert.KernelIdeal.defs₀ (F := Bits) := by
  unfold Cert.Kernel.defs₀ Cert.KernelIdeal.defs₀
  refine congrArg Defs.onTc (funext fun ℓ => funext fun v => ?_)
  match ℓ, v with
  | 0, (t, s) => rfl

theorem defs_eq : Cert.Kernel.defs (F := Bits) = Cert.KernelIdeal.defs (F := Bits) :=
  congrArg (Pipeline.defs (Cert.Kernel.pcfgs (F := Bits))) defs₀_eq

/-- The kernel's frame at its own floats: its text is the ideal kernel's, whose run holds for any floats. -/
theorem frame_kernel : Cert.quiescent_Kernel := by
  intro m ρ _
  rw [defs_eq]
  exact (θ_run Cert.KernelIdeal.defs _ _).mono (fun _ h => ⟨fun c => (h.1 c).2, h.2⟩) (Cert.KernelIdeal.AllReduce.run_values (F := Bits) m ρ)

/-- The kernel's frame at the ideal floats. -/
theorem frame_kernelIdeal : Cert.quiescent_KernelIdeal := fun m ρ _ =>
  (θ_run Cert.KernelIdeal.defs _ _).mono (fun _ h => ⟨fun c => (h.1 c).2, h.2⟩) (Cert.KernelIdeal.AllReduce.run_values (F := Ideal) m ρ)

/-- The reference's frame at the ideal floats; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal floats the kernel's result on each device is its block of the reference's. -/
theorem algebraic : Cert.algebraic_KernelIdeal_ReferenceIdeal := by
  intro m ρ m' ρ' _ h
  refine ⟨_, ?_, (θ_run Cert.ReferenceIdeal.defs _ _).mono (fun _ h => h 0) (Cert.ReferenceIdeal.Value.run_result m' ρ')⟩
  exact (θ_run Cert.KernelIdeal.defs _ _).mono
    (fun _ hr c => ⟨(hr.1 c).1.trans (Cert.KernelIdeal.AllReduce.OUT_block (Cert.KernelIdeal.AllReduce.shares m _ _ _ _ _ _ _ h) c), (hr.1 c).2⟩)
    (Cert.KernelIdeal.AllReduce.run_values (F := Ideal) m ρ)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
